-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_gains_and_sinks [hPre_finite_gains_and_sinks : Cert.Pre_finite_gains_and_sinks.Facts] (m : (ℓ : Loc Cert.AttnIdeal.nD Cert.AttnIdeal.τ Cert.AttnIdeal.sig) → Buf (Elt Ideal) ℓ) : Prop :=
  ∀ c : Dev Cert.AttnIdeal.nD,
    (Cert.Pre_finite_gains_and_sinks.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_gains_and_sinks.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_gains_and_sinks.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_gains_and_sinks [hPre_finite_gains_and_sinks : Cert.Pre_finite_gains_and_sinks.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_gains_and_sinks.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_gains_and_sinks.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_gains_and_sinks.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_SDown (m : (ℓ : Loc Cert.SDown.nD Cert.SDown.τ Cert.SDown.sig) → Buf (Elt Bits) ℓ) : Prop :=
  True

def Pre_SDownIdeal (m : (ℓ : Loc Cert.SDownIdeal.nD Cert.SDownIdeal.τ Cert.SDownIdeal.sig) → Buf (Elt Ideal) ℓ) : Prop :=
  True

def Pre_SDownRefIdeal (m : (ℓ : Loc Cert.SDownRefIdeal.nD Cert.SDownRefIdeal.τ Cert.SDownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_forget_gates [hPre_forget_gates : Cert.Pre_forget_gates.Facts] (m : (ℓ : Loc Cert.MixIdeal.nD Cert.MixIdeal.τ Cert.MixIdeal.sig) → Buf (Elt Ideal) ℓ) : Prop :=
  ∀ c : Dev Cert.MixIdeal.nD,
    (Cert.Pre_forget_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).1 = (fun _ => 1#1)
    ∧ (Cert.Pre_forget_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.1 = (fun _ => 1#1)
    ∧ (Cert.Pre_forget_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_forget_gates [hPre_forget_gates : Cert.Pre_forget_gates.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_forget_gates.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).1 = (fun _ => 1#1)
    ∧ (Cert.Pre_forget_gates.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.1 = (fun _ => 1#1)
    ∧ (Cert.Pre_forget_gates.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2 = (fun _ => 1#1)

def Pre_SOut (m : (ℓ : Loc Cert.SOut.nD Cert.SOut.τ Cert.SOut.sig) → Buf (Elt Bits) ℓ) : Prop :=
  True

def Pre_SOutIdeal (m : (ℓ : Loc Cert.SOutIdeal.nD Cert.SOutIdeal.τ Cert.SOutIdeal.sig) → Buf (Elt Ideal) ℓ) : Prop :=
  True

def Pre_SOutRefIdeal (m : (ℓ : Loc Cert.SOutRefIdeal.nD Cert.SOutRefIdeal.τ Cert.SOutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_gains_and_sinks [hAttnIdeal : Cert.AttnIdeal.Facts] [hPre_finite_gains_and_sinks : Cert.Pre_finite_gains_and_sinks.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_gains_and_sinks m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_gains_and_sinks [hAttnRefIdeal : Cert.AttnRefIdeal.Facts] [hPre_finite_gains_and_sinks : Cert.Pre_finite_gains_and_sinks.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_gains_and_sinks m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_SDown [hSDown : Cert.SDown.Facts] : Prop :=
  ∀ (m : (ℓ : Loc Cert.SDown.nD Cert.SDown.τ Cert.SDown.sig) → Buf (Elt Bits) ℓ) (g : Dev Cert.SDown.nD → PrngReg), Pre_SDown m →
    θ_run (Cert.SDown.defs (F := Bits)) (onTc (τ := Cert.SDown.τ) (Cert.SDown.main (F := Bits))) ⟨m, fun _ => 0, g⟩ (fun r => (∀ c : Dev Cert.SDown.nD,
      r.2.mem ((c.tc : Thread Cert.SDown.nD Cert.SDown.τ).loc Cert.SDown.main_arg0) = m ((c.tc : Thread Cert.SDown.nD Cert.SDown.τ).loc Cert.SDown.main_arg0)
      ∧ r.2.mem ((c.tc : Thread Cert.SDown.nD Cert.SDown.τ).loc Cert.SDown.main_arg1) = m ((c.tc : Thread Cert.SDown.nD Cert.SDown.τ).loc Cert.SDown.main_arg1)
      ∧ r.2.mem ((c.tc : Thread Cert.SDown.nD Cert.SDown.τ).loc Cert.SDown.main_arg2) = m ((c.tc : Thread Cert.SDown.nD Cert.SDown.τ).loc Cert.SDown.main_arg2)
      ∧ r.2.mem ((c.tc : Thread Cert.SDown.nD Cert.SDown.τ).loc Cert.SDown.main_arg3) = m ((c.tc : Thread Cert.SDown.nD Cert.SDown.τ).loc Cert.SDown.main_arg3))
      ∧ r.2.sem = fun _ => 0)

def quiescent_SDownIdeal [hSDownIdeal : Cert.SDownIdeal.Facts] : Prop :=
  ∀ (m : (ℓ : Loc Cert.SDownIdeal.nD Cert.SDownIdeal.τ Cert.SDownIdeal.sig) → Buf (Elt Ideal) ℓ) (g : Dev Cert.SDownIdeal.nD → PrngReg), Pre_SDownIdeal m →
    θ_run (Cert.SDownIdeal.defs (F := Ideal)) (onTc (τ := Cert.SDownIdeal.τ) (Cert.SDownIdeal.main (F := Ideal))) ⟨m, fun _ => 0, g⟩ (fun r => (∀ c : Dev Cert.SDownIdeal.nD,
      r.2.mem ((c.tc : Thread Cert.SDownIdeal.nD Cert.SDownIdeal.τ).loc Cert.SDownIdeal.main_arg0) = m ((c.tc : Thread Cert.SDownIdeal.nD Cert.SDownIdeal.τ).loc Cert.SDownIdeal.main_arg0)
      ∧ r.2.mem ((c.tc : Thread Cert.SDownIdeal.nD Cert.SDownIdeal.τ).loc Cert.SDownIdeal.main_arg1) = m ((c.tc : Thread Cert.SDownIdeal.nD Cert.SDownIdeal.τ).loc Cert.SDownIdeal.main_arg1)
      ∧ r.2.mem ((c.tc : Thread Cert.SDownIdeal.nD Cert.SDownIdeal.τ).loc Cert.SDownIdeal.main_arg2) = m ((c.tc : Thread Cert.SDownIdeal.nD Cert.SDownIdeal.τ).loc Cert.SDownIdeal.main_arg2)
      ∧ r.2.mem ((c.tc : Thread Cert.SDownIdeal.nD Cert.SDownIdeal.τ).loc Cert.SDownIdeal.main_arg3) = m ((c.tc : Thread Cert.SDownIdeal.nD Cert.SDownIdeal.τ).loc Cert.SDownIdeal.main_arg3))
      ∧ r.2.sem = fun _ => 0)

def quiescent_SDownRefIdeal [hSDownRefIdeal : Cert.SDownRefIdeal.Facts] : Prop :=
  ∀ (m : (ℓ : Loc Cert.SDownRefIdeal.nD Cert.SDownRefIdeal.τ Cert.SDownRefIdeal.sig) → Buf (Elt Ideal) ℓ) (g : Dev Cert.SDownRefIdeal.nD → PrngReg), Pre_SDownRefIdeal m →
    θ_run (Cert.SDownRefIdeal.defs (F := Ideal)) (onTc (τ := Cert.SDownRefIdeal.τ) (Cert.SDownRefIdeal.main (F := Ideal))) ⟨m, fun _ => 0, g⟩ (fun r => (∀ c : Dev Cert.SDownRefIdeal.nD,
      r.2.mem ((c.tc : Thread Cert.SDownRefIdeal.nD Cert.SDownRefIdeal.τ).loc Cert.SDownRefIdeal.main_arg0) = m ((c.tc : Thread Cert.SDownRefIdeal.nD Cert.SDownRefIdeal.τ).loc Cert.SDownRefIdeal.main_arg0)
      ∧ r.2.mem ((c.tc : Thread Cert.SDownRefIdeal.nD Cert.SDownRefIdeal.τ).loc Cert.SDownRefIdeal.main_arg1) = m ((c.tc : Thread Cert.SDownRefIdeal.nD Cert.SDownRefIdeal.τ).loc Cert.SDownRefIdeal.main_arg1)
      ∧ r.2.mem ((c.tc : Thread Cert.SDownRefIdeal.nD Cert.SDownRefIdeal.τ).loc Cert.SDownRefIdeal.main_arg2) = m ((c.tc : Thread Cert.SDownRefIdeal.nD Cert.SDownRefIdeal.τ).loc Cert.SDownRefIdeal.main_arg2)
      ∧ r.2.mem ((c.tc : Thread Cert.SDownRefIdeal.nD Cert.SDownRefIdeal.τ).loc Cert.SDownRefIdeal.main_arg3) = m ((c.tc : Thread Cert.SDownRefIdeal.nD Cert.SDownRefIdeal.τ).loc Cert.SDownRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixIdeal_pre_forget_gates [hMixIdeal : Cert.MixIdeal.Facts] [hPre_forget_gates : Cert.Pre_forget_gates.Facts] : Prop :=
  ∀ (m : (ℓ : Loc Cert.MixIdeal.nD Cert.MixIdeal.τ Cert.MixIdeal.sig) → Buf (Elt Ideal) ℓ) (g : Dev Cert.MixIdeal.nD → PrngReg), Pre_MixIdeal_forget_gates m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_forget_gates [hMixRefIdeal : Cert.MixRefIdeal.Facts] [hPre_forget_gates : Cert.Pre_forget_gates.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_forget_gates m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_SOut [hSOut : Cert.SOut.Facts] : Prop :=
  ∀ (m : (ℓ : Loc Cert.SOut.nD Cert.SOut.τ Cert.SOut.sig) → Buf (Elt Bits) ℓ) (g : Dev Cert.SOut.nD → PrngReg), Pre_SOut m →
    θ_run (Cert.SOut.defs (F := Bits)) (onTc (τ := Cert.SOut.τ) (Cert.SOut.main (F := Bits))) ⟨m, fun _ => 0, g⟩ (fun r => (∀ c : Dev Cert.SOut.nD,
      r.2.mem ((c.tc : Thread Cert.SOut.nD Cert.SOut.τ).loc Cert.SOut.main_arg0) = m ((c.tc : Thread Cert.SOut.nD Cert.SOut.τ).loc Cert.SOut.main_arg0)
      ∧ r.2.mem ((c.tc : Thread Cert.SOut.nD Cert.SOut.τ).loc Cert.SOut.main_arg1) = m ((c.tc : Thread Cert.SOut.nD Cert.SOut.τ).loc Cert.SOut.main_arg1)
      ∧ r.2.mem ((c.tc : Thread Cert.SOut.nD Cert.SOut.τ).loc Cert.SOut.main_arg2) = m ((c.tc : Thread Cert.SOut.nD Cert.SOut.τ).loc Cert.SOut.main_arg2)
      ∧ r.2.mem ((c.tc : Thread Cert.SOut.nD Cert.SOut.τ).loc Cert.SOut.main_arg3) = m ((c.tc : Thread Cert.SOut.nD Cert.SOut.τ).loc Cert.SOut.main_arg3))
      ∧ r.2.sem = fun _ => 0)

def quiescent_SOutIdeal [hSOutIdeal : Cert.SOutIdeal.Facts] : Prop :=
  ∀ (m : (ℓ : Loc Cert.SOutIdeal.nD Cert.SOutIdeal.τ Cert.SOutIdeal.sig) → Buf (Elt Ideal) ℓ) (g : Dev Cert.SOutIdeal.nD → PrngReg), Pre_SOutIdeal m →
    θ_run (Cert.SOutIdeal.defs (F := Ideal)) (onTc (τ := Cert.SOutIdeal.τ) (Cert.SOutIdeal.main (F := Ideal))) ⟨m, fun _ => 0, g⟩ (fun r => (∀ c : Dev Cert.SOutIdeal.nD,
      r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
      ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1)
      ∧ r.2.mem ((c.tc : Thread Cert.SOutIdeal.nD Cert.SOutIdeal.τ).loc Cert.SOutIdeal.main_arg2) = m ((c.tc : Thread Cert.SOutIdeal.nD Cert.SOutIdeal.τ).loc Cert.SOutIdeal.main_arg2)
      ∧ r.2.mem ((c.tc : Thread Cert.SOutIdeal.nD Cert.SOutIdeal.τ).loc Cert.SOutIdeal.main_arg3) = m ((c.tc : Thread Cert.SOutIdeal.nD Cert.SOutIdeal.τ).loc Cert.SOutIdeal.main_arg3))
      ∧ r.2.sem = fun _ => 0)

def quiescent_SOutRefIdeal [hSOutRefIdeal : Cert.SOutRefIdeal.Facts] : Prop :=
  ∀ (m : (ℓ : Loc Cert.SOutRefIdeal.nD Cert.SOutRefIdeal.τ Cert.SOutRefIdeal.sig) → Buf (Elt Ideal) ℓ) (g : Dev Cert.SOutRefIdeal.nD → PrngReg), Pre_SOutRefIdeal m →
    θ_run (Cert.SOutRefIdeal.defs (F := Ideal)) (onTc (τ := Cert.SOutRefIdeal.τ) (Cert.SOutRefIdeal.main (F := Ideal))) ⟨m, fun _ => 0, g⟩ (fun r => (∀ c : Dev Cert.SOutRefIdeal.nD,
      r.2.mem ((c.tc : Thread Cert.SOutRefIdeal.nD Cert.SOutRefIdeal.τ).loc Cert.SOutRefIdeal.main_arg0) = m ((c.tc : Thread Cert.SOutRefIdeal.nD Cert.SOutRefIdeal.τ).loc Cert.SOutRefIdeal.main_arg0)
      ∧ r.2.mem ((c.tc : Thread Cert.SOutRefIdeal.nD Cert.SOutRefIdeal.τ).loc Cert.SOutRefIdeal.main_arg1) = m ((c.tc : Thread Cert.SOutRefIdeal.nD Cert.SOutRefIdeal.τ).loc Cert.SOutRefIdeal.main_arg1)
      ∧ r.2.mem ((c.tc : Thread Cert.SOutRefIdeal.nD Cert.SOutRefIdeal.τ).loc Cert.SOutRefIdeal.main_arg2) = m ((c.tc : Thread Cert.SOutRefIdeal.nD Cert.SOutRefIdeal.τ).loc Cert.SOutRefIdeal.main_arg2)
      ∧ r.2.mem ((c.tc : Thread Cert.SOutRefIdeal.nD Cert.SOutRefIdeal.τ).loc Cert.SOutRefIdeal.main_arg3) = m ((c.tc : Thread Cert.SOutRefIdeal.nD Cert.SOutRefIdeal.τ).loc Cert.SOutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Attn_AttnIdeal : Prop :=
  IdealRules.named_const.Statement Cert.AttnIdeal.κ "att_scale_log2e" .f32 0x3E0293EE#32 (((Real.sqrt 128)⁻¹ * (Real.log 2)⁻¹ : ℝ) : EReal)
  ∧ IdealRules.named_const.Statement Cert.AttnIdeal.κ "alibi0_log2e" .f32 0xBF38AA3B#32 (((-1 / 2) * (Real.log 2)⁻¹ : ℝ) : EReal)
  ∧ IdealRules.named_const.Statement Cert.AttnIdeal.κ "log2e" .f32 0x3FB8AA3B#32 (((Real.log 2)⁻¹ : ℝ) : EReal)
  ∧ IdealRules.named_const.Statement Cert.AttnIdeal.κ "alibi1_log2e" .f32 0xBEB8AA3B#32 (((-1 / 4) * (Real.log 2)⁻¹ : ℝ) : EReal)
  ∧ IdealRules.named_const.Statement Cert.AttnIdeal.κ "alibi2_log2e" .f32 0xBE38AA3B#32 (((-1 / 8) * (Real.log 2)⁻¹ : ℝ) : EReal)
  ∧ IdealRules.named_const.Statement Cert.AttnIdeal.κ "alibi3_log2e" .f32 0xBDB8AA3B#32 (((-1 / 16) * (Real.log 2)⁻¹ : ℝ) : EReal)
  ∧ IdealRules.named_const.Statement Cert.AttnIdeal.κ "alibi4_log2e" .f32 0xBD38AA3B#32 (((-1 / 32) * (Real.log 2)⁻¹ : ℝ) : EReal)
  ∧ IdealRules.named_const.Statement Cert.AttnIdeal.κ "alibi5_log2e" .f32 0xBCB8AA3B#32 (((-1 / 64) * (Real.log 2)⁻¹ : ℝ) : EReal)
  ∧ IdealRules.named_const.Statement Cert.AttnIdeal.κ "alibi6_log2e" .f32 0xBC38AA3B#32 (((-1 / 128) * (Real.log 2)⁻¹ : ℝ) : EReal)
  ∧ IdealRules.named_const.Statement Cert.AttnIdeal.κ "alibi7_log2e" .f32 0xBBB8AA3B#32 (((-1 / 256) * (Real.log 2)⁻¹ : ℝ) : EReal)

def algebraic_AttnIdeal_AttnRefIdeal_pre_finite_gains_and_sinks [hAttnIdeal : Cert.AttnIdeal.Facts] [hAttnRefIdeal : Cert.AttnRefIdeal.Facts] [hPre_finite_gains_and_sinks : Cert.Pre_finite_gains_and_sinks.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_gains_and_sinks m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v20_0)) (v1 : (c : Dev Cert.AttnIdeal.nD) → Buf (Elt Ideal) ((c.tc : Thread Cert.AttnIdeal.nD Cert.AttnIdeal.τ).loc Cert.AttnIdeal.main_v20_1)) (v2 : (c : Dev Cert.AttnIdeal.nD) → Buf (Elt Ideal) ((c.tc : Thread Cert.AttnIdeal.nD Cert.AttnIdeal.τ).loc Cert.AttnIdeal.main_v20_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v20_0) = v0 c
          ∧ r.2.mem ((c.tc : Thread Cert.AttnIdeal.nD Cert.AttnIdeal.τ).loc Cert.AttnIdeal.main_v20_1) = v1 c
          ∧ r.2.mem ((c.tc : Thread Cert.AttnIdeal.nD Cert.AttnIdeal.τ).loc Cert.AttnIdeal.main_v20_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v116) = v0 c
          ∧ r.2.mem ((c.tc : Thread Cert.AttnRefIdeal.nD Cert.AttnRefIdeal.τ).loc Cert.AttnRefIdeal.main_v118) = v1 c
          ∧ r.2.mem ((c.tc : Thread Cert.AttnRefIdeal.nD Cert.AttnRefIdeal.τ).loc Cert.AttnRefIdeal.main_v120) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v13) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v11) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v8)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v8) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v32) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_SDown_SDownIdeal : Prop :=
  True

def algebraic_SDownIdeal_SDownRefIdeal [hSDownIdeal : Cert.SDownIdeal.Facts] [hSDownRefIdeal : Cert.SDownRefIdeal.Facts] : Prop :=
  ∀ (m : (ℓ : Loc Cert.SDownIdeal.nD Cert.SDownIdeal.τ Cert.SDownIdeal.sig) → Buf (Elt Ideal) ℓ) (g : Dev Cert.SDownIdeal.nD → PrngReg)
    (m' : (ℓ : Loc Cert.SDownRefIdeal.nD Cert.SDownRefIdeal.τ Cert.SDownRefIdeal.sig) → Buf (Elt Ideal) ℓ) (g' : Dev Cert.SDownRefIdeal.nD → PrngReg), Pre_SDownIdeal m →
    (∀ c : Dev Cert.SDownIdeal.nD,
      m' ((c.tc : Thread Cert.SDownRefIdeal.nD Cert.SDownRefIdeal.τ).loc Cert.SDownRefIdeal.main_arg0) = m ((c.tc : Thread Cert.SDownIdeal.nD Cert.SDownIdeal.τ).loc Cert.SDownIdeal.main_arg0)
      ∧ m' ((c.tc : Thread Cert.SDownRefIdeal.nD Cert.SDownRefIdeal.τ).loc Cert.SDownRefIdeal.main_arg1) = m ((c.tc : Thread Cert.SDownIdeal.nD Cert.SDownIdeal.τ).loc Cert.SDownIdeal.main_arg1)
      ∧ m' ((c.tc : Thread Cert.SDownRefIdeal.nD Cert.SDownRefIdeal.τ).loc Cert.SDownRefIdeal.main_arg2) = m ((c.tc : Thread Cert.SDownIdeal.nD Cert.SDownIdeal.τ).loc Cert.SDownIdeal.main_arg2)
      ∧ m' ((c.tc : Thread Cert.SDownRefIdeal.nD Cert.SDownRefIdeal.τ).loc Cert.SDownRefIdeal.main_arg3) = m ((c.tc : Thread Cert.SDownIdeal.nD Cert.SDownIdeal.τ).loc Cert.SDownIdeal.main_arg3)) →
    ∃ (v0 : (c : Dev Cert.SDownIdeal.nD) → Buf (Elt Ideal) ((c.tc : Thread Cert.SDownIdeal.nD Cert.SDownIdeal.τ).loc Cert.SDownIdeal.main_v5)) (v1 : (c : Dev Cert.SDownIdeal.nD) → Buf (Elt Ideal) ((c.tc : Thread Cert.SDownIdeal.nD Cert.SDownIdeal.τ).loc Cert.SDownIdeal.main_v4_1)),
      θ_run (Cert.SDownIdeal.defs (F := Ideal)) (onTc (τ := Cert.SDownIdeal.τ) (Cert.SDownIdeal.main (F := Ideal))) ⟨m, fun _ => 0, g⟩ (fun r => ∀ c : Dev Cert.SDownIdeal.nD,
          r.2.mem ((c.tc : Thread Cert.SDownIdeal.nD Cert.SDownIdeal.τ).loc Cert.SDownIdeal.main_v5) = v0 c
          ∧ r.2.mem ((c.tc : Thread Cert.SDownIdeal.nD Cert.SDownIdeal.τ).loc Cert.SDownIdeal.main_v4_1) = v1 c
          ∧ r.2.mem ((c.tc : Thread Cert.SDownIdeal.nD Cert.SDownIdeal.τ).loc Cert.SDownIdeal.main_arg0) = m ((c.tc : Thread Cert.SDownIdeal.nD Cert.SDownIdeal.τ).loc Cert.SDownIdeal.main_arg0)
          ∧ r.2.mem ((c.tc : Thread Cert.SDownIdeal.nD Cert.SDownIdeal.τ).loc Cert.SDownIdeal.main_arg1) = m ((c.tc : Thread Cert.SDownIdeal.nD Cert.SDownIdeal.τ).loc Cert.SDownIdeal.main_arg1)
          ∧ r.2.mem ((c.tc : Thread Cert.SDownIdeal.nD Cert.SDownIdeal.τ).loc Cert.SDownIdeal.main_arg2) = m ((c.tc : Thread Cert.SDownIdeal.nD Cert.SDownIdeal.τ).loc Cert.SDownIdeal.main_arg2)
          ∧ r.2.mem ((c.tc : Thread Cert.SDownIdeal.nD Cert.SDownIdeal.τ).loc Cert.SDownIdeal.main_arg3) = m ((c.tc : Thread Cert.SDownIdeal.nD Cert.SDownIdeal.τ).loc Cert.SDownIdeal.main_arg3))
      ∧ θ_run (Cert.SDownRefIdeal.defs (F := Ideal)) (onTc (τ := Cert.SDownRefIdeal.τ) (Cert.SDownRefIdeal.main (F := Ideal))) ⟨m', fun _ => 0, g'⟩ (fun r => ∀ c : Dev Cert.SDownRefIdeal.nD,
          r.2.mem ((c.tc : Thread Cert.SDownRefIdeal.nD Cert.SDownRefIdeal.τ).loc Cert.SDownRefIdeal.main_v9) = v0 c
          ∧ r.2.mem ((c.tc : Thread Cert.SDownRefIdeal.nD Cert.SDownRefIdeal.τ).loc Cert.SDownRefIdeal.main_v12) = v1 c
          ∧ r.2.mem ((c.tc : Thread Cert.SDownRefIdeal.nD Cert.SDownRefIdeal.τ).loc Cert.SDownRefIdeal.main_arg0) = m' ((c.tc : Thread Cert.SDownRefIdeal.nD Cert.SDownRefIdeal.τ).loc Cert.SDownRefIdeal.main_arg0)
          ∧ r.2.mem ((c.tc : Thread Cert.SDownRefIdeal.nD Cert.SDownRefIdeal.τ).loc Cert.SDownRefIdeal.main_arg1) = m' ((c.tc : Thread Cert.SDownRefIdeal.nD Cert.SDownRefIdeal.τ).loc Cert.SDownRefIdeal.main_arg1)
          ∧ r.2.mem ((c.tc : Thread Cert.SDownRefIdeal.nD Cert.SDownRefIdeal.τ).loc Cert.SDownRefIdeal.main_arg2) = m' ((c.tc : Thread Cert.SDownRefIdeal.nD Cert.SDownRefIdeal.τ).loc Cert.SDownRefIdeal.main_arg2)
          ∧ r.2.mem ((c.tc : Thread Cert.SDownRefIdeal.nD Cert.SDownRefIdeal.τ).loc Cert.SDownRefIdeal.main_arg3) = m' ((c.tc : Thread Cert.SDownRefIdeal.nD Cert.SDownRefIdeal.τ).loc Cert.SDownRefIdeal.main_arg3))

def preserves_Mix_MixIdeal : Prop :=
  True

def algebraic_MixIdeal_MixRefIdeal_pre_forget_gates [hMixIdeal : Cert.MixIdeal.Facts] [hMixRefIdeal : Cert.MixRefIdeal.Facts] [hPre_forget_gates : Cert.Pre_forget_gates.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_forget_gates m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v11)) (v1 : (c : Dev Cert.MixIdeal.nD) → Buf (Elt Ideal) ((c.tc : Thread Cert.MixIdeal.nD Cert.MixIdeal.τ).loc Cert.MixIdeal.main_v12)) (v2 : (c : Dev Cert.MixIdeal.nD) → Buf (Elt Ideal) ((c.tc : Thread Cert.MixIdeal.nD Cert.MixIdeal.τ).loc Cert.MixIdeal.main_v13)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_v12) = v1 c
          ∧ r.2.mem ((c.tc : Thread Cert.MixIdeal.nD Cert.MixIdeal.τ).loc Cert.MixIdeal.main_v13) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v43) = v0 c
          ∧ r.2.mem ((c.tc : Thread Cert.MixRefIdeal.nD Cert.MixRefIdeal.τ).loc Cert.MixRefIdeal.main_v61) = v1 c
          ∧ r.2.mem ((c.tc : Thread Cert.MixRefIdeal.nD Cert.MixRefIdeal.τ).loc Cert.MixRefIdeal.main_v62) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_SOut_SOutIdeal : Prop :=
  True

def algebraic_SOutIdeal_SOutRefIdeal [hSOutIdeal : Cert.SOutIdeal.Facts] [hSOutRefIdeal : Cert.SOutRefIdeal.Facts] : Prop :=
  ∀ (m : (ℓ : Loc Cert.SOutIdeal.nD Cert.SOutIdeal.τ Cert.SOutIdeal.sig) → Buf (Elt Ideal) ℓ) (g : Dev Cert.SOutIdeal.nD → PrngReg)
    (m' : (ℓ : Loc Cert.SOutRefIdeal.nD Cert.SOutRefIdeal.τ Cert.SOutRefIdeal.sig) → Buf (Elt Ideal) ℓ) (g' : Dev Cert.SOutRefIdeal.nD → PrngReg), Pre_SOutIdeal m →
    (∀ c : Dev Cert.SOutIdeal.nD,
      m' ((c.tc : Thread Cert.SOutRefIdeal.nD Cert.SOutRefIdeal.τ).loc Cert.SOutRefIdeal.main_arg0) = m ((c.tc : Thread Cert.SOutIdeal.nD Cert.SOutIdeal.τ).loc Cert.SOutIdeal.main_arg0)
      ∧ m' ((c.tc : Thread Cert.SOutRefIdeal.nD Cert.SOutRefIdeal.τ).loc Cert.SOutRefIdeal.main_arg1) = m ((c.tc : Thread Cert.SOutIdeal.nD Cert.SOutIdeal.τ).loc Cert.SOutIdeal.main_arg1)
      ∧ m' ((c.tc : Thread Cert.SOutRefIdeal.nD Cert.SOutRefIdeal.τ).loc Cert.SOutRefIdeal.main_arg2) = m ((c.tc : Thread Cert.SOutIdeal.nD Cert.SOutIdeal.τ).loc Cert.SOutIdeal.main_arg2)
      ∧ m' ((c.tc : Thread Cert.SOutRefIdeal.nD Cert.SOutRefIdeal.τ).loc Cert.SOutRefIdeal.main_arg3) = m ((c.tc : Thread Cert.SOutIdeal.nD Cert.SOutIdeal.τ).loc Cert.SOutIdeal.main_arg3)) →
    ∃ (v0 : (c : Dev Cert.SOutIdeal.nD) → Buf (Elt Ideal) ((c.tc : Thread Cert.SOutIdeal.nD Cert.SOutIdeal.τ).loc Cert.SOutIdeal.main_v5)) (v1 : (c : Dev Cert.SOutIdeal.nD) → Buf (Elt Ideal) ((c.tc : Thread Cert.SOutIdeal.nD Cert.SOutIdeal.τ).loc Cert.SOutIdeal.main_v4_1)),
      θ_run (Cert.SOutIdeal.defs (F := Ideal)) (onTc (τ := Cert.SOutIdeal.τ) (Cert.SOutIdeal.main (F := Ideal))) ⟨m, fun _ => 0, g⟩ (fun r => ∀ c : Dev Cert.SOutIdeal.nD,
          r.2.mem ((c.tc : Thread Cert.SOutIdeal.nD Cert.SOutIdeal.τ).loc Cert.SOutIdeal.main_v5) = v0 c
          ∧ r.2.mem ((c.tc : Thread Cert.SOutIdeal.nD Cert.SOutIdeal.τ).loc Cert.SOutIdeal.main_v4_1) = v1 c
          ∧ r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
          ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1)
          ∧ r.2.mem ((c.tc : Thread Cert.SOutIdeal.nD Cert.SOutIdeal.τ).loc Cert.SOutIdeal.main_arg2) = m ((c.tc : Thread Cert.SOutIdeal.nD Cert.SOutIdeal.τ).loc Cert.SOutIdeal.main_arg2)
          ∧ r.2.mem ((c.tc : Thread Cert.SOutIdeal.nD Cert.SOutIdeal.τ).loc Cert.SOutIdeal.main_arg3) = m ((c.tc : Thread Cert.SOutIdeal.nD Cert.SOutIdeal.τ).loc Cert.SOutIdeal.main_arg3))
      ∧ θ_run (Cert.SOutRefIdeal.defs (F := Ideal)) (onTc (τ := Cert.SOutRefIdeal.τ) (Cert.SOutRefIdeal.main (F := Ideal))) ⟨m', fun _ => 0, g'⟩ (fun r => ∀ c : Dev Cert.SOutRefIdeal.nD,
          r.2.mem ((c.tc : Thread Cert.SOutRefIdeal.nD Cert.SOutRefIdeal.τ).loc Cert.SOutRefIdeal.main_v9) = v0 c
          ∧ r.2.mem ((c.tc : Thread Cert.SOutRefIdeal.nD Cert.SOutRefIdeal.τ).loc Cert.SOutRefIdeal.main_v12) = v1 c
          ∧ r.2.mem ((c.tc : Thread Cert.SOutRefIdeal.nD Cert.SOutRefIdeal.τ).loc Cert.SOutRefIdeal.main_arg0) = m' ((c.tc : Thread Cert.SOutRefIdeal.nD Cert.SOutRefIdeal.τ).loc Cert.SOutRefIdeal.main_arg0)
          ∧ r.2.mem ((c.tc : Thread Cert.SOutRefIdeal.nD Cert.SOutRefIdeal.τ).loc Cert.SOutRefIdeal.main_arg1) = m' ((c.tc : Thread Cert.SOutRefIdeal.nD Cert.SOutRefIdeal.τ).loc Cert.SOutRefIdeal.main_arg1)
          ∧ r.2.mem ((c.tc : Thread Cert.SOutRefIdeal.nD Cert.SOutRefIdeal.τ).loc Cert.SOutRefIdeal.main_arg2) = m' ((c.tc : Thread Cert.SOutRefIdeal.nD Cert.SOutRefIdeal.τ).loc Cert.SOutRefIdeal.main_arg2)
          ∧ r.2.mem ((c.tc : Thread Cert.SOutRefIdeal.nD Cert.SOutRefIdeal.τ).loc Cert.SOutRefIdeal.main_arg3) = m' ((c.tc : Thread Cert.SOutRefIdeal.nD Cert.SOutRefIdeal.τ).loc Cert.SOutRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)) (v1 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_v5) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_v11) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hSDown : Cert.SDown.Facts) (hSDownIdeal : Cert.SDownIdeal.Facts) (hSDownRefIdeal : Cert.SDownRefIdeal.Facts) (hMix : Cert.Mix.Facts) (hMixIdeal : Cert.MixIdeal.Facts) (hMixRefIdeal : Cert.MixRefIdeal.Facts) (hSOut : Cert.SOut.Facts) (hSOutIdeal : Cert.SOutIdeal.Facts) (hSOutRefIdeal : Cert.SOutRefIdeal.Facts) (hAda : Cert.Ada.Facts) (hAdaIdeal : Cert.AdaIdeal.Facts) (hAdaRefIdeal : Cert.AdaRefIdeal.Facts) (hPre_finite_gains_and_sinks : Cert.Pre_finite_gains_and_sinks.Facts) (hPre_forget_gates : Cert.Pre_forget_gates.Facts),
    quiescent_Attn (hAttn := hAttn)
    ∧ quiescent_AttnIdeal (hAttnIdeal := hAttnIdeal)
    ∧ quiescent_AttnIdeal_pre_finite_gains_and_sinks (hAttnIdeal := hAttnIdeal) (hPre_finite_gains_and_sinks := hPre_finite_gains_and_sinks)
    ∧ quiescent_AttnRefIdeal (hAttnRefIdeal := hAttnRefIdeal)
    ∧ quiescent_AttnRefIdeal_pre_finite_gains_and_sinks (hAttnRefIdeal := hAttnRefIdeal) (hPre_finite_gains_and_sinks := hPre_finite_gains_and_sinks)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_SDown (hSDown := hSDown)
    ∧ quiescent_SDownIdeal (hSDownIdeal := hSDownIdeal)
    ∧ quiescent_SDownRefIdeal (hSDownRefIdeal := hSDownRefIdeal)
    ∧ quiescent_Mix (hMix := hMix)
    ∧ quiescent_MixIdeal (hMixIdeal := hMixIdeal)
    ∧ quiescent_MixIdeal_pre_forget_gates (hMixIdeal := hMixIdeal) (hPre_forget_gates := hPre_forget_gates)
    ∧ quiescent_MixRefIdeal (hMixRefIdeal := hMixRefIdeal)
    ∧ quiescent_MixRefIdeal_pre_forget_gates (hMixRefIdeal := hMixRefIdeal) (hPre_forget_gates := hPre_forget_gates)
    ∧ quiescent_SOut (hSOut := hSOut)
    ∧ quiescent_SOutIdeal (hSOutIdeal := hSOutIdeal)
    ∧ quiescent_SOutRefIdeal (hSOutRefIdeal := hSOutRefIdeal)
    ∧ quiescent_Ada (hAda := hAda)
    ∧ quiescent_AdaIdeal (hAdaIdeal := hAdaIdeal)
    ∧ quiescent_AdaRefIdeal (hAdaRefIdeal := hAdaRefIdeal)
    ∧ preserves_Attn_AttnIdeal
    ∧ algebraic_AttnIdeal_AttnRefIdeal_pre_finite_gains_and_sinks (hAttnIdeal := hAttnIdeal) (hAttnRefIdeal := hAttnRefIdeal) (hPre_finite_gains_and_sinks := hPre_finite_gains_and_sinks)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_SDown_SDownIdeal
    ∧ algebraic_SDownIdeal_SDownRefIdeal (hSDownIdeal := hSDownIdeal) (hSDownRefIdeal := hSDownRefIdeal)
    ∧ preserves_Mix_MixIdeal
    ∧ algebraic_MixIdeal_MixRefIdeal_pre_forget_gates (hMixIdeal := hMixIdeal) (hMixRefIdeal := hMixRefIdeal) (hPre_forget_gates := hPre_forget_gates)
    ∧ preserves_SOut_SOutIdeal
    ∧ algebraic_SOutIdeal_SOutRefIdeal (hSOutIdeal := hSOutIdeal) (hSOutRefIdeal := hSOutRefIdeal)
    ∧ preserves_Ada_AdaIdeal
    ∧ algebraic_AdaIdeal_AdaRefIdeal (hAdaIdeal := hAdaIdeal) (hAdaRefIdeal := hAdaRefIdeal)
-- ==== Pre_finite_gains_and_sinks.lean ====
abbrev S4x2048x5632 : Shape := ⟨3, ![4, 2048, 5632]⟩
abbrev S128 : Shape := ⟨1, ![128]⟩
abbrev S8 : Shape := ⟨1, ![8]⟩
abbrev S_ : Shape := ⟨0, ![]⟩

class Facts : Prop where
  bcast_S_S128 : S_.BroadcastsInDim S128 (![] : Fin 0 → Fin S128.rank)
  bcast_S_S8 : S_.BroadcastsInDim S8 (![] : Fin 0 → Fin S8.rank)

variable [Facts]

def fn {F : FTy → Type} [FloatOps F] (main_arg0 : FVec F S4x2048x5632 .f32) (main_arg1 : FVec F S128 .f32) (main_arg2 : FVec F S128 .f32) (main_arg3 : FVec F S8 .f32) : IVec S128 1 × IVec S128 1 × IVec S8 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_forget_gates.lean ====
abbrev S32x1x5632 : Shape := ⟨3, ![32, 1, 5632]⟩
abbrev S32x8x128x128 : Shape := ⟨4, ![32, 8, 128, 128]⟩
abbrev S32x128x2x128 : Shape := ⟨4, ![32, 128, 2, 128]⟩
abbrev S1024 : Shape := ⟨1, ![1024]⟩
abbrev S128 : Shape := ⟨1, ![128]⟩
abbrev S8 : Shape := ⟨1, ![8]⟩
abbrev S32x1x1024 : Shape := ⟨3, ![32, 1, 1024]⟩
abbrev S_ : Shape := ⟨0, ![]⟩

class Facts : Prop where
  slices_S32x1x5632_S32x1x1024_0_0_1024 : S32x1x5632.Slices ![0, 0, 1024] S32x1x1024
  bcast_S_S32x1x1024 : S_.BroadcastsInDim S32x1x1024 (![] : Fin 0 → Fin S32x1x1024.rank)
  bcast_S_S1024 : S_.BroadcastsInDim S1024 (![] : Fin 0 → Fin S1024.rank)

variable [Facts]

def fn {F : FTy → Type} [FloatOps F] (main_arg0 : FVec F S32x1x5632 .f32) (main_arg1 : FVec F S32x8x128x128 .f32) (main_arg2 : FVec F S32x128x2x128 .f32) (main_arg3 : FVec F S32x128x2x128 .f32) (main_arg4 : FVec F S1024 .f32) (main_arg5 : FVec F S128 .f32) (main_arg6 : FVec F S128 .f32) (main_arg7 : FVec F S128 .f32) (main_arg8 : FVec F S8 .f32) : IVec S32x1x1024 1 × IVec S1024 1 × IVec S1024 1 :=
  let main_v0 : FVec F S32x1x1024 .f32 := (extractStridedSlice S32x1x1024 ![0, 0, 1024] · slices_S32x1x5632_S32x1x1024_0_0_1024) main_arg0
  let main_v1 : FVec F S32x1x1024 .f32 := Host.absf main_v0
  let main_cst : FVec F S_ .f32 := constant S_ .f32 0x7F800000#32
  let main_v2 : FVec F S32x1x1024 .f32 := broadcastInDim S32x1x1024 ![] bcast_S_S32x1x1024 main_cst
  let main_v3 : IVec S32x1x1024 1 := cmpf .olt main_v1 main_v2
  let main_cst_0 : FVec F S_ .f32 := constant S_ .f32 0x00000000#32
  let main_v4 : FVec F S1024 .f32 := broadcastInDim S1024 ![] bcast_S_S1024 main_cst_0
  let main_v5 : IVec S1024 1 := cmpf .oge main_arg4 main_v4
  let main_cst_1 : FVec F S_ .f32 := constant S_ .f32 0x3F800000#32
  let main_v6 : FVec F S1024 .f32 := broadcastInDim S1024 ![] bcast_S_S1024 main_cst_1
  let main_v7 : IVec S1024 1 := cmpf .olt main_arg4 main_v6
  (main_v3, main_v5, main_v7)
-- ==== Attn.lean ====
abbrev S4x2048x5632 : Shape := ⟨3, ![4, 2048, 5632]⟩
abbrev S128 : Shape := ⟨1, ![128]⟩
abbrev S8 : Shape := ⟨1, ![8]⟩
abbrev S4x2048x11x512 : Shape := ⟨4, ![4, 2048, 11, 512]⟩
abbrev S11x4x2048x512 : Shape := ⟨4, ![11, 4, 2048, 512]⟩
abbrev S1x4x2048x512 : Shape := ⟨4, ![1, 4, 2048, 512]⟩
abbrev S4x4x2048x512 : Shape := ⟨4, ![4, 4, 2048, 512]⟩
abbrev S9x4x2048x512 : Shape := ⟨4, ![9, 4, 2048, 512]⟩
abbrev S1x128 : Shape := ⟨2, ![1, 128]⟩
abbrev S4x2048x1024 : Shape := ⟨3, ![4, 2048, 1024]⟩
abbrev S4x128x256 : Shape := ⟨3, ![4, 128, 256]⟩
abbrev S2x1x512x512 : Shape := ⟨4, ![2, 1, 512, 512]⟩
abbrev S1x1x512x512 : Shape := ⟨4, ![1, 1, 512, 512]⟩
abbrev S1x1x128x512 : Shape := ⟨4, ![1, 1, 128, 512]⟩
abbrev S1x512x1024 : Shape := ⟨3, ![1, 512, 1024]⟩
abbrev S1x128x256 : Shape := ⟨3, ![1, 128, 256]⟩
abbrev S128x256 : Shape := ⟨2, ![128, 256]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x1x128x128 : Shape := ⟨4, ![1, 1, 128, 128]⟩
abbrev S128x128 : Shape := ⟨2, ![128, 128]⟩
abbrev S128x1 : Shape := ⟨2, ![128, 1]⟩
abbrev S640x128 : Shape := ⟨2, ![640, 128]⟩
abbrev S256x128 : Shape := ⟨2, ![256, 128]⟩
abbrev S1 : Shape := ⟨1, ![1]⟩
abbrev S1x128x128 : Shape := ⟨3, ![1, 128, 128]⟩

abbrev nBuf : Space → Nat
  | .hbm => 27
  | .vmem => 14
  | .smem => 1
  | _ => 0

abbrev bufTy : (tb : Table) → Fin (tcTables nBuf tb) → BufTy
  | .hbm, ⟨0, _⟩ => ⟨S4x2048x5632, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S4x2048x11x512, .f32⟩
  | .hbm, ⟨5, _⟩ => ⟨S11x4x2048x512, .f32⟩
  | .hbm, ⟨6, _⟩ => ⟨S1x4x2048x512, .f32⟩
  | .hbm, ⟨7, _⟩ => ⟨S1x4x2048x512, .f32⟩
  | .hbm, ⟨8, _⟩ => ⟨S1x4x2048x512, .f32⟩
  | .hbm, ⟨9, _⟩ => ⟨S1x4x2048x512, .f32⟩
  | .hbm, ⟨10, _⟩ => ⟨S4x4x2048x512, .f32⟩
  | .hbm, ⟨11, _⟩ => ⟨S1x4x2048x512, .f32⟩
  | .hbm, ⟨12, _⟩ => ⟨S1x4x2048x512, .f32⟩
  | .hbm, ⟨13, _⟩ => ⟨S1x4x2048x512, .f32⟩
  | .hbm, ⟨14, _⟩ => ⟨S1x4x2048x512, .f32⟩
  | .hbm, ⟨15, _⟩ => ⟨S1x4x2048x512, .f32⟩
  | .hbm, ⟨16, _⟩ => ⟨S1x4x2048x512, .f32⟩
  | .hbm, ⟨17, _⟩ => ⟨S1x4x2048x512, .f32⟩
  | .hbm, ⟨18, _⟩ => ⟨S1x4x2048x512, .f32⟩
  | .hbm, ⟨19, _⟩ => ⟨S1x4x2048x512, .f32⟩
  | .hbm, ⟨20, _⟩ => ⟨S9x4x2048x512, .f32⟩
  | .hbm, ⟨21, _⟩ => ⟨S9x4x2048x512, .bf16⟩
  | .hbm, ⟨22, _⟩ => ⟨S1x128, .f32⟩
  | .hbm, ⟨23, _⟩ => ⟨S1x128, .f32⟩
  | .hbm, ⟨24, _⟩ => ⟨S4x2048x1024, .bf16⟩
  | .hbm, ⟨25, _⟩ => ⟨S4x128x256, .f32⟩
  | .hbm, ⟨26, _⟩ => ⟨S4x128x256, .f32⟩
  | .local _ .vmem, ⟨0, _⟩ => ⟨S2x1x512x512, .bf16⟩
  | .local _ .vmem, ⟨1, _⟩ => ⟨S2x1x512x512, .bf16⟩
  | .local _ .vmem, ⟨2, _⟩ => ⟨S1x1x512x512, .f32⟩
  | .local _ .vmem, ⟨3, _⟩ => ⟨S1x1x512x512, .f32⟩
  | .local _ .vmem, ⟨4, _⟩ => ⟨S1x1x128x512, .f32⟩
  | .local _ .vmem, ⟨5, _⟩ => ⟨S1x1x128x512, .f32⟩
  | .local _ .vmem, ⟨6, _⟩ => ⟨S1x128, .f32⟩
  | .local _ .vmem, ⟨7, _⟩ => ⟨S1x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .smem, ⟨0, _⟩ => ⟨S8, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c3_i32 : BitVec 32 := 3#32
  let v1558 : BitVec 1 := Scalar.cmpi .eq arg1 c3_i32
  let v1559 : BitVec 32 := Scalar.extui v1558
  let c0_i32_614 : BitVec 32 := 0#32
  let v1560 : BitVec 1 := Scalar.cmpi .ne v1559 c0_i32_614
  v1560

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, arg0.toNat, v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnIdeal.lean ====
variable {F : FTy → Type} [FloatOps F] [Named F]
def κ : String → Option EReal := fun
  | "alibi0_log2e" => some (((-1 / 2) * (Real.log 2)⁻¹ : ℝ) : EReal)
  | "alibi1_log2e" => some (((-1 / 4) * (Real.log 2)⁻¹ : ℝ) : EReal)
  | "alibi2_log2e" => some (((-1 / 8) * (Real.log 2)⁻¹ : ℝ) : EReal)
  | "alibi3_log2e" => some (((-1 / 16) * (Real.log 2)⁻¹ : ℝ) : EReal)
  | "alibi4_log2e" => some (((-1 / 32) * (Real.log 2)⁻¹ : ℝ) : EReal)
  | "alibi5_log2e" => some (((-1 / 64) * (Real.log 2)⁻¹ : ℝ) : EReal)
  | "alibi6_log2e" => some (((-1 / 128) * (Real.log 2)⁻¹ : ℝ) : EReal)
  | "alibi7_log2e" => some (((-1 / 256) * (Real.log 2)⁻¹ : ℝ) : EReal)
  | "att_scale_log2e" => some (((Real.sqrt 128)⁻¹ * (Real.log 2)⁻¹ : ℝ) : EReal)
  | "log2e" => some (((Real.log 2)⁻¹ : ℝ) : EReal)
  | _ => none
-- ==== AttnRefIdeal.lean ====
abbrev S4x2048x5632 : Shape := ⟨3, ![4, 2048, 5632]⟩
abbrev S128 : Shape := ⟨1, ![128]⟩
abbrev S8 : Shape := ⟨1, ![8]⟩
abbrev S4x2048x1024 : Shape := ⟨3, ![4, 2048, 1024]⟩
abbrev S4x2048x256 : Shape := ⟨3, ![4, 2048, 256]⟩
abbrev S4x2048x8x128 : Shape := ⟨4, ![4, 2048, 8, 128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S4x16x128x2x4x128 : Shape := ⟨6, ![4, 16, 128, 2, 4, 128]⟩
abbrev S4x16x128x2x128 : Shape := ⟨5, ![4, 16, 128, 2, 128]⟩
abbrev S4x17x128x2x128 : Shape := ⟨5, ![4, 17, 128, 2, 128]⟩
abbrev S4x16x256x2x128 : Shape := ⟨5, ![4, 16, 256, 2, 128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S2x4 : Shape := ⟨2, ![2, 4]⟩
abbrev S1x1x2x4x1x1 : Shape := ⟨6, ![1, 1, 2, 4, 1, 1]⟩
abbrev S4x16x2x256x128x4 : Shape := ⟨6, ![4, 16, 2, 256, 128, 4]⟩
abbrev S4x16x2x4x128x256 : Shape := ⟨6, ![4, 16, 2, 4, 128, 256]⟩
abbrev S1x1x1x1x128x256 : Shape := ⟨6, ![1, 1, 1, 1, 128, 256]⟩
abbrev S1x1x2x4x128x256 : Shape := ⟨6, ![1, 1, 2, 4, 128, 256]⟩
abbrev S1x16x1x1x128x256 : Shape := ⟨6, ![1, 16, 1, 1, 128, 256]⟩
abbrev S4x16x2x4x128x1 : Shape := ⟨6, ![4, 16, 2, 4, 128, 1]⟩
abbrev S4x16x2x4x128x257 : Shape := ⟨6, ![4, 16, 2, 4, 128, 257]⟩
abbrev S4x16x2x4x128 : Shape := ⟨5, ![4, 16, 2, 4, 128]⟩
abbrev S4x16x2x128x4x128 : Shape := ⟨6, ![4, 16, 2, 128, 4, 128]⟩
abbrev S4x128x2x128 : Shape := ⟨4, ![4, 128, 2, 128]⟩
abbrev S4x128x256 : Shape := ⟨3, ![4, 128, 256]⟩

abbrev nBuf : Space → Nat
  | .hbm => 152
  | .vmem => 0
  | .smem => 0
  | _ => 0

abbrev hbmTy0_0 (i : Nat) : BufTy := match i % 128 with
  | 0 => ⟨S4x2048x5632, .f32⟩
  | 1 => ⟨S128, .f32⟩
  | 2 => ⟨S128, .f32⟩
  | 3 => ⟨S8, .f32⟩
  | 4 => ⟨S4x2048x1024, .f32⟩
  | 5 => ⟨S4x2048x256, .f32⟩
  | 6 => ⟨S4x2048x256, .f32⟩
  | 7 => ⟨S4x2048x8x128, .f32⟩
  | 8 => ⟨S4x2048x8x128, .f32⟩
  | 9 => ⟨S_, .f32⟩
  | 10 => ⟨S4x2048x8, .f32⟩
  | 11 => ⟨S4x2048x8x1, .f32⟩
  | 12 => ⟨S_, .f32⟩
  | 13 => ⟨S4x2048x8x1, .f32⟩
  | 14 => ⟨S4x2048x8x1, .f32⟩
  | 15 => ⟨S_, .f32⟩
  | 16 => ⟨S4x2048x8x1, .f32⟩
  | 17 => ⟨S4x2048x8x1, .f32⟩
  | 18 => ⟨S4x2048x8x1, .f32⟩
  | 19 => ⟨S4x2048x8x128, .f32⟩
  | 20 => ⟨S4x2048x8x128, .f32⟩
  | 21 => ⟨S1x1x1x128, .f32⟩
  | 22 => ⟨S4x2048x8x128, .f32⟩
  | 23 => ⟨S4x2048x8x128, .f32⟩
  | 24 => ⟨S4x2048x2x128, .f32⟩
  | 25 => ⟨S4x2048x2x128, .f32⟩
  | 26 => ⟨S_, .f32⟩
  | 27 => ⟨S4x2048x2, .f32⟩
  | 28 => ⟨S4x2048x2x1, .f32⟩
  | 29 => ⟨S_, .f32⟩
  | 30 => ⟨S4x2048x2x1, .f32⟩
  | 31 => ⟨S4x2048x2x1, .f32⟩
  | 32 => ⟨S_, .f32⟩
  | 33 => ⟨S4x2048x2x1, .f32⟩
  | 34 => ⟨S4x2048x2x1, .f32⟩
  | 35 => ⟨S4x2048x2x1, .f32⟩
  | 36 => ⟨S4x2048x2x128, .f32⟩
  | 37 => ⟨S4x2048x2x128, .f32⟩
  | 38 => ⟨S1x1x1x128, .f32⟩
  | 39 => ⟨S4x2048x2x128, .f32⟩
  | 40 => ⟨S4x2048x2x128, .f32⟩
  | 41 => ⟨S4x2048x2x128, .f32⟩
  | 42 => ⟨S4x16x128x2x4x128, .f32⟩
  | 43 => ⟨S4x16x128x2x128, .f32⟩
  | 44 => ⟨S4x16x128x2x128, .f32⟩
  | 45 => ⟨S_, .i32⟩
  | 46 => ⟨S_, .f32⟩
  | 47 => ⟨S4x17x128x2x128, .f32⟩
  | 48 => ⟨S4x16x128x2x128, .f32⟩
  | 49 => ⟨S4x16x256x2x128, .f32⟩
  | 50 => ⟨S_, .i32⟩
  | 51 => ⟨S_, .f32⟩
  | 52 => ⟨S4x17x128x2x128, .f32⟩
  | 53 => ⟨S4x16x128x2x128, .f32⟩
  | 54 => ⟨S4x16x256x2x128, .f32⟩
  | 55 => ⟨S256, .i32⟩
  | 56 => ⟨S128, .i32⟩
  | 57 => ⟨S_, .i32⟩
  | 58 => ⟨S128, .i32⟩
  | 59 => ⟨S128, .i32⟩
  | 60 => ⟨S128x1, .i32⟩
  | 61 => ⟨S1x256, .i32⟩
  | 62 => ⟨S128x256, .i32⟩
  | 63 => ⟨S128x256, .i32⟩
  | 64 => ⟨S128x256, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S1x128x256, .i1⟩
  | 73 => ⟨S16, .i32⟩
  | 74 => ⟨S16x1x1, .i32⟩
  | 75 => ⟨S_, .i32⟩
  | 76 => ⟨S16x1x1, .i32⟩
  | 77 => ⟨S16x1x1, .i1⟩
  | 78 => ⟨S1x1x256, .i32⟩
  | 79 => ⟨S_, .i32⟩
  | 80 => ⟨S1x1x256, .i32⟩
  | 81 => ⟨S1x1x256, .i1⟩
  | 82 => ⟨S16x1x256, .i1⟩
  | 83 => ⟨S16x1x256, .i1⟩
  | 84 => ⟨S16x1x256, .i1⟩
  | 85 => ⟨S16x128x256, .i1⟩
  | 86 => ⟨S16x128x256, .i1⟩
  | 87 => ⟨S16x128x256, .i1⟩
  | 88 => ⟨S1x128x256, .i32⟩
  | 89 => ⟨S8, .i32⟩
  | 90 => ⟨S_, .i32⟩
  | 91 => ⟨S8, .i32⟩
  | 92 => ⟨S8, .i32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S2x4, .f32⟩
  | 104 => ⟨S1x1x2x4x1x1, .f32⟩
  | 105 => ⟨S4x16x2x256x128x4, .f32⟩
  | 106 => ⟨S4x16x2x4x128x256, .f32⟩
  | 107 => ⟨S_, .f32⟩
  | 108 => ⟨S_, .f32⟩
  | 109 => ⟨S4x16x2x4x128x256, .f32⟩
  | 110 => ⟨S4x16x2x4x128x256, .f32⟩
  | 111 => ⟨S1x1x1x1x128x256, .i32⟩
  | 112 => ⟨S1x1x1x1x128x256, .f32⟩
  | 113 => ⟨S1x1x2x4x1x1, .f32⟩
  | 114 => ⟨S1x1x2x4x128x256, .f32⟩
  | 115 => ⟨S1x1x2x4x128x256, .f32⟩
  | 116 => ⟨S1x1x2x4x128x256, .f32⟩
  | 117 => ⟨S4x16x2x4x128x256, .f32⟩
  | 118 => ⟨S4x16x2x4x128x256, .f32⟩
  | 119 => ⟨S1x16x1x1x128x256, .i1⟩
  | 120 => ⟨S_, .f32⟩
  | 121 => ⟨S_, .f32⟩
  | 122 => ⟨S4x16x2x4x128x256, .i1⟩
  | 123 => ⟨S4x16x2x4x128x256, .f32⟩
  | 124 => ⟨S4x16x2x4x128x256, .f32⟩
  | 125 => ⟨S2x4, .f32⟩
  | 126 => ⟨S1x1x2x4x1x1, .f32⟩
  | 127 => ⟨S4x16x2x4x128x1, .f32⟩
  | _ => ⟨S4x2048x5632, .f32⟩

abbrev hbmTy0_1 (i : Nat) : BufTy := match i % 128 with
  | 0 => ⟨S4x16x2x4x128x257, .f32⟩
  | 1 => ⟨S_, .f32⟩
  | 2 => ⟨S4x16x2x4x128, .f32⟩
  | 3 => ⟨S_, .f32⟩
  | 4 => ⟨S4x16x2x4x128, .f32⟩
  | 5 => ⟨S4x16x2x4x128, .f32⟩
  | 6 => ⟨S4x16x2x4x128x1, .f32⟩
  | 7 => ⟨S4x16x2x4x128x257, .f32⟩
  | 8 => ⟨S4x16x2x4x128x257, .f32⟩
  | 9 => ⟨S4x16x2x4x128x257, .f32⟩
  | 10 => ⟨S_, .f32⟩
  | 11 => ⟨S4x16x2x4x128, .f32⟩
  | 12 => ⟨S4x16x2x4x128x1, .f32⟩
  | 13 => ⟨S4x16x2x4x128x257, .f32⟩
  | 14 => ⟨S4x16x2x4x128x257, .f32⟩
  | 15 => ⟨S4x16x2x4x128x256, .f32⟩
  | 16 => ⟨S4x16x2x128x4x128, .f32⟩
  | 17 => ⟨S4x16x128x2x4x128, .f32⟩
  | 18 => ⟨S4x2048x1024, .f32⟩
  | 19 => ⟨S4x2048x1024, .bf16⟩
  | 20 => ⟨S4x128x2x128, .f32⟩
  | 21 => ⟨S4x128x256, .f32⟩
  | 22 => ⟨S4x128x2x128, .f32⟩
  | 23 => ⟨S4x128x256, .f32⟩
  | _ => ⟨S4x2048x5632, .f32⟩

abbrev hbmTy (i : Nat) : BufTy := match i / 128 with
  | 0 => hbmTy0_0 i
  | 1 => hbmTy0_1 i
  | _ => ⟨S4x2048x5632, .f32⟩

abbrev bufTy : (tb : Table) → Fin (tcTables nBuf tb) → BufTy
  | .hbm, ⟨i, _⟩ => hbmTy i
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_call1_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_cst_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩

abbrev nD : Nat := 1
abbrev τ : Topo := Topo.v7x

variable {F : FTy → Type} [FloatOps F]
-- ==== Out.lean ====
abbrev S4x2048x1024 : Shape := ⟨3, ![4, 2048, 1024]⟩
abbrev S2048x2048 : Shape := ⟨2, ![2048, 2048]⟩
abbrev S4x2048x2048 : Shape := ⟨3, ![4, 2048, 2048]⟩
abbrev S4x12288 : Shape := ⟨2, ![4, 12288]⟩
abbrev S2048x4x512 : Shape := ⟨3, ![2048, 4, 512]⟩
abbrev S4x2048x512 : Shape := ⟨3, ![4, 2048, 512]⟩
abbrev S4x1x12288 : Shape := ⟨3, ![4, 1, 12288]⟩
abbrev S1x2048x1024 : Shape := ⟨3, ![1, 2048, 1024]⟩
abbrev S1x1024x512 : Shape := ⟨3, ![1, 1024, 512]⟩
abbrev S1x2048x512 : Shape := ⟨3, ![1, 2048, 512]⟩
abbrev S1x1x512 : Shape := ⟨3, ![1, 1, 512]⟩
abbrev S2048x1024 : Shape := ⟨2, ![2048, 1024]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x2048, .f32⟩
  | .hbm, ⟨3, _⟩ => ⟨S4x2048x2048, .f32⟩
  | .hbm, ⟨4, _⟩ => ⟨S4x12288, .f32⟩
  | .hbm, ⟨5, _⟩ => ⟨S2048x4x512, .f32⟩
  | .hbm, ⟨6, _⟩ => ⟨S4x2048x512, .f32⟩
  | .hbm, ⟨7, _⟩ => ⟨S4x2048x512, .bf16⟩
  | .hbm, ⟨8, _⟩ => ⟨S4x1x12288, .f32⟩
  | .hbm, ⟨9, _⟩ => ⟨S4x2048x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x2048x512, .f32⟩
  | .local _ .vmem, ⟨9, _⟩ => ⟨S1x2048x512, .f32⟩
  | .local _ .vmem, ⟨10, _⟩ => ⟨S1x1x512, .f32⟩
  | .local _ .vmem, ⟨11, _⟩ => ⟨S1x1x512, .f32⟩
  | .local _ .vmem, ⟨12, _⟩ => ⟨S1x2048x512, .f32⟩
  | .local _ .vmem, ⟨13, _⟩ => ⟨S1x2048x512, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== OutRefIdeal.lean ====
abbrev S4x2048x1024 : Shape := ⟨3, ![4, 2048, 1024]⟩
abbrev S2048x2048 : Shape := ⟨2, ![2048, 2048]⟩
abbrev S4x2048x2048 : Shape := ⟨3, ![4, 2048, 2048]⟩
abbrev S4x12288 : Shape := ⟨2, ![4, 12288]⟩
abbrev S4x1x12288 : Shape := ⟨3, ![4, 1, 12288]⟩
abbrev S4x1x2048 : Shape := ⟨3, ![4, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x2048, .f32⟩
  | .hbm, ⟨3, _⟩ => ⟨S4x2048x2048, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x2048x1024, .f32⟩
  | .hbm, ⟨13, _⟩ => ⟨S4x2048x1024, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Down.lean ====
abbrev S4x2048x5632 : Shape := ⟨3, ![4, 2048, 5632]⟩
abbrev S5632x2048 : Shape := ⟨2, ![5632, 2048]⟩
abbrev S4x2048x2048 : Shape := ⟨3, ![4, 2048, 2048]⟩
abbrev S4x12288 : Shape := ⟨2, ![4, 12288]⟩
abbrev S4x2048x11x512 : Shape := ⟨4, ![4, 2048, 11, 512]⟩
abbrev S11x4x2048x512 : Shape := ⟨4, ![11, 4, 2048, 512]⟩
abbrev S5632x4x512 : Shape := ⟨3, ![5632, 4, 512]⟩
abbrev S4x5632x512 : Shape := ⟨3, ![4, 5632, 512]⟩
abbrev S4x1x12288 : Shape := ⟨3, ![4, 1, 12288]⟩
abbrev S11x1x1024x512 : Shape := ⟨4, ![11, 1, 1024, 512]⟩
abbrev S1x5632x512 : Shape := ⟨3, ![1, 5632, 512]⟩
abbrev S1x1024x512 : Shape := ⟨3, ![1, 1024, 512]⟩
abbrev S1x1x512 : Shape := ⟨3, ![1, 1, 512]⟩
abbrev S1x1x1024x512 : Shape := ⟨4, ![1, 1, 1024, 512]⟩
abbrev S1024x512 : Shape := ⟨2, ![1024, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x5632, .bf16⟩
  | .hbm, ⟨1, _⟩ => ⟨S5632x2048, .f32⟩
  | .hbm, ⟨2, _⟩ => ⟨S4x2048x2048, .f32⟩
  | .hbm, ⟨3, _⟩ => ⟨S4x12288, .f32⟩
  | .hbm, ⟨4, _⟩ => ⟨S4x2048x11x512, .bf16⟩
  | .hbm, ⟨5, _⟩ => ⟨S11x4x2048x512, .bf16⟩
  | .hbm, ⟨6, _⟩ => ⟨S5632x4x512, .f32⟩
  | .hbm, ⟨7, _⟩ => ⟨S4x5632x512, .f32⟩
  | .hbm, ⟨8, _⟩ => ⟨S4x5632x512, .bf16⟩
  | .hbm, ⟨9, _⟩ => ⟨S4x1x12288, .f32⟩
  | .hbm, ⟨10, _⟩ => ⟨S4x2048x2048, .f32⟩
  | .local _ .vmem, ⟨0, _⟩ => ⟨S11x1x1024x512, .bf16⟩
  | .local _ .vmem, ⟨1, _⟩ => ⟨S11x1x1024x512, .bf16⟩
  | .local _ .vmem, ⟨2, _⟩ => ⟨S1x5632x512, .bf16⟩
  | .local _ .vmem, ⟨3, _⟩ => ⟨S1x5632x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S11x1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DownRefIdeal.lean ====
abbrev S4x2048x5632 : Shape := ⟨3, ![4, 2048, 5632]⟩
abbrev S5632x2048 : Shape := ⟨2, ![5632, 2048]⟩
abbrev S4x2048x2048 : Shape := ⟨3, ![4, 2048, 2048]⟩
abbrev S4x12288 : Shape := ⟨2, ![4, 12288]⟩
abbrev S4x1x12288 : Shape := ⟨3, ![4, 1, 12288]⟩
abbrev S4x1x2048 : Shape := ⟨3, ![4, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x5632, .bf16⟩
  | .hbm, ⟨1, _⟩ => ⟨S5632x2048, .f32⟩
  | .hbm, ⟨2, _⟩ => ⟨S4x2048x2048, .f32⟩
  | .hbm, ⟨3, _⟩ => ⟨S4x12288, .f32⟩
  | .hbm, ⟨4, _⟩ => ⟨S4x1x12288, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x2048x5632, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | _, _ => ⟨S4x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== GateUp.lean ====
abbrev S4x2048x2048 : Shape := ⟨3, ![4, 2048, 2048]⟩
abbrev S4x12288 : Shape := ⟨2, ![4, 12288]⟩
abbrev S2048 : Shape := ⟨1, ![2048]⟩
abbrev S2048x5632 : Shape := ⟨2, ![2048, 5632]⟩
abbrev S4x1x12288 : Shape := ⟨3, ![4, 1, 12288]⟩
abbrev S1x2048 : Shape := ⟨2, ![1, 2048]⟩
abbrev S2048x11x512 : Shape := ⟨3, ![2048, 11, 512]⟩
abbrev S11x2048x512 : Shape := ⟨3, ![11, 2048, 512]⟩
abbrev S11x4x2048x512 : Shape := ⟨4, ![11, 4, 2048, 512]⟩
abbrev S1x1024x2048 : Shape := ⟨3, ![1, 1024, 2048]⟩
abbrev S1x1x2048 : Shape := ⟨3, ![1, 1, 2048]⟩
abbrev S1x2048x512 : Shape := ⟨3, ![1, 2048, 512]⟩
abbrev S1x1x1024x512 : Shape := ⟨4, ![1, 1, 1024, 512]⟩
abbrev S2x1024x2048 : Shape := ⟨3, ![2, 1024, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S4x1x12288, .f32⟩
  | .hbm, ⟨6, _⟩ => ⟨S1x2048, .f32⟩
  | .hbm, ⟨7, _⟩ => ⟨S2048x11x512, .f32⟩
  | .hbm, ⟨8, _⟩ => ⟨S11x2048x512, .f32⟩
  | .hbm, ⟨9, _⟩ => ⟨S11x2048x512, .bf16⟩
  | .hbm, ⟨10, _⟩ => ⟨S2048x11x512, .f32⟩
  | .hbm, ⟨11, _⟩ => ⟨S11x2048x512, .f32⟩
  | .hbm, ⟨12, _⟩ => ⟨S11x2048x512, .bf16⟩
  | .hbm, ⟨13, _⟩ => ⟨S11x4x2048x512, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x1x1024x512, .bf16⟩
  | .local _ .vmem, ⟨14, _⟩ => ⟨S1x1x1024x512, .bf16⟩
  | .local _ .vmem, ⟨15, _⟩ => ⟨S2x1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 2, 11], ![false, false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let arg2 : BitVec 32 := BitVec.ofNat 32 (i 2).val
  let c0_i32_0 : BitVec 32 := 0#32
  let v3 : BitVec 1 := Scalar.cmpi .eq arg2 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_100 : BitVec 32 := 0#32
  let c64_i32_101 : BitVec 32 := 64#32
  let v242 : BitVec 32 := Scalar.addi c0_i32_100 c64_i32_101
  let c1_i32_102 : BitVec 32 := 1#32
  ⟨c0_i32_100, v242, c1_i32_102⟩
def k0_mult1 (k0_t1 : Fin k0_t1_loop.trips) : BitVec 32 :=
  let c0_i32_100 : BitVec 32 := 0#32
  let c1_i32_102 : BitVec 32 := 1#32
  let arg13 : BitVec 32 := Scf.iv c0_i32_100 c1_i32_102 k0_t1
  let c16_i32_104 : BitVec 32 := 16#32
  let v243 : BitVec 32 := Scalar.muli arg13 c16_i32_104
  v243
def k0_off1 (k0_t1 : Fin k0_t1_loop.trips) : Fin 3 → Nat :=
  let c0_105 : Index := 0#32
  let c0_i32_100 : BitVec 32 := 0#32
  let c1_i32_102 : BitVec 32 := 1#32
  let arg13 : BitVec 32 := Scf.iv c0_i32_100 c1_i32_102 k0_t1
  let c16_i32_104 : BitVec 32 := 16#32
  let v243 : BitVec 32 := Scalar.muli arg13 c16_i32_104
  let v244 : BitVec 32 := v243
  let v245 : Index := Scalar.indexCast v244
  let c0_106 : Index := 0#32
  ![0, v245.toNat, 0]
def k0_off2 (k0_t1 : Fin k0_t1_loop.trips) : Fin 2 → Nat :=
  let c0_i32_100 : BitVec 32 := 0#32
  let c1_i32_102 : BitVec 32 := 1#32
  let arg13 : BitVec 32 := Scf.iv c0_i32_100 c1_i32_102 k0_t1
  let c16_i32_104 : BitVec 32 := 16#32
  let v243 : BitVec 32 := Scalar.muli arg13 c16_i32_104
  let v244 : BitVec 32 := v243
  let v265 : Index := Scalar.indexCast v244
  let c0_112 : Index := 0#32
  ![v265.toNat, 0]
def k0_off3 (k0_t1 : Fin k0_t1_loop.trips) : Fin 3 → Nat :=
  let c0_i32_99 : BitVec 32 := 0#32
  let c0_i32_100 : BitVec 32 := 0#32
  let c1_i32_102 : BitVec 32 := 1#32
  let arg13 : BitVec 32 := Scf.iv c0_i32_100 c1_i32_102 k0_t1
  let c16_i32_104 : BitVec 32 := 16#32
  let v243 : BitVec 32 := Scalar.muli arg13 c16_i32_104
  let v244 : BitVec 32 := v243
  let v265 : Index := Scalar.indexCast v244
  let c0_i32_111 : BitVec 32 := 0#32
  ![0, v265.toNat, 0]
def k0_off4 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_2 : BitVec 32 := 2#32
  let c0_i32_3 : BitVec 32 := 0#32
  let v7 : BitVec 1 := Scalar.cmpi .eq c2_i32_2 c0_i32_3
  let c1_i32 : BitVec 32 := 1#32
  let v8 : BitVec 32 := Scalar.select v7 c1_i32 c2_i32_2
  let v9 : BitVec 32 := Scalar.remsi v1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : Index := Scalar.indexCast v16
  let c0 : Index := 0#32
  let c0_7 : Index := 0#32
  ![v17.toNat, 0, 0]
def k0_mult2 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c0_i32_33 : BitVec 32 := 0#32
  let v51 : BitVec 32 := Scalar.addi v49 c0_i32_33
  v51
def k0_off5 (i : grid0.Coords) (c0_i32_33 : BitVec 32) : Fin 3 → Nat :=
  let c0_34 : Index := 0#32
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let v51 : BitVec 32 := Scalar.addi v49 c0_i32_33
  let v52 : BitVec 32 := v51
  let v53 : Index := Scalar.indexCast v52
  let c0_35 : Index := 0#32
  ![0, v53.toNat, 0]
def k0_off6 (i : grid0.Coords) : Fin 3 → Nat :=
  let c1_i32_32 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_2 : BitVec 32 := 2#32
  let c0_i32_3 : BitVec 32 := 0#32
  let v7 : BitVec 1 := Scalar.cmpi .eq c2_i32_2 c0_i32_3
  let c1_i32 : BitVec 32 := 1#32
  let v8 : BitVec 32 := Scalar.select v7 c1_i32 c2_i32_2
  let v9 : BitVec 32 := Scalar.remsi v1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v50 : BitVec 32 := Scalar.subi c1_i32_32 v16
  let c0_i32_39 : BitVec 32 := 0#32
  let c0_i32_40 : BitVec 32 := 0#32
  ![v50.toNat, 0, 0]
def k0_off7 (i : grid0.Coords) (c0_i32_33 : BitVec 32) : Fin 2 → Nat :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let v51 : BitVec 32 := Scalar.addi v49 c0_i32_33
  let v52 : BitVec 32 := v51
  let v73 : Index := Scalar.indexCast v52
  let c0_41 : Index := 0#32
  ![v73.toNat, 0]
def k0_off8 (i : grid0.Coords) (c0_i32_33 : BitVec 32) : Fin 3 → Nat :=
  let c1_i32_32 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_2 : BitVec 32 := 2#32
  let c0_i32_3 : BitVec 32 := 0#32
  let v7 : BitVec 1 := Scalar.cmpi .eq c2_i32_2 c0_i32_3
  let c1_i32 : BitVec 32 := 1#32
  let v8 : BitVec 32 := Scalar.select v7 c1_i32 c2_i32_2
  let v9 : BitVec 32 := Scalar.remsi v1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v50 : BitVec 32 := Scalar.subi c1_i32_32 v16
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let v51 : BitVec 32 := Scalar.addi v49 c0_i32_33
  let v52 : BitVec 32 := v51
  let v73 : Index := Scalar.indexCast v52
  let c0_i32_40 : BitVec 32 := 0#32
  ![v50.toNat, v73.toNat, 0]
def k0_mult3 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c16_i32 : BitVec 32 := 16#32
  let v77 : BitVec 32 := Scalar.addi v49 c16_i32
  v77
def k0_mult4 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c32_i32 : BitVec 32 := 32#32
  let v103 : BitVec 32 := Scalar.addi v49 c32_i32
  v103
def k0_mult5 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c48_i32 : BitVec 32 := 48#32
  let v129 : BitVec 32 := Scalar.addi v49 c48_i32
  v129
def k0_mult6 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c64_i32 : BitVec 32 := 64#32
  let v155 : BitVec 32 := Scalar.addi v49 c64_i32
  v155
def k0_mult7 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c80_i32 : BitVec 32 := 80#32
  let v181 : BitVec 32 := Scalar.addi v49 c80_i32
  v181
def k0_mult8 (i : grid0.Coords) : BitVec 32 :=
  let c912_i32 : BitVec 32 := 912#32
  let c0_i32_31 : BitVec 32 := 0#32
  let arg2 : BitVec 32 := BitVec.ofNat 32 (i 2).val
  let c1_i32_30 : BitVec 32 := 1#32
  let v46 : BitVec 32 := Scalar.subi arg2 c1_i32_30
  let c112_i32 : BitVec 32 := 112#32
  let v47 : BitVec 32 := Scalar.muli v46 c112_i32
  let v48 : BitVec 32 := Scalar.maxsi c0_i32_31 v47
  let v49 : BitVec 32 := Scalar.minsi c912_i32 v48
  let c96_i32 : BitVec 32 := 96#32
  let v207 : BitVec 32 := Scalar.addi v49 c96_i32
  v207
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let v2 : BitVec 1 := Scalar.cmpi .sgt arg2 c0_i32
  let v3 : BitVec 32 := Scalar.extui v2
  let v4 : BitVec 32 := Scalar.addi v1 v3
  let c7_i32 : BitVec 32 := 7#32
  let v5 : BitVec 32 := Scalar.minsi v4 c7_i32
  let c2_i32_0 : BitVec 32 := 2#32
  let v6 : BitVec 32 := Scalar.divsi v5 c2_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c2_i32_0 c0_i32_3
  let v13 : BitVec 32 := Scalar.extui v12
  let c0_i32_4 : BitVec 32 := 0#32
  let v14 : BitVec 1 := Scalar.cmpi .slt c2_i32_0 c0_i32_4
  let v15 : BitVec 32 := Scalar.extui v14
  let v16 : BitVec 32 := Scalar.subi v13 v15
  let v17 : BitVec 1 := Scalar.cmpi .ne v11 v16
  let v18 : BitVec 32 := Scalar.remsi v5 c2_i32_0
  let c0_i32_5 : BitVec 32 := 0#32
  let v19 : BitVec 1 := Scalar.cmpi .ne v18 c0_i32_5
  let v20 : BitVec 1 := Scalar.andi v17 v19
  let c1_i32 : BitVec 32 := 1#32
  let v21 : BitVec 32 := Scalar.subi v6 c1_i32
  let v22 : BitVec 32 := Scalar.select v20 v21 v6
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v5 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  let c0_i32_13 : BitVec 32 := 0#32
  ![v22.toNat, v32.toNat, c0_i32_12.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c7_i32 : BitVec 32 := 7#32
  let v3 : BitVec 32 := Scalar.minsi v2 c7_i32
  let c2_i32_0 : BitVec 32 := 2#32
  let v4 : BitVec 32 := Scalar.divsi v3 c2_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c3_i32 : BitVec 32 := 3#32
  let c0_i32_7 : BitVec 32 := 0#32
  ![v20.toNat, c0_i32_6.toNat, c3_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c7_i32 : BitVec 32 := 7#32
  let v3 : BitVec 32 := Scalar.minsi v2 c7_i32
  let c2_i32_0 : BitVec 32 := 2#32
  let v4 : BitVec 32 := Scalar.divsi v3 c2_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c4_i32 : BitVec 32 := 4#32
  let c0_i32_7 : BitVec 32 := 0#32
  ![v20.toNat, c0_i32_6.toNat, c4_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== GateUpRefIdeal.lean ====
abbrev S4x2048x2048 : Shape := ⟨3, ![4, 2048, 2048]⟩
abbrev S4x12288 : Shape := ⟨2, ![4, 12288]⟩
abbrev S2048 : Shape := ⟨1, ![2048]⟩
abbrev S2048x5632 : Shape := ⟨2, ![2048, 5632]⟩
abbrev S4x1x12288 : Shape := ⟨3, ![4, 1, 12288]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x5632 : Shape := ⟨3, ![4, 2048, 5632]⟩
abbrev S4x2048x11x512 : Shape := ⟨4, ![4, 2048, 11, 512]⟩
abbrev S11x4x2048x512 : Shape := ⟨4, ![11, 4, 2048, 512]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S_, .f32⟩
  | .hbm, ⟨39, _⟩ => ⟨S4x2048x5632, .f32⟩
  | .hbm, ⟨40, _⟩ => ⟨S4x2048x5632, .f32⟩
  | .hbm, ⟨41, _⟩ => ⟨S_, .f32⟩
  | .hbm, ⟨42, _⟩ => ⟨S4x2048x5632, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S4x2048x5632, .bf16⟩
  | .hbm, ⟨48, _⟩ => ⟨S4x2048x11x512, .bf16⟩
  | .hbm, ⟨49, _⟩ => ⟨S11x4x2048x512, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== SDown.lean ====
abbrev S32x1x5632 : Shape := ⟨3, ![32, 1, 5632]⟩
abbrev S5632x2048 : Shape := ⟨2, ![5632, 2048]⟩
abbrev S32x1x2048 : Shape := ⟨3, ![32, 1, 2048]⟩
abbrev S32x12288 : Shape := ⟨2, ![32, 12288]⟩
abbrev S1x32x5632 : Shape := ⟨3, ![1, 32, 5632]⟩
abbrev S1x5632x2048 : Shape := ⟨3, ![1, 5632, 2048]⟩
abbrev S1x32x2048 : Shape := ⟨3, ![1, 32, 2048]⟩
abbrev S1x32x12288 : Shape := ⟨3, ![1, 32, 12288]⟩
abbrev S4x5632x512 : Shape := ⟨3, ![4, 5632, 512]⟩
abbrev S1x5632x512 : Shape := ⟨3, ![1, 5632, 512]⟩
abbrev S1x32x512 : Shape := ⟨3, ![1, 32, 512]⟩
abbrev S5632x512 : Shape := ⟨2, ![5632, 512]⟩
abbrev S32x5632 : Shape := ⟨2, ![32, 5632]⟩
abbrev S32x512 : Shape := ⟨2, ![32, 512]⟩

abbrev nBuf : Space → Nat
  | .hbm => 11
  | .vmem => 11
  | .smem => 0
  | _ => 0

abbrev bufTy : (tb : Table) → Fin (tcTables nBuf tb) → BufTy
  | .hbm, ⟨0, _⟩ => ⟨S32x1x5632, .f32⟩
  | .hbm, ⟨1, _⟩ => ⟨S5632x2048, .f32⟩
  | .hbm, ⟨2, _⟩ => ⟨S32x1x2048, .f32⟩
  | .hbm, ⟨3, _⟩ => ⟨S32x12288, .f32⟩
  | .hbm, ⟨4, _⟩ => ⟨S1x32x5632, .f32⟩
  | .hbm, ⟨5, _⟩ => ⟨S1x5632x2048, .f32⟩
  | .hbm, ⟨6, _⟩ => ⟨S1x32x2048, .f32⟩
  | .hbm, ⟨7, _⟩ => ⟨S1x32x12288, .f32⟩
  | .hbm, ⟨8, _⟩ => ⟨S1x32x2048, .f32⟩
  | .hbm, ⟨9, _⟩ => ⟨S4x5632x512, .bf16⟩
  | .hbm, ⟨10, _⟩ => ⟨S32x1x2048, .f32⟩
  | .local _ .vmem, ⟨0, _⟩ => ⟨S1x32x5632, .f32⟩
  | .local _ .vmem, ⟨1, _⟩ => ⟨S1x5632x512, .f32⟩
  | .local _ .vmem, ⟨2, _⟩ => ⟨S1x5632x512, .f32⟩
  | .local _ .vmem, ⟨3, _⟩ => ⟨S1x32x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x5632x512, .bf16⟩
  | .local _ .vmem, ⟨10, _⟩ => ⟨S1x5632x512, .bf16⟩
  | _, _ => ⟨S32x1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

abbrev stage0_0 : Fin 1 → Memref sig .tc .vmem S1x32x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x5632x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]
-- ==== SDownRefIdeal.lean ====
abbrev S32x1x5632 : Shape := ⟨3, ![32, 1, 5632]⟩
abbrev S5632x2048 : Shape := ⟨2, ![5632, 2048]⟩
abbrev S32x1x2048 : Shape := ⟨3, ![32, 1, 2048]⟩
abbrev S32x12288 : Shape := ⟨2, ![32, 12288]⟩
abbrev S32x1x12288 : Shape := ⟨3, ![32, 1, 12288]⟩
abbrev S5632x4x512 : Shape := ⟨3, ![5632, 4, 512]⟩
abbrev S4x5632x512 : Shape := ⟨3, ![4, 5632, 512]⟩

abbrev nBuf : Space → Nat
  | .hbm => 17
  | .vmem => 0
  | .smem => 0
  | _ => 0

abbrev bufTy : (tb : Table) → Fin (tcTables nBuf tb) → BufTy
  | .hbm, ⟨0, _⟩ => ⟨S32x1x5632, .f32⟩
  | .hbm, ⟨1, _⟩ => ⟨S5632x2048, .f32⟩
  | .hbm, ⟨2, _⟩ => ⟨S32x1x2048, .f32⟩
  | .hbm, ⟨3, _⟩ => ⟨S32x12288, .f32⟩
  | .hbm, ⟨4, _⟩ => ⟨S32x1x12288, .f32⟩
  | .hbm, ⟨5, _⟩ => ⟨S32x1x2048, .f32⟩
  | .hbm, ⟨6, _⟩ => ⟨S32x1x2048, .f32⟩
  | .hbm, ⟨7, _⟩ => ⟨S32x1x2048, .f32⟩
  | .hbm, ⟨8, _⟩ => ⟨S32x1x2048, .f32⟩
  | .hbm, ⟨9, _⟩ => ⟨S32x1x2048, .f32⟩
  | .hbm, ⟨10, _⟩ => ⟨S32x1x2048, .f32⟩
  | .hbm, ⟨11, _⟩ => ⟨S32x1x2048, .f32⟩
  | .hbm, ⟨12, _⟩ => ⟨S32x1x2048, .f32⟩
  | .hbm, ⟨13, _⟩ => ⟨S32x1x2048, .f32⟩
  | .hbm, ⟨14, _⟩ => ⟨S5632x4x512, .f32⟩
  | .hbm, ⟨15, _⟩ => ⟨S4x5632x512, .f32⟩
  | .hbm, ⟨16, _⟩ => ⟨S4x5632x512, .bf16⟩
  | _, _ => ⟨S32x1x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Mix.lean ====
abbrev S32x1x5632 : Shape := ⟨3, ![32, 1, 5632]⟩
abbrev S32x8x128x128 : Shape := ⟨4, ![32, 8, 128, 128]⟩
abbrev S32x128x2x128 : Shape := ⟨4, ![32, 128, 2, 128]⟩
abbrev S1024 : Shape := ⟨1, ![1024]⟩
abbrev S128 : Shape := ⟨1, ![128]⟩
abbrev S8 : Shape := ⟨1, ![8]⟩
abbrev S1x32x8x128x128 : Shape := ⟨5, ![1, 32, 8, 128, 128]⟩
abbrev S1x32x128x2x128 : Shape := ⟨5, ![1, 32, 128, 2, 128]⟩
abbrev S_ : Shape := ⟨0, ![]⟩
abbrev S1x1024 : Shape := ⟨2, ![1, 1024]⟩
abbrev S1x128 : Shape := ⟨2, ![1, 128]⟩
abbrev S32x1x2048 : Shape := ⟨3, ![32, 1, 2048]⟩
abbrev S4x1x5632 : Shape := ⟨3, ![4, 1, 5632]⟩
abbrev S1x4x8x128x128 : Shape := ⟨5, ![1, 4, 8, 128, 128]⟩
abbrev S1x4x128x2x128 : Shape := ⟨5, ![1, 4, 128, 2, 128]⟩
abbrev S4x1x2048 : Shape := ⟨3, ![4, 1, 2048]⟩
abbrev S128x128 : Shape := ⟨2, ![128, 128]⟩
abbrev S1x1x5632 : Shape := ⟨3, ![1, 1, 5632]⟩
abbrev S1x5632 : Shape := ⟨2, ![1, 5632]⟩
abbrev S128x1 : Shape := ⟨2, ![128, 1]⟩
abbrev S1x1x8x128x128 : Shape := ⟨5, ![1, 1, 8, 128, 128]⟩
abbrev S8x128x128 : Shape := ⟨3, ![8, 128, 128]⟩
abbrev S1x128x128 : Shape := ⟨3, ![1, 128, 128]⟩
abbrev S8x128 : Shape := ⟨2, ![8, 128]⟩
abbrev S1 : Shape := ⟨1, ![1]⟩
abbrev S1x1 : Shape := ⟨2, ![1, 1]⟩
abbrev S1x1x2048 : Shape := ⟨3, ![1, 1, 2048]⟩
abbrev S1x2048 : Shape := ⟨2, ![1, 2048]⟩
abbrev S8x1 : Shape := ⟨2, ![8, 1]⟩
abbrev S1x1x128x2x128 : Shape := ⟨5, ![1, 1, 128, 2, 128]⟩
abbrev S128x2x128 : Shape := ⟨3, ![128, 2, 128]⟩
abbrev S128x1x128 : Shape := ⟨3, ![128, 1, 128]⟩

abbrev nBuf : Space → Nat
  | .hbm => 29
  | .vmem => 20
  | .smem => 1
  | _ => 0

abbrev bufTy : (tb : Table) → Fin (tcTables nBuf tb) → BufTy
  | .hbm, ⟨0, _⟩ => ⟨S32x1x5632, .f32⟩
  | .hbm, ⟨1, _⟩ => ⟨S32x8x128x128, .f32⟩
  | .hbm, ⟨2, _⟩ => ⟨S32x128x2x128, .f32⟩
  | .hbm, ⟨3, _⟩ => ⟨S32x128x2x128, .f32⟩
  | .hbm, ⟨4, _⟩ => ⟨S1024, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S8, .f32⟩
  | .hbm, ⟨9, _⟩ => ⟨S1x32x8x128x128, .f32⟩
  | .hbm, ⟨10, _⟩ => ⟨S1x32x128x2x128, .f32⟩
  | .hbm, ⟨11, _⟩ => ⟨S1x32x128x2x128, .f32⟩
  | .hbm, ⟨12, _⟩ => ⟨S_, .f32⟩
  | .hbm, ⟨13, _⟩ => ⟨S1x32x8x128x128, .f32⟩
  | .hbm, ⟨14, _⟩ => ⟨S_, .f32⟩
  | .hbm, ⟨15, _⟩ => ⟨S1x32x128x2x128, .f32⟩
  | .hbm, ⟨16, _⟩ => ⟨S_, .f32⟩
  | .hbm, ⟨17, _⟩ => ⟨S1x32x128x2x128, .f32⟩
  | .hbm, ⟨18, _⟩ => ⟨S1x1024, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S32x1x2048, .f32⟩
  | .hbm, ⟨23, _⟩ => ⟨S1x32x8x128x128, .f32⟩
  | .hbm, ⟨24, _⟩ => ⟨S1x32x128x2x128, .f32⟩
  | .hbm, ⟨25, _⟩ => ⟨S1x32x128x2x128, .f32⟩
  | .hbm, ⟨26, _⟩ => ⟨S32x8x128x128, .f32⟩
  | .hbm, ⟨27, _⟩ => ⟨S32x128x2x128, .f32⟩
  | .hbm, ⟨28, _⟩ => ⟨S32x128x2x128, .f32⟩
  | .local _ .vmem, ⟨0, _⟩ => ⟨S4x1x5632, .f32⟩
  | .local _ .vmem, ⟨1, _⟩ => ⟨S4x1x5632, .f32⟩
  | .local _ .vmem, ⟨2, _⟩ => ⟨S1x4x8x128x128, .f32⟩
  | .local _ .vmem, ⟨3, _⟩ => ⟨S1x4x8x128x128, .f32⟩
  | .local _ .vmem, ⟨4, _⟩ => ⟨S1x4x128x2x128, .f32⟩
  | .local _ .vmem, ⟨5, _⟩ => ⟨S1x4x128x2x128, .f32⟩
  | .local _ .vmem, ⟨6, _⟩ => ⟨S1x4x128x2x128, .f32⟩
  | .local _ .vmem, ⟨7, _⟩ => ⟨S1x4x128x2x128, .f32⟩
  | .local _ .vmem, ⟨8, _⟩ => ⟨S1x1024, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4x1x2048, .f32⟩
  | .local _ .vmem, ⟨13, _⟩ => ⟨S4x1x2048, .f32⟩
  | .local _ .vmem, ⟨14, _⟩ => ⟨S1x4x8x128x128, .f32⟩
  | .local _ .vmem, ⟨15, _⟩ => ⟨S1x4x8x128x128, .f32⟩
  | .local _ .vmem, ⟨16, _⟩ => ⟨S1x4x128x2x128, .f32⟩
  | .local _ .vmem, ⟨17, _⟩ => ⟨S1x4x128x2x128, .f32⟩
  | .local _ .vmem, ⟨18, _⟩ => ⟨S1x4x128x2x128, .f32⟩
  | .local _ .vmem, ⟨19, _⟩ => ⟨S1x4x128x2x128, .f32⟩
  | .local _ .smem, ⟨0, _⟩ => ⟨S8, .f32⟩
  | _, _ => ⟨S32x1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_14 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_15 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S32x1x5632 : Shape := ⟨3, ![32, 1, 5632]⟩
abbrev S32x8x128x128 : Shape := ⟨4, ![32, 8, 128, 128]⟩
abbrev S32x128x2x128 : Shape := ⟨4, ![32, 128, 2, 128]⟩
abbrev S1024 : Shape := ⟨1, ![1024]⟩
abbrev S128 : Shape := ⟨1, ![128]⟩
abbrev S8 : Shape := ⟨1, ![8]⟩
abbrev S32x1x1024 : Shape := ⟨3, ![32, 1, 1024]⟩
abbrev S32x1x256 : Shape := ⟨3, ![32, 1, 256]⟩
abbrev S32x1x8x128 : Shape := ⟨4, ![32, 1, 8, 128]⟩
abbrev S8x128 : Shape := ⟨2, ![8, 128]⟩
abbrev S_ : Shape := ⟨0, ![]⟩
abbrev S1x1x8x128 : Shape := ⟨4, ![1, 1, 8, 128]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S32x1x2x128 : Shape := ⟨4, ![32, 1, 2, 128]⟩
abbrev S32x1x2 : Shape := ⟨3, ![32, 1, 2]⟩
abbrev S32x1x2x1 : Shape := ⟨4, ![32, 1, 2, 1]⟩
abbrev S1x1x1x128 : Shape := ⟨4, ![1, 1, 1, 128]⟩
abbrev S32x129x2x128 : Shape := ⟨4, ![32, 129, 2, 128]⟩

abbrev nBuf : Space → Nat
  | .hbm => 92
  | .vmem => 0
  | .smem => 0
  | _ => 0

abbrev bufTy : (tb : Table) → Fin (tcTables nBuf tb) → BufTy
  | .hbm, ⟨0, _⟩ => ⟨S32x1x5632, .f32⟩
  | .hbm, ⟨1, _⟩ => ⟨S32x8x128x128, .f32⟩
  | .hbm, ⟨2, _⟩ => ⟨S32x128x2x128, .f32⟩
  | .hbm, ⟨3, _⟩ => ⟨S32x128x2x128, .f32⟩
  | .hbm, ⟨4, _⟩ => ⟨S1024, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S8, .f32⟩
  | .hbm, ⟨9, _⟩ => ⟨S32x1x1024, .f32⟩
  | .hbm, ⟨10, _⟩ => ⟨S32x1x1024, .f32⟩
  | .hbm, ⟨11, _⟩ => ⟨S32x1x256, .f32⟩
  | .hbm, ⟨12, _⟩ => ⟨S32x1x256, .f32⟩
  | .hbm, ⟨13, _⟩ => ⟨S32x1x8x128, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S8x128, .f32⟩
  | .hbm, ⟨18, _⟩ => ⟨S32x1x8x128, .f32⟩
  | .hbm, ⟨19, _⟩ => ⟨S_, .f32⟩
  | .hbm, ⟨20, _⟩ => ⟨S32x1x8x128, .f32⟩
  | .hbm, ⟨21, _⟩ => ⟨S32x1x8x128, .f32⟩
  | .hbm, ⟨22, _⟩ => ⟨S32x1x8x128, .f32⟩
  | .hbm, ⟨23, _⟩ => ⟨S32x1x8x128, .f32⟩
  | .hbm, ⟨24, _⟩ => ⟨S32x1x8x128, .i1⟩
  | .hbm, ⟨25, _⟩ => ⟨S32x1x8x128, .f32⟩
  | .hbm, ⟨26, _⟩ => ⟨S32x1x8x128, .f32⟩
  | .hbm, ⟨27, _⟩ => ⟨S32x1x8x128, .f32⟩
  | .hbm, ⟨28, _⟩ => ⟨S32x1x8x128, .f32⟩
  | .hbm, ⟨29, _⟩ => ⟨S32x1x8x128, .f32⟩
  | .hbm, ⟨30, _⟩ => ⟨S32x1x8x128, .f32⟩
  | .hbm, ⟨31, _⟩ => ⟨S32x1x8x128, .f32⟩
  | .hbm, ⟨32, _⟩ => ⟨S32x1x8x128, .f32⟩
  | .hbm, ⟨33, _⟩ => ⟨S32x1x8x128, .f32⟩
  | .hbm, ⟨34, _⟩ => ⟨S1x1x8x128, .f32⟩
  | .hbm, ⟨35, _⟩ => ⟨S32x1x8x128, .f32⟩
  | .hbm, ⟨36, _⟩ => ⟨S32x1x8x128, .f32⟩
  | .hbm, ⟨37, _⟩ => ⟨S1x1x8x128, .f32⟩
  | .hbm, ⟨38, _⟩ => ⟨S32x1x8x128, .f32⟩
  | .hbm, ⟨39, _⟩ => ⟨S32x1x8x128, .f32⟩
  | .hbm, ⟨40, _⟩ => ⟨S32x1x8x128, .f32⟩
  | .hbm, ⟨41, _⟩ => ⟨S32x1x8x128, .f32⟩
  | .hbm, ⟨42, _⟩ => ⟨S32x1x8x128, .i1⟩
  | .hbm, ⟨43, _⟩ => ⟨S32x1x8x128, .f32⟩
  | .hbm, ⟨44, _⟩ => ⟨S32x1x8x128, .f32⟩
  | .hbm, ⟨45, _⟩ => ⟨S32x1x8x128, .f32⟩
  | .hbm, ⟨46, _⟩ => ⟨S32x1x8x128, .f32⟩
  | .hbm, ⟨47, _⟩ => ⟨S32x1x8x128, .f32⟩
  | .hbm, ⟨48, _⟩ => ⟨S32x1x8x128, .f32⟩
  | .hbm, ⟨49, _⟩ => ⟨S32x1x8x128, .f32⟩
  | .hbm, ⟨50, _⟩ => ⟨S32x1x8x128, .f32⟩
  | .hbm, ⟨51, _⟩ => ⟨S32x1x8x128, .f32⟩
  | .hbm, ⟨52, _⟩ => ⟨S32x1x8x128, .f32⟩
  | .hbm, ⟨53, _⟩ => ⟨S32x1x8x128, .f32⟩
  | .hbm, ⟨54, _⟩ => ⟨S32x8x1x128, .f32⟩
  | .hbm, ⟨55, _⟩ => ⟨S32x8x1x128, .f32⟩
  | .hbm, ⟨56, _⟩ => ⟨S32x8x1x128, .f32⟩
  | .hbm, ⟨57, _⟩ => ⟨S_, .f32⟩
  | .hbm, ⟨58, _⟩ => ⟨S_, .f32⟩
  | .hbm, ⟨59, _⟩ => ⟨S32x8x1x128, .f32⟩
  | .hbm, ⟨60, _⟩ => ⟨S32x8x128, .f32⟩
  | .hbm, ⟨61, _⟩ => ⟨S32x8x128x1, .f32⟩
  | .hbm, ⟨62, _⟩ => ⟨S32x8x128x1, .f32⟩
  | .hbm, ⟨63, _⟩ => ⟨S32x8x128x128, .f32⟩
  | .hbm, ⟨64, _⟩ => ⟨S32x8x128x128, .f32⟩
  | .hbm, ⟨65, _⟩ => ⟨S32x8x1x128, .f32⟩
  | .hbm, ⟨66, _⟩ => ⟨S32x8x1x128, .f32⟩
  | .hbm, ⟨67, _⟩ => ⟨S32x8x1x128, .f32⟩
  | .hbm, ⟨68, _⟩ => ⟨S32x8x128x128, .f32⟩
  | .hbm, ⟨69, _⟩ => ⟨S32x8x128x128, .f32⟩
  | .hbm, ⟨70, _⟩ => ⟨S32x1x2x128, .f32⟩
  | .hbm, ⟨71, _⟩ => ⟨S32x1x2x128, .f32⟩
  | .hbm, ⟨72, _⟩ => ⟨S_, .f32⟩
  | .hbm, ⟨73, _⟩ => ⟨S32x1x2, .f32⟩
  | .hbm, ⟨74, _⟩ => ⟨S32x1x2x1, .f32⟩
  | .hbm, ⟨75, _⟩ => ⟨S_, .f32⟩
  | .hbm, ⟨76, _⟩ => ⟨S32x1x2x1, .f32⟩
  | .hbm, ⟨77, _⟩ => ⟨S32x1x2x1, .f32⟩
  | .hbm, ⟨78, _⟩ => ⟨S_, .f32⟩
  | .hbm, ⟨79, _⟩ => ⟨S32x1x2x1, .f32⟩
  | .hbm, ⟨80, _⟩ => ⟨S32x1x2x1, .f32⟩
  | .hbm, ⟨81, _⟩ => ⟨S32x1x2x1, .f32⟩
  | .hbm, ⟨82, _⟩ => ⟨S32x1x2x128, .f32⟩
  | .hbm, ⟨83, _⟩ => ⟨S32x1x2x128, .f32⟩
  | .hbm, ⟨84, _⟩ => ⟨S1x1x1x128, .f32⟩
  | .hbm, ⟨85, _⟩ => ⟨S32x1x2x128, .f32⟩
  | .hbm, ⟨86, _⟩ => ⟨S32x1x2x128, .f32⟩
  | .hbm, ⟨87, _⟩ => ⟨S32x1x2x128, .f32⟩
  | .hbm, ⟨88, _⟩ => ⟨S32x129x2x128, .f32⟩
  | .hbm, ⟨89, _⟩ => ⟨S32x129x2x128, .f32⟩
  | .hbm, ⟨90, _⟩ => ⟨S32x128x2x128, .f32⟩
  | .hbm, ⟨91, _⟩ => ⟨S32x128x2x128, .f32⟩
  | _, _ => ⟨S32x1x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call1_call0_cst : Ref sig .tc := ⟨.hbm, 57, rfl⟩
abbrev main_call1_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_v46 : Ref sig .tc := ⟨.hbm, 73, rfl⟩
abbrev main_v47 : Ref sig .tc := ⟨.hbm, 74, rfl⟩
abbrev main_cst_0 : Ref sig .tc := ⟨.hbm, 75, rfl⟩
abbrev main_v48 : Ref sig .tc := ⟨.hbm, 76, rfl⟩
abbrev main_v49 : Ref sig .tc := ⟨.hbm, 77, rfl⟩
abbrev main_cst_1 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== SOut.lean ====
abbrev S32x1x2048 : Shape := ⟨3, ![32, 1, 2048]⟩
abbrev S2048x2048 : Shape := ⟨2, ![2048, 2048]⟩
abbrev S32x12288 : Shape := ⟨2, ![32, 12288]⟩
abbrev S1x32x2048 : Shape := ⟨3, ![1, 32, 2048]⟩
abbrev S1x2048x2048 : Shape := ⟨3, ![1, 2048, 2048]⟩
abbrev S1x32x12288 : Shape := ⟨3, ![1, 32, 12288]⟩
abbrev S4x2048x512 : Shape := ⟨3, ![4, 2048, 512]⟩
abbrev S1x2048x512 : Shape := ⟨3, ![1, 2048, 512]⟩
abbrev S1x32x512 : Shape := ⟨3, ![1, 32, 512]⟩
abbrev S2048x512 : Shape := ⟨2, ![2048, 512]⟩
abbrev S32x2048 : Shape := ⟨2, ![32, 2048]⟩
abbrev S32x512 : Shape := ⟨2, ![32, 512]⟩

abbrev nBuf : Space → Nat
  | .hbm => 11
  | .vmem => 11
  | .smem => 0
  | _ => 0

abbrev bufTy : (tb : Table) → Fin (tcTables nBuf tb) → BufTy
  | .hbm, ⟨0, _⟩ => ⟨S32x1x2048, .f32⟩
  | .hbm, ⟨1, _⟩ => ⟨S2048x2048, .f32⟩
  | .hbm, ⟨2, _⟩ => ⟨S32x1x2048, .f32⟩
  | .hbm, ⟨3, _⟩ => ⟨S32x12288, .f32⟩
  | .hbm, ⟨4, _⟩ => ⟨S1x32x2048, .f32⟩
  | .hbm, ⟨5, _⟩ => ⟨S1x2048x2048, .f32⟩
  | .hbm, ⟨6, _⟩ => ⟨S1x32x2048, .f32⟩
  | .hbm, ⟨7, _⟩ => ⟨S1x32x12288, .f32⟩
  | .hbm, ⟨8, _⟩ => ⟨S1x32x2048, .f32⟩
  | .hbm, ⟨9, _⟩ => ⟨S4x2048x512, .bf16⟩
  | .hbm, ⟨10, _⟩ => ⟨S32x1x2048, .f32⟩
  | .local _ .vmem, ⟨0, _⟩ => ⟨S1x32x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x32x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x2048x512, .bf16⟩
  | .local _ .vmem, ⟨10, _⟩ => ⟨S1x2048x512, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

abbrev stage0_0 : Fin 1 → Memref sig .tc .vmem S1x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]
-- ==== SOutRefIdeal.lean ====
abbrev S32x1x2048 : Shape := ⟨3, ![32, 1, 2048]⟩
abbrev S2048x2048 : Shape := ⟨2, ![2048, 2048]⟩
abbrev S32x12288 : Shape := ⟨2, ![32, 12288]⟩
abbrev S32x1x12288 : Shape := ⟨3, ![32, 1, 12288]⟩
abbrev S2048x4x512 : Shape := ⟨3, ![2048, 4, 512]⟩
abbrev S4x2048x512 : Shape := ⟨3, ![4, 2048, 512]⟩

abbrev nBuf : Space → Nat
  | .hbm => 17
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048x2048, .f32⟩
  | .hbm, ⟨2, _⟩ => ⟨S32x1x2048, .f32⟩
  | .hbm, ⟨3, _⟩ => ⟨S32x12288, .f32⟩
  | .hbm, ⟨4, _⟩ => ⟨S32x1x12288, .f32⟩
  | .hbm, ⟨5, _⟩ => ⟨S32x1x2048, .f32⟩
  | .hbm, ⟨6, _⟩ => ⟨S32x1x2048, .f32⟩
  | .hbm, ⟨7, _⟩ => ⟨S32x1x2048, .f32⟩
  | .hbm, ⟨8, _⟩ => ⟨S32x1x2048, .f32⟩
  | .hbm, ⟨9, _⟩ => ⟨S32x1x2048, .f32⟩
  | .hbm, ⟨10, _⟩ => ⟨S32x1x2048, .f32⟩
  | .hbm, ⟨11, _⟩ => ⟨S32x1x2048, .f32⟩
  | .hbm, ⟨12, _⟩ => ⟨S32x1x2048, .f32⟩
  | .hbm, ⟨13, _⟩ => ⟨S32x1x2048, .f32⟩
  | .hbm, ⟨14, _⟩ => ⟨S2048x4x512, .f32⟩
  | .hbm, ⟨15, _⟩ => ⟨S4x2048x512, .f32⟩
  | .hbm, ⟨16, _⟩ => ⟨S4x2048x512, .bf16⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Ada.lean ====
abbrev S4x2048 : Shape := ⟨2, ![4, 2048]⟩
abbrev S32x2048 : Shape := ⟨2, ![32, 2048]⟩
abbrev S4x2048x12288 : Shape := ⟨3, ![4, 2048, 12288]⟩
abbrev S4x12288 : Shape := ⟨2, ![4, 12288]⟩
abbrev S_ : Shape := ⟨0, ![]⟩
abbrev S40x2048 : Shape := ⟨2, ![40, 2048]⟩
abbrev S4x1x12288 : Shape := ⟨3, ![4, 1, 12288]⟩
abbrev S4x40x12288 : Shape := ⟨3, ![4, 40, 12288]⟩
abbrev S1x2048x1024 : Shape := ⟨3, ![1, 2048, 1024]⟩
abbrev S1x1x1024 : Shape := ⟨3, ![1, 1, 1024]⟩
abbrev S1x40x1024 : Shape := ⟨3, ![1, 40, 1024]⟩
abbrev S2048x1024 : Shape := ⟨2, ![2048, 1024]⟩
abbrev S40x1024 : Shape := ⟨2, ![40, 1024]⟩
abbrev S1x1024 : Shape := ⟨2, ![1, 1024]⟩
abbrev S4x4x12288 : Shape := ⟨3, ![4, 4, 12288]⟩
abbrev S4x32x12288 : Shape := ⟨3, ![4, 32, 12288]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S32x2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S4x2048, .f32⟩
  | .hbm, ⟨6, _⟩ => ⟨S40x2048, .f32⟩
  | .hbm, ⟨7, _⟩ => ⟨S4x1x12288, .f32⟩
  | .hbm, ⟨8, _⟩ => ⟨S4x40x12288, .f32⟩
  | .hbm, ⟨9, _⟩ => ⟨S4x4x12288, .f32⟩
  | .hbm, ⟨10, _⟩ => ⟨S4x32x12288, .f32⟩
  | .local _ .vmem, ⟨0, _⟩ => ⟨S40x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S32x2048 : Shape := ⟨2, ![32, 2048]⟩
abbrev S4x2048x12288 : Shape := ⟨3, ![4, 2048, 12288]⟩
abbrev S4x12288 : Shape := ⟨2, ![4, 12288]⟩
abbrev S_ : Shape := ⟨0, ![]⟩
abbrev S4x12288x4 : Shape := ⟨3, ![4, 12288, 4]⟩
abbrev S4x4x12288 : Shape := ⟨3, ![4, 4, 12288]⟩
abbrev S4x1x12288 : Shape := ⟨3, ![4, 1, 12288]⟩
abbrev S4x12288x32 : Shape := ⟨3, ![4, 12288, 32]⟩
abbrev S4x32x12288 : Shape := ⟨3, ![4, 32, 12288]⟩

abbrev nBuf : Space → Nat
  | .hbm => 32
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S32x2048, .f32⟩
  | .hbm, ⟨2, _⟩ => ⟨S4x2048x12288, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x12288x4, .f32⟩
  | .hbm, ⟨14, _⟩ => ⟨S4x4x12288, .f32⟩
  | .hbm, ⟨15, _⟩ => ⟨S4x1x12288, .f32⟩
  | .hbm, ⟨16, _⟩ => ⟨S4x4x12288, .f32⟩
  | .hbm, ⟨17, _⟩ => ⟨S4x4x12288, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048, .f32⟩
  | .hbm, ⟨27, _⟩ => ⟨S4x12288x32, .f32⟩
  | .hbm, ⟨28, _⟩ => ⟨S4x32x12288, .f32⟩
  | .hbm, ⟨29, _⟩ => ⟨S4x1x12288, .f32⟩
  | .hbm, ⟨30, _⟩ => ⟨S4x32x12288, .f32⟩
  | .hbm, ⟨31, _⟩ => ⟨S4x32x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Proof.AttnBlocks.lean ====
/- The blocks of `Cert.AttnIdeal`'s windows, read as the program's arguments. -/
module

public import proofs.«01_k».proof.Proof.Gen.AttnIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- Every window's block index at every grid point, decided. -/
theorem idx_val : ∀ t : Fin cfg0.N, win0_0.index t = ![0]
    ∧ win0_1.index t = ![3, t.val / 4, t.val % 4, 0]
    ∧ win0_2.index t = ![2, t.val / 4, t.val % 4, 0]
    ∧ win0_3.index t = ![2, t.val / 4, t.val % 4 * 4 - 1, 0]
    ∧ win0_4.index t = ![0, 0]
    ∧ win0_5.index t = ![0, 0]
    ∧ win0_6.index t = ![t.val / 4, t.val % 4, 0]
    ∧ win0_7.index t = ![t.val / 4, 0, 0]
    ∧ win0_8.index t = ![t.val / 4, 0, 0] :=
  (by decide +kernel : ∀ t : Fin grid0.N, _)

theorem lt16 (t : Fin cfg0.N) : t.val < 16 := lt_of_lt_of_eq t.isLt (by decide +kernel)

theorem sinks_at (c : Dev nD) (t : Fin cfg0.N) (a : Fin 8) :
    iblk m c 0 t (ix1 a) = (m ((c : Thread nD τ).loc main_arg3)) (ix1 a) := by
  blk_point [iblk, V, idx_val t]

/-- The projection's slabs. -/
def slabs (a0 : FVec Ideal S4x2048x5632 .f32) : FVec Ideal S11x4x2048x512 .f32 :=
  transpose S11x4x2048x512 [2, 0, 1, 3] (shapeCast S4x2048x11x512 a0 shapeCasts_S4x2048x5632_S4x2048x11x512) transposes_S4x2048x11x512_S11x4x2048x512_2_0_1_3

theorem slabs_at (a0 : FVec Ideal S4x2048x5632 .f32) (k : Fin 11) (b : Fin 4) (t : Fin 2048) (e : Fin 512) :
    slabs a0 (ix4 k b t e) = a0 (ix3 b t ⟨k.val * 512 + e.val, by omega⟩) := by
  pointwise [slabs]

theorem V_v1 (c : Dev nD) : V m c main_v1 = slabs (m ((c : Thread nD τ).loc main_arg0)) := by
  unfold V; after_results; try rfl

theorem V_v6 (c : Dev nD) : V m c main_v6 = concatenate S4x4x2048x512 0
    [⟨S1x4x2048x512, extractStridedSlice S1x4x2048x512 ![2, 0, 0, 0] (slabs (m ((c : Thread nD τ).loc main_arg0))) slices_S11x4x2048x512_S1x4x2048x512_2_0_0_0⟩,
     ⟨S1x4x2048x512, extractStridedSlice S1x4x2048x512 ![3, 0, 0, 0] (slabs (m ((c : Thread nD τ).loc main_arg0))) slices_S11x4x2048x512_S1x4x2048x512_3_0_0_0⟩,
     ⟨S1x4x2048x512, extractStridedSlice S1x4x2048x512 ![10, 0, 0, 0] (slabs (m ((c : Thread nD τ).loc main_arg0))) slices_S11x4x2048x512_S1x4x2048x512_10_0_0_0⟩,
     ⟨S1x4x2048x512, extractStridedSlice S1x4x2048x512 ![2, 0, 0, 0] (slabs (m ((c : Thread nD τ).loc main_arg0))) slices_S11x4x2048x512_S1x4x2048x512_2_0_0_0⟩]
    concatenates_S1x4x2048x512_S1x4x2048x512_S1x4x2048x512_S1x4x2048x512_S4x4x2048x512_d0 := by
  unfold V
  after_results_simp
  rfl

theorem V_v17 (c : Dev nD) : V m c main_v17 = truncf .bf16 (concatenate S9x4x2048x512 0
    [⟨S1x4x2048x512, extractStridedSlice S1x4x2048x512 ![0, 0, 0, 0] (slabs (m ((c : Thread nD τ).loc main_arg0))) slices_S11x4x2048x512_S1x4x2048x512_0_0_0_0⟩,
     ⟨S1x4x2048x512, extractStridedSlice S1x4x2048x512 ![1, 0, 0, 0] (slabs (m ((c : Thread nD τ).loc main_arg0))) slices_S11x4x2048x512_S1x4x2048x512_1_0_0_0⟩,
     ⟨S1x4x2048x512, extractStridedSlice S1x4x2048x512 ![4, 0, 0, 0] (slabs (m ((c : Thread nD τ).loc main_arg0))) slices_S11x4x2048x512_S1x4x2048x512_4_0_0_0⟩,
     ⟨S1x4x2048x512, extractStridedSlice S1x4x2048x512 ![5, 0, 0, 0] (slabs (m ((c : Thread nD τ).loc main_arg0))) slices_S11x4x2048x512_S1x4x2048x512_5_0_0_0⟩,
     ⟨S1x4x2048x512, extractStridedSlice S1x4x2048x512 ![6, 0, 0, 0] (slabs (m ((c : Thread nD τ).loc main_arg0))) slices_S11x4x2048x512_S1x4x2048x512_6_0_0_0⟩,
     ⟨S1x4x2048x512, extractStridedSlice S1x4x2048x512 ![7, 0, 0, 0] (slabs (m ((c : Thread nD τ).loc main_arg0))) slices_S11x4x2048x512_S1x4x2048x512_7_0_0_0⟩,
     ⟨S1x4x2048x512, extractStridedSlice S1x4x2048x512 ![8, 0, 0, 0] (slabs (m ((c : Thread nD τ).loc main_arg0))) slices_S11x4x2048x512_S1x4x2048x512_8_0_0_0⟩,
     ⟨S1x4x2048x512, extractStridedSlice S1x4x2048x512 ![9, 0, 0, 0] (slabs (m ((c : Thread nD τ).loc main_arg0))) slices_S11x4x2048x512_S1x4x2048x512_9_0_0_0⟩,
     ⟨S1x4x2048x512, extractStridedSlice S1x4x2048x512 ![0, 0, 0, 0] (slabs (m ((c : Thread nD τ).loc main_arg0))) slices_S11x4x2048x512_S1x4x2048x512_0_0_0_0⟩]
    concatenates_S1x4x2048x512_S1x4x2048x512_S1x4x2048x512_S1x4x2048x512_S1x4x2048x512_S1x4x2048x512_S1x4x2048x512_S1x4x2048x512_S1x4x2048x512_S9x4x2048x512_d0) bitsLt_bf16_f32 := by
  unfold V
  after_results_simp
  rfl

theorem v6_at (c : Dev nD) (b : Fin 4) (t : Fin 2048) (e : Fin 512) :
    V m c main_v6 (ix4 2 b t e) = (m ((c : Thread nD τ).loc main_arg0)) (ix3 b t ⟨5120 + e.val, by omega⟩) := by
  rw [V_v6]
  pointwise [slabs_at]

theorem v17_at (c : Dev nD) (s : Fin 9) (h6 : 6 ≤ s.val) (h7 : s.val ≤ 7) (b : Fin 4) (t : Fin 2048) (e : Fin 512) :
    V m c main_v17 (ix4 s b t e) = (m ((c : Thread nD τ).loc main_arg0)) (ix3 b t ⟨4096 + ((s.val - 6) * 512 + e.val), by omega⟩) := by
  rw [V_v17]
  obtain h | h : s = 6 ∨ s = 7 := by omega
  · subst h; pointwise [slabs_at]
  · subst h; pointwise [slabs_at]; congr 2; apply Fin.ext; show 4608 + e.val = 4096 + (512 + e.val); omega

theorem kv_at (c : Dev nD) (t : Fin cfg0.N) (r e : Fin 512) :
    iblk m c 2 t (ix4 0 0 r e) = (m ((c : Thread nD τ).loc main_arg0)) (ix3 ⟨t.val / 4, by have := lt16 t; omega⟩ ⟨t.val % 4 * 512 + r.val, by omega⟩ ⟨5120 + e.val, by omega⟩) := by
  have := lt16 t
  refine Eq.trans ?_ (v6_at m c _ _ e)
  blk_point [iblk, idx_val t]

theorem prev_at (c : Dev nD) (t : Fin cfg0.N) (r : Fin 128) (e : Fin 512) :
    iblk m c 3 t (ix4 0 0 r e) = (m ((c : Thread nD τ).loc main_arg0)) (ix3 ⟨t.val / 4, by have := lt16 t; omega⟩ ⟨(t.val % 4 * 4 - 1) * 128 + r.val, by omega⟩ ⟨5120 + e.val, by omega⟩) := by
  have := lt16 t
  refine Eq.trans ?_ (v6_at m c _ _ e)
  blk_point [iblk, idx_val t]

theorem qn_at (c : Dev nD) (t : Fin cfg0.N) (e : Fin 128) :
    iblk m c 4 t (ix2 0 e) = (m ((c : Thread nD τ).loc main_arg1)) (ix1 e) := by
  blk_point [iblk, V, idx_val t]

theorem kn_at (c : Dev nD) (t : Fin cfg0.N) (e : Fin 128) :
    iblk m c 5 t (ix2 0 e) = (m ((c : Thread nD τ).loc main_arg2)) (ix1 e) := by
  blk_point [iblk, V, idx_val t]

theorem q_at (c : Dev nD) (t : Fin cfg0.N) (s : Fin 2) (r e : Fin 512) :
    X0_1 m c t (ix4 s 0 r e) = (m ((c : Thread nD τ).loc main_arg0)) (ix3 ⟨t.val / 4, by have := lt16 t; omega⟩ ⟨t.val % 4 * 512 + r.val, by omega⟩ ⟨4096 + (s.val * 512 + e.val), by omega⟩) := by
  have := lt16 t
  unfold X0_1 Pipeline.Window.fill
  rw [dif_pos (moved0_1 t _)]
  refine Eq.trans ?_ ((v17_at m c ⟨6 + s.val, by omega⟩ (by show 6 ≤ 6 + s.val; omega) (by show 6 + s.val ≤ 7; omega) ⟨t.val / 4, by omega⟩ ⟨t.val % 4 * 512 + r.val, by omega⟩ e).trans ?_)
  · blk_point [iblk, idx_val t]
  · congr 2; apply Fin.ext; show 4096 + ((6 + s.val - 6) * 512 + e.val) = 4096 + (s.val * 512 + e.val); omega

end Cert.AttnIdeal.Value

end
-- ==== Proof.SoftRow.lean ====
module

public import Idealize.ShloMosaic.Lib.Pointwise

@[expose] public section

set_option maxRecDepth 16384

noncomputable section

open Idealize.ShloMosaic

/-! One row of a masked softmax with a sink, over the extended reals.

The kernel keeps its scores multiplied by `L = 1 / log 2`, raises two to them, adds the sink's term to the
denominator and multiplies by one reciprocal at the end. The reference raises `e` to the unscaled scores, takes
the sink as a last entry of the row and divides every weight. -/
namespace Cert.SoftRow

/-- The factor the kernel's scores carry. -/
def L : ℝ := (Real.log 2)⁻¹

theorem L_pos : 0 < L := inv_pos.2 (Real.log_pos (by norm_num))

/-- Two to `L x` is `e` to `x`. -/
theorem rpow_L (x : ℝ) : Real.rpow 2 (L * x) = Real.exp x := by
  have h : Real.rpow 2 (L * x) = Real.exp (Real.log 2 * (L * x)) :=
    Real.rpow_def_of_pos (by norm_num) _
  have hl : Real.log 2 ≠ 0 := (Real.log_pos (by norm_num)).ne'
  rw [h, ← mul_assoc, L, mul_inv_cancel₀ hl, one_mul]

/-- A maximum taken from the bottom is the least upper bound. -/
theorem fold_max {n : ℕ} (f : Fin n → EReal) : Finset.univ.fold max ⊥ f = Finset.univ.sup f := rfl

/-- A finite nonnegative factor goes into a sum. -/
theorem sum_mul_real {n : ℕ} (f : Fin n → EReal) (r : ℝ) (hr : 0 ≤ r) :
    (∑ s, f s) * (r : EReal) = ∑ s, f s * (r : EReal) := by
  have h0 : (0 : EReal) ≤ (r : EReal) := by exact_mod_cast hr
  induction (Finset.univ : Finset (Fin n)) using Finset.induction_on with
  | empty => simp
  | insert a s ha ih =>
    rw [Finset.sum_insert ha, Finset.sum_insert ha, ← ih, mul_comm, mul_comm (f a), mul_comm (∑ x ∈ s, f x),
      EReal.left_distrib_of_nonneg_of_ne_top h0 (EReal.coe_ne_top r)]

/-- A sum of reals, coerced. -/
theorem coe_sum {n : ℕ} (f : Fin n → ℝ) : ((∑ s, f s : ℝ) : EReal) = ∑ s, (f s : EReal) := by
  induction (Finset.univ : Finset (Fin n)) using Finset.induction_on with
  | empty => simp
  | insert a s ha ih => rw [Finset.sum_insert ha, Finset.sum_insert ha, EReal.coe_add, ih]

/-- A quotient of reals by a positive one. -/
theorem div_real (a b : ℝ) (hb : 0 < b) : Ideal.div (a : EReal) (b : EReal) = ((a / b : ℝ) : EReal) := by
  have h : (b : EReal) ≠ 0 := by exact_mod_cast hb.ne'
  rw [Ideal.div, if_neg h, ← EReal.coe_inv, ← EReal.coe_mul, div_eq_mul_inv]

/-- The row's score scaled by `l`, with the masked places at the bottom. -/
def score (ok : Fin 256 → Prop) [DecidablePred ok] (z : Fin 256 → ℝ) (l : ℝ) (s : Fin 256) : EReal :=
  if ok s then ((l * z s : ℝ) : EReal) else ⊥

/-- The row with the sink behind it. -/
def behind (S : Fin 256 → EReal) (sk : EReal) (k : Fin 257) : EReal :=
  if h : k.val < 256 then S ⟨k.val, h⟩ else sk

/-- The two maxima: a real `M` and `L M`. -/
theorem maxima (ok : Fin 256 → Prop) [DecidablePred ok] (z : Fin 256 → ℝ) (sk : ℝ) :
    ∃ M : ℝ, max ⊥ (Finset.univ.fold max ⊥ (behind (score ok z 1) sk)) = (M : EReal)
      ∧ max (Finset.univ.fold max ⊥ (score ok z L)) ((sk : EReal) * (L : EReal)) = ((L * M : ℝ) : EReal) := by
  rw [fold_max, fold_max, max_eq_right bot_le]
  obtain ⟨k, -, hk⟩ := Finset.exists_mem_eq_sup Finset.univ Finset.univ_nonempty (behind (score ok z 1) (sk : EReal))
  have hsk : (sk : EReal) ≤ Finset.univ.sup (behind (score ok z 1) (sk : EReal)) := by
    have := Finset.le_sup (f := behind (score ok z 1) (sk : EReal)) (Finset.mem_univ (256 : Fin 257))
    simpa [behind] using this
  have hz : ∀ s, ok s → (z s : EReal) ≤ Finset.univ.sup (behind (score ok z 1) (sk : EReal)) := by
    intro s hs
    have := Finset.le_sup (f := behind (score ok z 1) (sk : EReal)) (Finset.mem_univ (s.castSucc : Fin 257))
    have hlt : (s.castSucc : Fin 257).val < 256 := s.isLt
    rw [behind, dif_pos hlt] at this
    simpa [score, hs] using this
  rw [hk] at hsk hz
  have key : ∃ M : ℝ, behind (score ok z 1) (sk : EReal) k = (M : EReal)
      ∧ (((L * M : ℝ) : EReal) ≤ max (Finset.univ.sup (score ok z L)) ((sk : EReal) * (L : EReal))) := by
    by_cases h : k.val < 256
    · rw [behind, dif_pos h] at hsk ⊢
      by_cases ho : ok ⟨k.val, h⟩
      · refine ⟨z ⟨k.val, h⟩, by simp [score, ho], le_max_of_le_left ?_⟩
        have := Finset.le_sup (f := score ok z L) (Finset.mem_univ ⟨k.val, h⟩)
        simpa [score, ho] using this
      · simp [score, ho] at hsk
    · refine ⟨sk, by rw [behind, dif_neg h], le_max_of_le_right ?_⟩
      rw [← EReal.coe_mul, mul_comm]
  obtain ⟨M, hM, hge⟩ := key
  refine ⟨M, hk.trans hM, le_antisymm (max_le (Finset.sup_le fun s _ => ?_) ?_) hge⟩
  · by_cases ho : ok s
    · have := hz s ho
      rw [hM] at this
      simp only [score, ho, if_true]
      exact_mod_cast mul_le_mul_of_nonneg_left (by exact_mod_cast this) L_pos.le
    · simp [score, ho]
  · rw [hM] at hsk
    rw [← EReal.coe_mul, mul_comm]
    exact_mod_cast mul_le_mul_of_nonneg_left (by exact_mod_cast hsk) L_pos.le

/-- The weight of a place before the division. -/
def wt (ok : Fin 256 → Prop) [DecidablePred ok] (z : Fin 256 → ℝ) (M : ℝ) (s : Fin 256) : ℝ :=
  if ok s then Real.exp (z s - M) else 0

theorem exp_score (ok : Fin 256 → Prop) [DecidablePred ok] (z : Fin 256 → ℝ) (M : ℝ) (s : Fin 256) :
    Ideal.exp (score ok z 1 s - (M : EReal)) = (wt ok z M s : EReal) := by
  by_cases h : ok s
  · simp only [score, wt, h, if_true, one_mul, ← EReal.coe_sub]; rfl
  · simp only [score, wt, h, if_false, EReal.bot_sub]; rfl

theorem exp2_score (ok : Fin 256 → Prop) [DecidablePred ok] (z : Fin 256 → ℝ) (M : ℝ) (s : Fin 256) :
    Ideal.exp2 (score ok z L s - ((L * M : ℝ) : EReal)) = (wt ok z M s : EReal) := by
  by_cases h : ok s
  · simp only [score, wt, h, if_true, ← EReal.coe_sub, ← mul_sub]
    rw [Ideal.exp2_coe, rpow_L]
  · simp only [score, wt, h, if_false, EReal.bot_sub]; rfl

/-- The kernel's row is the reference's. -/
theorem row (ok : Fin 256 → Prop) [DecidablePred ok] (z : Fin 256 → ℝ) (sk : ℝ) (v v' : Fin 256 → EReal)
    (hv : ∀ s, ok s → v s = v' s) (S : Fin 256 → EReal) (hS : ∀ s, S s = score ok z L s)
    (T : Fin 257 → EReal) (hT : ∀ k, T k = behind (score ok z 1) sk k) :
    (∑ s, Ideal.exp2 (S s - max (Finset.univ.fold max ⊥ S) ((sk : EReal) * (L : EReal))) * v s)
      * Ideal.div 1 ((∑ s, Ideal.exp2 (S s - max (Finset.univ.fold max ⊥ S) ((sk : EReal) * (L : EReal))))
          + Ideal.exp2 ((sk : EReal) * (L : EReal) - max (Finset.univ.fold max ⊥ S) ((sk : EReal) * (L : EReal))))
    = ∑ s : Fin 256, v' s * Ideal.div (Ideal.exp (T s.castSucc - max ⊥ (Finset.univ.fold max ⊥ T)))
        (∑ k, Ideal.exp (T k - max ⊥ (Finset.univ.fold max ⊥ T))) := by
  obtain rfl : S = score ok z L := funext hS
  obtain rfl : T = behind (score ok z 1) sk := funext hT
  obtain ⟨M, h1, h2⟩ := maxima ok z sk
  rw [h1, h2]
  have hs : Ideal.exp2 ((sk : EReal) * (L : EReal) - ((L * M : ℝ) : EReal)) = (Real.exp (sk - M) : EReal) := by
    rw [← EReal.coe_mul, mul_comm sk, ← EReal.coe_sub, ← mul_sub, Ideal.exp2_coe, rpow_L]
  have hD : 0 < (∑ s, wt ok z M s) + Real.exp (sk - M) := by
    refine add_pos_of_nonneg_of_pos (Finset.sum_nonneg fun s _ => ?_) (Real.exp_pos _)
    unfold wt; split
    · exact (Real.exp_pos _).le
    · exact le_rfl
  have hden : (∑ k, Ideal.exp (behind (score ok z 1) sk k - (M : EReal)))
      = (((∑ s, wt ok z M s) + Real.exp (sk - M) : ℝ) : EReal) := by
    rw [Fin.sum_univ_castSucc, EReal.coe_add, coe_sum]
    refine congrArg₂ (· + ·) (Finset.sum_congr rfl fun s _ => ?_) ?_
    · have hlt : (s.castSucc : Fin 257).val < 256 := s.isLt
      rw [behind, dif_pos hlt]; exact exp_score ok z M s
    · rw [behind, dif_neg (by simp), ← EReal.coe_sub]; rfl
  rw [hden, hs]
  simp only [exp2_score]
  rw [← coe_sum, ← EReal.coe_add, show (1 : EReal) = ((1 : ℝ) : EReal) from rfl, div_real _ _ hD,
    sum_mul_real _ _ (div_pos one_pos hD).le]
  refine Finset.sum_congr rfl fun s _ => ?_
  have hlt : (s.castSucc : Fin 257).val < 256 := s.isLt
  rw [behind, dif_pos hlt, show (⟨(s.castSucc : Fin 257).val, hlt⟩ : Fin 256) = s from rfl, exp_score, div_real _ _ hD]
  by_cases ho : ok s
  · rw [hv s ho, mul_comm (wt ok z M s : EReal), mul_assoc, ← EReal.coe_mul, mul_one_div]
  · simp [wt, ho]

/-- The number the bits of 128 stand for. -/
theorem bits_128 : Ideal.ofBits .f32 0x43000000#32 = ((128 : ℝ) : EReal) := by
  simp [Ideal.ofBits, Ideal.ieee]; rw [← EReal.coe_mul]; norm_num

/-- The bits of minus infinity are the bottom. -/
theorem bits_bot : Ideal.ofBits .f32 0xFF800000#32 = (⊥ : EReal) := by
  simp [Ideal.ofBits, Ideal.ieee]

/-- The bits of infinity are the top. -/
theorem bits_top : Ideal.ofBits .f32 0x7F800000#32 = (⊤ : EReal) := by
  simp [Ideal.ofBits, Ideal.ieee]

/-- The number the norm adds under its root is positive. -/
theorem bits_eps : ∃ e : ℝ, 0 < e ∧ Ideal.ofBits .f32 0x358637BD#32 = (e : EReal) := by
  refine ⟨_, ?_, by simp [Ideal.ofBits, Ideal.ieee]; rfl⟩
  norm_num

/-- A row divided by its root mean square, each entry real whatever the row. -/
theorem rms_real (q : Fin 128 → EReal) :
    ∃ u : Fin 128 → ℝ, ∀ d, q d * Ideal.rsqrt (Ideal.div (∑ e, q e * q e) (Ideal.ofBits .f32 0x43000000#32)
      + Ideal.ofBits .f32 0x358637BD#32) = (u d : EReal) := by
  obtain ⟨e, he, heq⟩ := bits_eps
  rw [heq, bits_128]
  by_cases h : ∃ d, q d = ⊤ ∨ q d = ⊥
  · obtain ⟨d, hd⟩ := h
    have hnn : ∀ x : EReal, 0 ≤ x * x := fun x => by
      rcases le_total 0 x with hx | hx
      · exact mul_nonneg hx hx
      · rw [← neg_mul_neg]
        exact mul_nonneg (EReal.neg_nonneg.2 hx) (EReal.neg_nonneg.2 hx)
    have htop : (∑ e, q e * q e) = ⊤ := by
      refine top_le_iff.1 (le_trans ?_ (Finset.single_le_sum (fun i _ => hnn (q i)) (Finset.mem_univ d)))
      rcases hd with hd | hd <;> rw [hd] <;> simp
    refine ⟨fun _ => 0, fun d => ?_⟩
    rw [htop, Ideal.div_coe (by norm_num), EReal.top_mul_coe_of_pos (by norm_num), EReal.top_add_coe,
      Ideal.rsqrt_top, mul_zero]; rfl
  · have hq : ∀ d, ∃ r : ℝ, q d = (r : EReal) := fun d => by
      refine ⟨(q d).toReal, (EReal.coe_toReal (fun h' => h ⟨d, .inl h'⟩) (fun h' => h ⟨d, .inr h'⟩)).symm⟩
    choose r hr using hq
    have hsum : (∑ e, q e * q e) = ((∑ e, r e * r e : ℝ) : EReal) := by
      rw [coe_sum]; exact Finset.sum_congr rfl fun i _ => by rw [hr i, EReal.coe_mul]
    have hpos : 0 < (∑ e, r e * r e) / 128 + e :=
      add_pos_of_nonneg_of_pos (div_nonneg (Finset.sum_nonneg fun i _ => mul_self_nonneg _) (by norm_num)) he
    refine ⟨fun d => r d * (Real.sqrt ((∑ e, r e * r e) / 128 + e))⁻¹, fun d => ?_⟩
    rw [hsum, div_real _ _ (by norm_num), ← EReal.coe_add, Ideal.rsqrt_coe, if_neg hpos.not_gt, if_neg hpos.ne', hr d,
      EReal.coe_mul]

end Cert.SoftRow

end
-- ==== Proof.AttnRefRow.lean ====
module

public import proofs.«01_k».proof.Proof.Gen.AttnRefIdeal.Run
public import proofs.«01_k».proof.Proof.SoftRow
public import Idealize.ShloMosaic.Lib.Pipeline.ValueKit

@[expose] public section

set_option maxRecDepth 16384

noncomputable section

open Idealize.ShloMosaic Idealize.ShloMosaic.TcCoe Idealize.SL.Sem

/-! The reference's attention, cut at its steps, and each step read at an index. -/
namespace Cert.AttnRow

open Cert.SoftRow

/-- The queries divided by their root mean square and multiplied by the gain, by block and head. -/
def q6 (a0 : FVec Ideal Cert.AttnRefIdeal.S4x2048x5632 .f32) (a1 : FVec Ideal Cert.AttnRefIdeal.S128 .f32) : FVec Ideal Cert.AttnRefIdeal.S4x16x128x2x4x128 .f32 :=
  (shapeCast _ (mulf (mulf (shapeCast _ (extractStridedSlice Cert.AttnRefIdeal.S4x2048x1024 ![0, 0, 4096] a0 Cert.AttnRefIdeal.Gen.slices_S4x2048x5632_S4x2048x1024_0_0_4096) Cert.AttnRefIdeal.Gen.shapeCasts_S4x2048x1024_S4x2048x8x128) (broadcastInDim Cert.AttnRefIdeal.S4x2048x8x128 ![0, 1, 2, 3] Cert.AttnRefIdeal.Gen.bcast_S4x2048x8x1_S4x2048x8x128_0_1_2_3 (Host.rsqrt (addf (Host.divf (broadcastInDim Cert.AttnRefIdeal.S4x2048x8x1 ![0, 1, 2] Cert.AttnRefIdeal.Gen.bcast_S4x2048x8_S4x2048x8x1_0_1_2 (Host.reduceAdd (mulf (shapeCast _ (extractStridedSlice Cert.AttnRefIdeal.S4x2048x1024 ![0, 0, 4096] a0 Cert.AttnRefIdeal.Gen.slices_S4x2048x5632_S4x2048x1024_0_0_4096) Cert.AttnRefIdeal.Gen.shapeCasts_S4x2048x1024_S4x2048x8x128) (shapeCast _ (extractStridedSlice Cert.AttnRefIdeal.S4x2048x1024 ![0, 0, 4096] a0 Cert.AttnRefIdeal.Gen.slices_S4x2048x5632_S4x2048x1024_0_0_4096) Cert.AttnRefIdeal.Gen.shapeCasts_S4x2048x1024_S4x2048x8x128)) (constant Cert.AttnRefIdeal.S_ .f32 0x00000000#32) Cert.AttnRefIdeal.Gen.reducesTo_S4x2048x8x128_S4x2048x8_d3 Cert.AttnRefIdeal.Gen.h_S_)) (broadcastInDim Cert.AttnRefIdeal.S4x2048x8x1 ![] Cert.AttnRefIdeal.Gen.bcast_S_S4x2048x8x1 (constant Cert.AttnRefIdeal.S_ .f32 0x43000000#32))) (broadcastInDim Cert.AttnRefIdeal.S4x2048x8x1 ![] Cert.AttnRefIdeal.Gen.bcast_S_S4x2048x8x1 (constant Cert.AttnRefIdeal.S_ .f32 0x358637BD#32)))))) (broadcastInDim Cert.AttnRefIdeal.S4x2048x8x128 ![0, 1, 2, 3] Cert.AttnRefIdeal.Gen.bcast_S1x1x1x128_S4x2048x8x128_0_1_2_3 (broadcastInDim Cert.AttnRefIdeal.S1x1x1x128 ![3] Cert.AttnRefIdeal.Gen.bcast_S128_S1x1x1x128_3 a1))) Cert.AttnRefIdeal.Gen.shapeCasts_S4x2048x8x128_S4x16x128x2x4x128)

/-- The keys divided by their root mean square and multiplied by the gain, by block. -/
def k5 (a0 : FVec Ideal Cert.AttnRefIdeal.S4x2048x5632 .f32) (a2 : FVec Ideal Cert.AttnRefIdeal.S128 .f32) : FVec Ideal Cert.AttnRefIdeal.S4x16x128x2x128 .f32 :=
  (shapeCast _ (mulf (mulf (shapeCast _ (extractStridedSlice Cert.AttnRefIdeal.S4x2048x256 ![0, 0, 5120] a0 Cert.AttnRefIdeal.Gen.slices_S4x2048x5632_S4x2048x256_0_0_5120) Cert.AttnRefIdeal.Gen.shapeCasts_S4x2048x256_S4x2048x2x128) (broadcastInDim Cert.AttnRefIdeal.S4x2048x2x128 ![0, 1, 2, 3] Cert.AttnRefIdeal.Gen.bcast_S4x2048x2x1_S4x2048x2x128_0_1_2_3 (Host.rsqrt (addf (Host.divf (broadcastInDim Cert.AttnRefIdeal.S4x2048x2x1 ![0, 1, 2] Cert.AttnRefIdeal.Gen.bcast_S4x2048x2_S4x2048x2x1_0_1_2 (Host.reduceAdd (mulf (shapeCast _ (extractStridedSlice Cert.AttnRefIdeal.S4x2048x256 ![0, 0, 5120] a0 Cert.AttnRefIdeal.Gen.slices_S4x2048x5632_S4x2048x256_0_0_5120) Cert.AttnRefIdeal.Gen.shapeCasts_S4x2048x256_S4x2048x2x128) (shapeCast _ (extractStridedSlice Cert.AttnRefIdeal.S4x2048x256 ![0, 0, 5120] a0 Cert.AttnRefIdeal.Gen.slices_S4x2048x5632_S4x2048x256_0_0_5120) Cert.AttnRefIdeal.Gen.shapeCasts_S4x2048x256_S4x2048x2x128)) (constant Cert.AttnRefIdeal.S_ .f32 0x00000000#32) Cert.AttnRefIdeal.Gen.reducesTo_S4x2048x2x128_S4x2048x2_d3 Cert.AttnRefIdeal.Gen.h_S_)) (broadcastInDim Cert.AttnRefIdeal.S4x2048x2x1 ![] Cert.AttnRefIdeal.Gen.bcast_S_S4x2048x2x1 (constant Cert.AttnRefIdeal.S_ .f32 0x43000000#32))) (broadcastInDim Cert.AttnRefIdeal.S4x2048x2x1 ![] Cert.AttnRefIdeal.Gen.bcast_S_S4x2048x2x1 (constant Cert.AttnRefIdeal.S_ .f32 0x358637BD#32)))))) (broadcastInDim Cert.AttnRefIdeal.S4x2048x2x128 ![0, 1, 2, 3] Cert.AttnRefIdeal.Gen.bcast_S1x1x1x128_S4x2048x2x128_0_1_2_3 (broadcastInDim Cert.AttnRefIdeal.S1x1x1x128 ![3] Cert.AttnRefIdeal.Gen.bcast_S128_S1x1x1x128_3 a2))) Cert.AttnRefIdeal.Gen.shapeCasts_S4x2048x2x128_S4x16x128x2x128)

/-- The values, by block. -/
def v5 (a0 : FVec Ideal Cert.AttnRefIdeal.S4x2048x5632 .f32) : FVec Ideal Cert.AttnRefIdeal.S4x16x128x2x128 .f32 :=
  (shapeCast _ (shapeCast _ (extractStridedSlice Cert.AttnRefIdeal.S4x2048x256 ![0, 0, 5376] a0 Cert.AttnRefIdeal.Gen.slices_S4x2048x5632_S4x2048x256_0_0_5376) Cert.AttnRefIdeal.Gen.shapeCasts_S4x2048x256_S4x2048x2x128) Cert.AttnRefIdeal.Gen.shapeCasts_S4x2048x2x128_S4x16x128x2x128)

/-- The block before (zeros before the first), then the block. -/
def kk (K5 : FVec Ideal Cert.AttnRefIdeal.S4x16x128x2x128 .f32) : FVec Ideal Cert.AttnRefIdeal.S4x16x256x2x128 .f32 :=
  (concatenate Cert.AttnRefIdeal.S4x16x256x2x128 2 [⟨Cert.AttnRefIdeal.S4x16x128x2x128, (extractStridedSlice Cert.AttnRefIdeal.S4x16x128x2x128 ![0, 0, 0, 0, 0] (pad Cert.AttnRefIdeal.S4x17x128x2x128 ![0, 1, 0, 0, 0] ![0, 0, 0, 0, 0] ![0, 0, 0, 0, 0] K5 (sitofp .f32 (constantI Cert.AttnRefIdeal.S_ 32 0#32)) Cert.AttnRefIdeal.Gen.pads_S4x16x128x2x128_S4x17x128x2x128_000_100_000_000_000 Cert.AttnRefIdeal.Gen.h_S_) Cert.AttnRefIdeal.Gen.slices_S4x17x128x2x128_S4x16x128x2x128_0_0_0_0_0)⟩, ⟨Cert.AttnRefIdeal.S4x16x128x2x128, K5⟩] Cert.AttnRefIdeal.Gen.concatenates_S4x16x128x2x128_S4x16x128x2x128_S4x16x256x2x128_d2)

/-- The places a query may look at. -/
def mk  : IVec Cert.AttnRefIdeal.S16x128x256 1 :=
  (andi (broadcastInDim Cert.AttnRefIdeal.S16x128x256 ![0, 1, 2] Cert.AttnRefIdeal.Gen.bcast_S1x128x256_S16x128x256_0_1_2 (broadcastInDim Cert.AttnRefIdeal.S1x128x256 ![1, 2] Cert.AttnRefIdeal.Gen.bcast_S128x256_S1x128x256_1_2 (andi (cmpi .sge (subi (broadcastInDim Cert.AttnRefIdeal.S128x256 ![0, 1] Cert.AttnRefIdeal.Gen.bcast_S128x1_S128x256_0_1 (broadcastInDim Cert.AttnRefIdeal.S128x1 ![0] Cert.AttnRefIdeal.Gen.bcast_S128_S128x1_0 (addi (broadcastInDim Cert.AttnRefIdeal.S128 ![] Cert.AttnRefIdeal.Gen.bcast_S_S128 (constantI Cert.AttnRefIdeal.S_ 32 128#32)) (iotaInDim Cert.AttnRefIdeal.S128 32 0)))) (broadcastInDim Cert.AttnRefIdeal.S128x256 ![0, 1] Cert.AttnRefIdeal.Gen.bcast_S1x256_S128x256_0_1 (broadcastInDim Cert.AttnRefIdeal.S1x256 ![1] Cert.AttnRefIdeal.Gen.bcast_S256_S1x256_1 (iotaInDim Cert.AttnRefIdeal.S256 32 0)))) (broadcastInDim Cert.AttnRefIdeal.S128x256 ![] Cert.AttnRefIdeal.Gen.bcast_S_S128x256 (constantI Cert.AttnRefIdeal.S_ 32 0#32))) (cmpi .sle (subi (broadcastInDim Cert.AttnRefIdeal.S128x256 ![0, 1] Cert.AttnRefIdeal.Gen.bcast_S128x1_S128x256_0_1 (broadcastInDim Cert.AttnRefIdeal.S128x1 ![0] Cert.AttnRefIdeal.Gen.bcast_S128_S128x1_0 (addi (broadcastInDim Cert.AttnRefIdeal.S128 ![] Cert.AttnRefIdeal.Gen.bcast_S_S128 (constantI Cert.AttnRefIdeal.S_ 32 128#32)) (iotaInDim Cert.AttnRefIdeal.S128 32 0)))) (broadcastInDim Cert.AttnRefIdeal.S128x256 ![0, 1] Cert.AttnRefIdeal.Gen.bcast_S1x256_S128x256_0_1 (broadcastInDim Cert.AttnRefIdeal.S1x256 ![1] Cert.AttnRefIdeal.Gen.bcast_S256_S1x256_1 (iotaInDim Cert.AttnRefIdeal.S256 32 0)))) (broadcastInDim Cert.AttnRefIdeal.S128x256 ![] Cert.AttnRefIdeal.Gen.bcast_S_S128x256 (constantI Cert.AttnRefIdeal.S_ 32 128#32)))))) (broadcastInDim Cert.AttnRefIdeal.S16x128x256 ![0, 1, 2] Cert.AttnRefIdeal.Gen.bcast_S16x1x256_S16x128x256_0_1_2 (ori (broadcastInDim Cert.AttnRefIdeal.S16x1x256 ![0, 1, 2] Cert.AttnRefIdeal.Gen.bcast_S16x1x1_S16x1x256_0_1_2 (cmpi .sgt (broadcastInDim Cert.AttnRefIdeal.S16x1x1 ![0] Cert.AttnRefIdeal.Gen.bcast_S16_S16x1x1_0 (iotaInDim Cert.AttnRefIdeal.S16 32 0)) (broadcastInDim Cert.AttnRefIdeal.S16x1x1 ![] Cert.AttnRefIdeal.Gen.bcast_S_S16x1x1 (constantI Cert.AttnRefIdeal.S_ 32 0#32)))) (broadcastInDim Cert.AttnRefIdeal.S16x1x256 ![0, 1, 2] Cert.AttnRefIdeal.Gen.bcast_S1x1x256_S16x1x256_0_1_2 (cmpi .sge (broadcastInDim Cert.AttnRefIdeal.S1x1x256 ![2] Cert.AttnRefIdeal.Gen.bcast_S256_S1x1x256_2 (iotaInDim Cert.AttnRefIdeal.S256 32 0)) (broadcastInDim Cert.AttnRefIdeal.S1x1x256 ![] Cert.AttnRefIdeal.Gen.bcast_S_S1x1x256 (constantI Cert.AttnRefIdeal.S_ 32 128#32)))))))

/-- The distance terms. -/
def sl  : FVec Ideal Cert.AttnRefIdeal.S1x1x2x4x128x256 .f32 :=
  (mulf (broadcastInDim Cert.AttnRefIdeal.S1x1x2x4x128x256 ![0, 1, 2, 3, 4, 5] Cert.AttnRefIdeal.Gen.bcast_S1x1x2x4x1x1_S1x1x2x4x128x256_0_1_2_3_4_5 (broadcastInDim Cert.AttnRefIdeal.S1x1x2x4x1x1 ![2, 3] Cert.AttnRefIdeal.Gen.bcast_S2x4_S1x1x2x4x1x1_2_3 (shapeCast _ (Host.powf (broadcastInDim Cert.AttnRefIdeal.S8 ![] Cert.AttnRefIdeal.Gen.bcast_S_S8 (constant Cert.AttnRefIdeal.S_ .f32 0x40000000#32)) (Host.divf (mulf (broadcastInDim Cert.AttnRefIdeal.S8 ![] Cert.AttnRefIdeal.Gen.bcast_S_S8 (constant Cert.AttnRefIdeal.S_ .f32 0xC1000000#32)) (sitofp .f32 (addi (broadcastInDim Cert.AttnRefIdeal.S8 ![] Cert.AttnRefIdeal.Gen.bcast_S_S8 (constantI Cert.AttnRefIdeal.S_ 32 1#32)) (iotaInDim Cert.AttnRefIdeal.S8 32 0)))) (broadcastInDim Cert.AttnRefIdeal.S8 ![] Cert.AttnRefIdeal.Gen.bcast_S_S8 (constant Cert.AttnRefIdeal.S_ .f32 0x41000000#32)))) Cert.AttnRefIdeal.Gen.shapeCasts_S8_S2x4))) (broadcastInDim Cert.AttnRefIdeal.S1x1x2x4x128x256 ![0, 1, 2, 3, 4, 5] Cert.AttnRefIdeal.Gen.bcast_S1x1x1x1x128x256_S1x1x2x4x128x256_0_1_2_3_4_5 (sitofp .f32 (broadcastInDim Cert.AttnRefIdeal.S1x1x1x1x128x256 ![1, 4, 5] Cert.AttnRefIdeal.Gen.bcast_S1x128x256_S1x1x1x1x128x256_1_4_5 (broadcastInDim Cert.AttnRefIdeal.S1x128x256 ![1, 2] Cert.AttnRefIdeal.Gen.bcast_S128x256_S1x128x256_1_2 (subi (broadcastInDim Cert.AttnRefIdeal.S128x256 ![0, 1] Cert.AttnRefIdeal.Gen.bcast_S128x1_S128x256_0_1 (broadcastInDim Cert.AttnRefIdeal.S128x1 ![0] Cert.AttnRefIdeal.Gen.bcast_S128_S128x1_0 (addi (broadcastInDim Cert.AttnRefIdeal.S128 ![] Cert.AttnRefIdeal.Gen.bcast_S_S128 (constantI Cert.AttnRefIdeal.S_ 32 128#32)) (iotaInDim Cert.AttnRefIdeal.S128 32 0)))) (broadcastInDim Cert.AttnRefIdeal.S128x256 ![0, 1] Cert.AttnRefIdeal.Gen.bcast_S1x256_S128x256_0_1 (broadcastInDim Cert.AttnRefIdeal.S1x256 ![1] Cert.AttnRefIdeal.Gen.bcast_S256_S1x256_1 (iotaInDim Cert.AttnRefIdeal.S256 32 0)))))))))

/-- The masked scores. -/
def sc (KK : FVec Ideal Cert.AttnRefIdeal.S4x16x256x2x128 .f32) (Q6 : FVec Ideal Cert.AttnRefIdeal.S4x16x128x2x4x128 .f32) : FVec Ideal Cert.AttnRefIdeal.S4x16x2x4x128x256 .f32 :=
  (select (broadcastInDim Cert.AttnRefIdeal.S4x16x2x4x128x256 ![0, 1, 2, 3, 4, 5] Cert.AttnRefIdeal.Gen.bcast_S1x16x1x1x128x256_S4x16x2x4x128x256_0_1_2_3_4_5 (broadcastInDim Cert.AttnRefIdeal.S1x16x1x1x128x256 ![1, 4, 5] Cert.AttnRefIdeal.Gen.bcast_S16x128x256_S1x16x1x1x128x256_1_4_5 mk)) (subf (Host.divf (transpose Cert.AttnRefIdeal.S4x16x2x4x128x256 [0, 1, 2, 5, 4, 3] (Host.dotGeneral Cert.AttnRefIdeal.dot_S4x16x256x2x128_S4x16x128x2x4x128_S4x16x2x256x128x4_4_5_2_24_013_013 none KK Q6) Cert.AttnRefIdeal.Gen.transposes_S4x16x2x256x128x4_S4x16x2x4x128x256_0_1_2_5_4_3) (broadcastInDim Cert.AttnRefIdeal.S4x16x2x4x128x256 ![] Cert.AttnRefIdeal.Gen.bcast_S_S4x16x2x4x128x256 (Host.sqrt (constant Cert.AttnRefIdeal.S_ .f32 0x43000000#32)))) (broadcastInDim Cert.AttnRefIdeal.S4x16x2x4x128x256 ![0, 1, 2, 3, 4, 5] Cert.AttnRefIdeal.Gen.bcast_S1x1x2x4x128x256_S4x16x2x4x128x256_0_1_2_3_4_5 sl)) (broadcastInDim Cert.AttnRefIdeal.S4x16x2x4x128x256 ![] Cert.AttnRefIdeal.Gen.bcast_S_S4x16x2x4x128x256 (constant Cert.AttnRefIdeal.S_ .f32 0xFF800000#32)))

/-- The scores and the sink behind them. -/
def ct (SC : FVec Ideal Cert.AttnRefIdeal.S4x16x2x4x128x256 .f32) (a3 : FVec Ideal Cert.AttnRefIdeal.S8 .f32) : FVec Ideal Cert.AttnRefIdeal.S4x16x2x4x128x257 .f32 :=
  (concatenate Cert.AttnRefIdeal.S4x16x2x4x128x257 5 [⟨Cert.AttnRefIdeal.S4x16x2x4x128x256, SC⟩, ⟨Cert.AttnRefIdeal.S4x16x2x4x128x1, (broadcastInDim Cert.AttnRefIdeal.S4x16x2x4x128x1 ![0, 1, 2, 3, 4, 5] Cert.AttnRefIdeal.Gen.bcast_S1x1x2x4x1x1_S4x16x2x4x128x1_0_1_2_3_4_5 (broadcastInDim Cert.AttnRefIdeal.S1x1x2x4x1x1 ![2, 3] Cert.AttnRefIdeal.Gen.bcast_S2x4_S1x1x2x4x1x1_2_3 (shapeCast _ a3 Cert.AttnRefIdeal.Gen.shapeCasts_S8_S2x4)))⟩] Cert.AttnRefIdeal.Gen.concatenates_S4x16x2x4x128x256_S4x16x2x4x128x1_S4x16x2x4x128x257_d5)

/-- The greatest entry of each row. -/
def mx (CT : FVec Ideal Cert.AttnRefIdeal.S4x16x2x4x128x257 .f32) : FVec Ideal Cert.AttnRefIdeal.S4x16x2x4x128 .f32 :=
  Host.reduce FloatOps.maximumf CT (constant Cert.AttnRefIdeal.S_ .f32 0xFF800000#32) Cert.AttnRefIdeal.Gen.reducesTo_S4x16x2x4x128x257_S4x16x2x4x128_d5 Cert.AttnRefIdeal.Gen.h_S_

/-- The exponentials of the row less its maximum. -/
def exm (CT : FVec Ideal Cert.AttnRefIdeal.S4x16x2x4x128x257 .f32) (M : FVec Ideal Cert.AttnRefIdeal.S4x16x2x4x128 .f32) : FVec Ideal Cert.AttnRefIdeal.S4x16x2x4x128x257 .f32 :=
  (Host.exp (subf CT (broadcastInDim Cert.AttnRefIdeal.S4x16x2x4x128x257 ![0, 1, 2, 3, 4, 5] Cert.AttnRefIdeal.Gen.bcast_S4x16x2x4x128x1_S4x16x2x4x128x257_0_1_2_3_4_5 (broadcastInDim Cert.AttnRefIdeal.S4x16x2x4x128x1 ![0, 1, 2, 3, 4] Cert.AttnRefIdeal.Gen.bcast_S4x16x2x4x128_S4x16x2x4x128x1_0_1_2_3_4 (maximumf (broadcastInDim Cert.AttnRefIdeal.S4x16x2x4x128 ![] Cert.AttnRefIdeal.Gen.bcast_S_S4x16x2x4x128 (constant Cert.AttnRefIdeal.S_ .f32 0xFF800000#32)) M)))))

def ex (CT : FVec Ideal Cert.AttnRefIdeal.S4x16x2x4x128x257 .f32) : FVec Ideal Cert.AttnRefIdeal.S4x16x2x4x128x257 .f32 :=
  exm CT (mx CT)

/-- The weights. -/
def wt (EX : FVec Ideal Cert.AttnRefIdeal.S4x16x2x4x128x257 .f32) : FVec Ideal Cert.AttnRefIdeal.S4x16x2x4x128x256 .f32 :=
  (extractStridedSlice Cert.AttnRefIdeal.S4x16x2x4x128x256 ![0, 0, 0, 0, 0, 0] (Host.divf EX (broadcastInDim Cert.AttnRefIdeal.S4x16x2x4x128x257 ![0, 1, 2, 3, 4, 5] Cert.AttnRefIdeal.Gen.bcast_S4x16x2x4x128x1_S4x16x2x4x128x257_0_1_2_3_4_5 (broadcastInDim Cert.AttnRefIdeal.S4x16x2x4x128x1 ![0, 1, 2, 3, 4] Cert.AttnRefIdeal.Gen.bcast_S4x16x2x4x128_S4x16x2x4x128x1_0_1_2_3_4 (Host.reduceAdd EX (constant Cert.AttnRefIdeal.S_ .f32 0x00000000#32) Cert.AttnRefIdeal.Gen.reducesTo_S4x16x2x4x128x257_S4x16x2x4x128_d5 Cert.AttnRefIdeal.Gen.h_S_)))) Cert.AttnRefIdeal.Gen.slices_S4x16x2x4x128x257_S4x16x2x4x128x256_0_0_0_0_0_0)

/-- The weighted values. -/
def out (VV : FVec Ideal Cert.AttnRefIdeal.S4x16x256x2x128 .f32) (WT : FVec Ideal Cert.AttnRefIdeal.S4x16x2x4x128x256 .f32) : FVec Ideal Cert.AttnRefIdeal.S4x2048x1024 .bf16 :=
  truncf .bf16 (shapeCast _ (transpose Cert.AttnRefIdeal.S4x16x128x2x4x128 [0, 1, 5, 2, 4, 3] (Host.dotGeneral Cert.AttnRefIdeal.dot_S4x16x256x2x128_S4x16x2x4x128x256_S4x16x2x128x4x128_2_5_4_34_013_012 none VV WT) Cert.AttnRefIdeal.Gen.transposes_S4x16x2x128x4x128_S4x16x128x2x4x128_0_1_5_2_4_3) Cert.AttnRefIdeal.Gen.shapeCasts_S4x16x128x2x4x128_S4x2048x1024) Cert.AttnRefIdeal.Gen.bitsLt_bf16_f32

section Fibers

variable {n0 n1 n2 n3 n4 n5 : ℕ}

/-- The indices of a rank-six shape that drop to an index without the last coordinate. -/
theorem fiber6 (h : (⟨6, ![n0, n1, n2, n3, n4, n5]⟩ : Shape).ReducesTo [5] ⟨5, ![n0, n1, n2, n3, n4]⟩)
    (a : Fin n0) (b : Fin n1) (c : Fin n2) (e : Fin n3) (f : Fin n4) (i : (⟨6, ![n0, n1, n2, n3, n4, n5]⟩ : Shape).Idx) :
    h.drop i = ix5 a b c e f ↔ ∃ k : Fin n5, ix6 a b c e f k = i := by
  constructor
  · intro eq
    refine ⟨i 5, ?_⟩
    funext x; apply Fin.ext
    match x with
    | ⟨0, _⟩ => exact (congrArg Fin.val (congrFun eq 0)).symm
    | ⟨1, _⟩ => exact (congrArg Fin.val (congrFun eq 1)).symm
    | ⟨2, _⟩ => exact (congrArg Fin.val (congrFun eq 2)).symm
    | ⟨3, _⟩ => exact (congrArg Fin.val (congrFun eq 3)).symm
    | ⟨4, _⟩ => exact (congrArg Fin.val (congrFun eq 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem sum6 (h : (⟨6, ![n0, n1, n2, n3, n4, n5]⟩ : Shape).ReducesTo [5] ⟨5, ![n0, n1, n2, n3, n4]⟩)
    (a : Fin n0) (b : Fin n1) (c : Fin n2) (e : Fin n3) (f : Fin n4)
    (v : (⟨6, ![n0, n1, n2, n3, n4, n5]⟩ : Shape).Idx → EReal) (init : EReal) :
    Ideal.hostReduceAdd h v init (ix5 a b c e f) = init + ∑ k : Fin n5, v (ix6 a b c e f k) :=
  congrArg (init + ·) (Finset.sum_filter_eq_sum_of_fiber _ (fun k : Fin n5 => ix6 a b c e f k)
    (fun _ _ eq => congrFun eq 5) (fiber6 h a b c e f) v)

theorem fold6 (h : (⟨6, ![n0, n1, n2, n3, n4, n5]⟩ : Shape).ReducesTo [5] ⟨5, ![n0, n1, n2, n3, n4]⟩)
    (a : Fin n0) (b : Fin n1) (c : Fin n2) (e : Fin n3) (f : Fin n4)
    (v : (⟨6, ![n0, n1, n2, n3, n4, n5]⟩ : Shape).Idx → EReal) (init : EReal) :
    (Finset.univ.filter (fun i => h.drop i = ix5 a b c e f)).fold max init v
      = (Finset.univ : Finset (Fin n5)).fold max init (fun k => v (ix6 a b c e f k)) :=
  Finset.fold_filter_eq_fold_of_fiber max _ (fun k : Fin n5 => ix6 a b c e f k)
    (fun _ _ eq => congrFun eq 5) (fiber6 h a b c e f) init v

theorem reduce6 (h : (⟨6, ![n0, n1, n2, n3, n4, n5]⟩ : Shape).ReducesTo [5] ⟨5, ![n0, n1, n2, n3, n4]⟩) {u : Shape}
    (hu : 0 < u.numel) (a : Fin n0) (b : Fin n1) (c : Fin n2) (e : Fin n3) (f : Fin n4)
    (v : (⟨6, ![n0, n1, n2, n3, n4, n5]⟩ : Shape).Idx → EReal) (init : u.Idx → EReal) :
    Host.reduce max v init h hu (ix5 a b c e f)
      = (Finset.univ : Finset (Fin n5)).fold max (init (Shape.Idx.first hu)) (fun k => v (ix6 a b c e f k)) := by
  rw [Host.reduce_eq_fold]
  exact fold6 h a b c e f v _

end Fibers

/-- A row of a projection divided by its root mean square. -/
def rms (x : Fin 128 → EReal) (d : Fin 128) : EReal :=
  x d * Ideal.rsqrt (Ideal.div (∑ e, x e * x e) (Ideal.ofBits .f32 0x43000000#32) + Ideal.ofBits .f32 0x358637BD#32)

/-- The window's bit, the block's bit, and both: the place `s` is one the query `r` of block `n` looks at. -/
def inw (r : Fin 128) (s : Fin 256) : BitVec 1 :=
  IntOp.andi
    (IntOp.cmpi .sge (IntOp.subi (IntOp.addi 128#32 (BitVec.ofNat 32 r.val)) (BitVec.ofNat 32 s.val)) 0#32)
    (IntOp.cmpi .sle (IntOp.subi (IntOp.addi 128#32 (BitVec.ofNat 32 r.val)) (BitVec.ofNat 32 s.val)) 128#32)

def fst (n : ℕ) (s : Fin 256) : BitVec 1 :=
  IntOp.ori (IntOp.cmpi .sgt (BitVec.ofNat 32 n) 0#32) (IntOp.cmpi .sge (BitVec.ofNat 32 s.val) 128#32)

def ok (n : ℕ) (r : Fin 128) (s : Fin 256) : Prop := IntOp.andi (inw r s) (fst n s) = 1#1

instance (n : ℕ) (r : Fin 128) : DecidablePred (ok n r) := fun s => inferInstanceAs (Decidable (_ = _))

/-- The distance of a query to a place, a whole number. -/
def gap (r : Fin 128) (s : Fin 256) : ℝ :=
  ((IntOp.subi (IntOp.addi 128#32 (BitVec.ofNat 32 r.val)) (BitVec.ofNat 32 s.val)).toInt : ℝ)

theorem q6_at (a0 : FVec Ideal Cert.AttnRefIdeal.S4x2048x5632 .f32) (a1 : FVec Ideal Cert.AttnRefIdeal.S128 .f32)
    (b : Fin 4) (n : Fin 16) (r : Fin 128) (h : Fin 2) (g : Fin 4) (d : Fin 128) :
    q6 a0 a1 (ix6 b n r h g d) = rms (fun e => a0 (ix3 b ⟨n.val * 128 + r.val, by omega⟩ ⟨4096 + ((h.val * 4 + g.val) * 128 + e.val), by omega⟩)) d * a1 (ix1 d) := by
  pointwise [q6, rms]

theorem k5_at (a0 : FVec Ideal Cert.AttnRefIdeal.S4x2048x5632 .f32) (a1 : FVec Ideal Cert.AttnRefIdeal.S128 .f32)
    (b : Fin 4) (n : Fin 16) (r : Fin 128) (h : Fin 2) (d : Fin 128) :
    k5 a0 a1 (ix5 b n r h d) = rms (fun e => a0 (ix3 b ⟨n.val * 128 + r.val, by omega⟩ ⟨5120 + (h.val * 128 + e.val), by omega⟩)) d * a1 (ix1 d) := by
  pointwise [k5, rms]

theorem v5_at (a0 : FVec Ideal Cert.AttnRefIdeal.S4x2048x5632 .f32)
    (b : Fin 4) (n : Fin 16) (r : Fin 128) (h : Fin 2) (d : Fin 128) :
    v5 a0 (ix5 b n r h d) = a0 (ix3 b ⟨n.val * 128 + r.val, by omega⟩ ⟨5376 + (h.val * 128 + d.val), by omega⟩) := by
  pointwise [v5]

theorem kk_at (K5 : FVec Ideal Cert.AttnRefIdeal.S4x16x128x2x128 .f32)
    (b : Fin 4) (n : Fin 16) (s : Fin 256) (h : Fin 2) (d : Fin 128) :
    kk K5 (ix5 b n s h d) = if h1 : s.val < 128 then
        (if h2 : (1 ≤ n.val ∧ n.val - 1 < 16) ∧ s.val < 128 then K5 (ix5 b ⟨n.val - 1, by omega⟩ ⟨s.val, by omega⟩ h d)
          else FloatOps.sitofp (F := Ideal) .f32 0#32)
      else K5 (ix5 b n ⟨s.val - 128, by omega⟩ h d) := by
  pointwise [kk]

theorem mk_at (n : Fin 16) (r : Fin 128) (s : Fin 256) :
    mk (ix3 n r s) = IntOp.andi (inw r s) (fst n.val s) := by
  pointwise [mk, inw, fst]

/-- The slope of head `k`, as the reference computes it. -/
theorem slope_at (k : Fin 8) :
    Ideal.pow (Ideal.ofBits .f32 0x40000000#32) (Ideal.div (Ideal.ofBits .f32 0xC1000000#32
      * FloatOps.sitofp (F := Ideal) .f32 (IntOp.addi 1#32 (BitVec.ofNat 32 k.val))) (Ideal.ofBits .f32 0x41000000#32))
      = (((1 / 2) ^ (k.val + 1) : ℝ) : EReal) := by
  have h2 : Ideal.ofBits .f32 0x40000000#32 = ((2 : ℝ) : EReal) := by
    simp [Ideal.ofBits, Ideal.ieee]; rw [← EReal.coe_mul]; norm_num
  have h8 : Ideal.ofBits .f32 0x41000000#32 = ((8 : ℝ) : EReal) := by
    simp [Ideal.ofBits, Ideal.ieee]; rw [← EReal.coe_mul]; norm_num
  have hm8 : Ideal.ofBits .f32 0xC1000000#32 = ((-8 : ℝ) : EReal) := by
    simp [Ideal.ofBits, Ideal.ieee]; rw [← EReal.coe_mul]; norm_num
  have hk : (IntOp.addi 1#32 (BitVec.ofNat 32 k.val)).toInt = (k.val : ℤ) + 1 := by
    revert k; decide
  have hs : FloatOps.sitofp (F := Ideal) .f32 (IntOp.addi 1#32 (BitVec.ofNat 32 k.val))
      = (((k.val : ℝ) + 1 : ℝ) : EReal) := by
    show (((IntOp.addi 1#32 (BitVec.ofNat 32 k.val)).toInt : ℝ) : EReal) = _
    rw [hk]; push_cast; rfl
  rw [h2, h8, hm8, hs, ← EReal.coe_mul, div_real _ _ (by norm_num)]
  show ((Real.rpow 2 (-8 * ((k.val : ℝ) + 1) / 8) : ℝ) : EReal) = _
  congr 1
  have : (-8 * ((k.val : ℝ) + 1) / 8) = -((k.val + 1 : ℕ) : ℝ) := by push_cast; ring
  rw [this]
  show (2 : ℝ) ^ (-((k.val + 1 : ℕ) : ℝ)) = _
  rw [Real.rpow_neg (by norm_num), Real.rpow_natCast, one_div, inv_pow]

theorem sl_at (h : Fin 2) (g : Fin 4) (r : Fin 128) (s : Fin 256) :
    sl (ix6 0 0 h g r s) = (((1 / 2) ^ (h.val * 4 + g.val + 1) * gap r s : ℝ) : EReal) := by
  rw [EReal.coe_mul, ← slope_at ⟨h.val * 4 + g.val, by omega⟩]
  pointwise [sl]
  rfl

theorem sc_at (KK : FVec Ideal Cert.AttnRefIdeal.S4x16x256x2x128 .f32) (Q6 : FVec Ideal Cert.AttnRefIdeal.S4x16x128x2x4x128 .f32)
    (b : Fin 4) (n : Fin 16) (r : Fin 128) (h : Fin 2) (g : Fin 4) (s : Fin 256) :
    sc KK Q6 (ix6 b n h g r s) = if ok n.val r s then
      Ideal.div (∑ x, KK (ix5 b n s h x) * Q6 (ix6 b n r h g x)) (Ideal.sqrt (Ideal.ofBits .f32 0x43000000#32))
        - sl (ix6 0 0 h g r s) else ⊥ := by
  pointwise [sc, mk_at, bits_bot]
  rfl

theorem ct_at (SC : FVec Ideal Cert.AttnRefIdeal.S4x16x2x4x128x256 .f32) (a3 : FVec Ideal Cert.AttnRefIdeal.S8 .f32)
    (b : Fin 4) (n : Fin 16) (r : Fin 128) (h : Fin 2) (g : Fin 4) (s : Fin 257) :
    ct SC a3 (ix6 b n h g r s)
      = behind (fun s => SC (ix6 b n h g r s)) (a3 (ix1 ⟨h.val * 4 + g.val, by omega⟩)) s := by
  pointwise [ct, behind]

theorem mx_at (CT : FVec Ideal Cert.AttnRefIdeal.S4x16x2x4x128x257 .f32)
    (b : Fin 4) (n : Fin 16) (r : Fin 128) (h : Fin 2) (g : Fin 4) :
    mx CT (ix5 b n h g r) = Finset.univ.fold max ⊥ fun k => CT (ix6 b n h g r k) := by
  rw [← bits_bot]
  exact reduce6 Cert.AttnRefIdeal.Gen.reducesTo_S4x16x2x4x128x257_S4x16x2x4x128_d5 _ b n h g r CT _

theorem exm_at (CT : FVec Ideal Cert.AttnRefIdeal.S4x16x2x4x128x257 .f32) (M : FVec Ideal Cert.AttnRefIdeal.S4x16x2x4x128 .f32)
    (b : Fin 4) (n : Fin 16) (r : Fin 128) (h : Fin 2) (g : Fin 4) (s : Fin 257) :
    exm CT M (ix6 b n h g r s) = Ideal.exp (CT (ix6 b n h g r s) - max ⊥ (M (ix5 b n h g r))) := by
  pointwise [exm, bits_bot]

theorem ex_at (CT : FVec Ideal Cert.AttnRefIdeal.S4x16x2x4x128x257 .f32)
    (b : Fin 4) (n : Fin 16) (r : Fin 128) (h : Fin 2) (g : Fin 4) (s : Fin 257) :
    ex CT (ix6 b n h g r s) = Ideal.exp (CT (ix6 b n h g r s)
      - max ⊥ (Finset.univ.fold max ⊥ fun k => CT (ix6 b n h g r k))) :=
  (exm_at CT (mx CT) b n r h g s).trans (by rw [mx_at])

theorem wt_at (EX : FVec Ideal Cert.AttnRefIdeal.S4x16x2x4x128x257 .f32)
    (b : Fin 4) (n : Fin 16) (r : Fin 128) (h : Fin 2) (g : Fin 4) (s : Fin 256) :
    wt EX (ix6 b n h g r s) = Ideal.div (EX (ix6 b n h g r s.castSucc)) (∑ k : Fin 257, EX (ix6 b n h g r k)) := by
  pointwise [wt, sum6]
  rfl

theorem out_at (VV : FVec Ideal Cert.AttnRefIdeal.S4x16x256x2x128 .f32) (WT : FVec Ideal Cert.AttnRefIdeal.S4x16x2x4x128x256 .f32)
    (b : Fin 4) (t : Fin 2048) (e : Fin 1024) :
    out VV WT (ix3 b t e) = ∑ x : Fin 256, VV (ix5 b ⟨t.val / 128, by omega⟩ x ⟨e.val / 512, by omega⟩ ⟨e.val % 128, by omega⟩)
      * WT (ix6 b ⟨t.val / 128, by omega⟩ ⟨e.val / 512, by omega⟩ ⟨e.val / 128 % 4, by omega⟩ ⟨t.val % 128, by omega⟩ x) := by
  pointwise [out]

end Cert.AttnRow

end
-- ==== Proof.AttnHead.lean ====
module

public import proofs.«01_k».proof.Proof.Gen.AttnIdeal.Skeleton
public import proofs.«01_k».proof.Proof.AttnRefRow
public import Idealize.ShloMosaic.Lib.Pipeline.ValueKit

@[expose] public section

set_option maxRecDepth 16384

noncomputable section

open Idealize.ShloMosaic Idealize.ShloMosaic.TcCoe Idealize.SL.Sem

/-! What one head of one block of queries stores, as a function of its operands. -/
namespace Cert.AttnHead

open Cert.AttnIdeal Cert.AttnIdeal.Gen

variable {F : FTy → Type} [FloatOps F] [Named F]

/-- One head on 128 queries and 256 keys: the queries' norm, the scores with their distance term, the weights,
    and the weighted values. `al` is the head's slope, `sk` its sink. -/
def head (al : F .f32) (dist : FVec F S128x256 .f32) (qg : FVec F S1x128 .f32) (k2 : FVec F S256x128 .bf16) (v2 : FVec F S256x128 .bf16) (q : Vec F S1x1x128x128 .bf16) (sk : Elt F .f32) : FVec F S1x128x128 .bf16 :=
  have x0 : FVec F S128x128 .bf16 := shapeCast S128x128 q shapeCasts_S1x1x128x128_S128x128
  have x1 : FVec F S128x128 .f32 := extf .f32 x0 bitsLt_bf16_f32
  have x2 : FVec F S128x128 .f32 := mulf x1 x1
  have x3 : FVec F S128 .f32 := multiReduction .add [1] S128 x2 0x00000000#32 reduces_S128x128_S128 (.inl rfl) rfl
  have x4 : FVec F S128x1 .f32 := shapeCast S128x1 x3 shapeCasts_S128_S128x1
  have cst_583 : F .f32 := Scalar.ofBits .f32 0x43000000#32
  have x5 : FVec F S128x1 .f32 := broadcast S128x1 cst_583
  have x6 : FVec F S128x1 .f32 := divf x4 x5
  have cst_584 : F .f32 := Scalar.ofBits .f32 0x358637BD#32
  have x7 : FVec F S128x1 .f32 := broadcast S128x1 cst_584
  have x8 : FVec F S128x1 .f32 := addf x6 x7
  have x9 : FVec F S128x1 .f32 := rsqrt x8
  have x10 : FVec F S128x128 .f32 := broadcastTo S128x128 x9 broadcasts_S128x1_S128x128
  have x11 : FVec F S128x128 .f32 := mulf x1 x10
  have x12 : FVec F S128x128 .f32 := broadcastTo S128x128 qg broadcasts_S1x128_S128x128
  have x13 : FVec F S128x128 .f32 := mulf x11 x12
  have x14 : FVec F S128x128 .bf16 := truncf .bf16 x13 bitsLt_bf16_f32
  have cst_585 : FVec F S128x256 .f32 := constant S128x256 .f32 0x00000000#32
  have x15 : FVec F S128x256 .f32 := matmul dot_S128x128_S256x128_S128x256_1_1_0_0_n_n none x14 k2 cst_585
  have x16 : FVec F S128x256 .f32 := broadcast S128x256 al
  have x17 : FVec F S128x256 .f32 := mulf x16 dist
  have x18 : FVec F S128x256 .f32 := addf x15 x17
  have cst_588 : F .f32 := Named.named κ "log2e" 0x3FB8AA3B#32
  have x19 : F .f32 := Scalar.mulf sk cst_588
  have x20 : FVec F S128 .f32 := multiReduction .maximumf [1] S128 x18 0xFF800000#32 reduces_S128x256_S128 (.inl rfl) rfl
  have x21 : FVec F S128x1 .f32 := shapeCast S128x1 x20 shapeCasts_S128_S128x1
  have x22 : FVec F S128x1 .f32 := broadcast S128x1 x19
  have x23 : FVec F S128x1 .f32 := maximumf x21 x22
  have x24 : FVec F S128x256 .f32 := broadcastTo S128x256 x23 broadcasts_S128x1_S128x256
  have x25 : FVec F S128x256 .f32 := subf x18 x24
  have x26 : FVec F S128x256 .f32 := exp2 x25
  have x27 : FVec F S128 .f32 := multiReduction .add [1] S128 x26 0x00000000#32 reduces_S128x256_S128 (.inl rfl) rfl
  have x28 : FVec F S128x1 .f32 := shapeCast S128x1 x27 shapeCasts_S128_S128x1
  have x29 : FVec F S128x1 .f32 := broadcast S128x1 x19
  have x30 : FVec F S128x1 .f32 := subf x29 x23
  have x31 : FVec F S128x1 .f32 := exp2 x30
  have x32 : FVec F S128x1 .f32 := addf x28 x31
  have x33 : FVec F S128x256 .bf16 := truncf .bf16 x26 bitsLt_bf16_f32
  have cst_591 : FVec F S128x128 .f32 := constant S128x128 .f32 0x00000000#32
  have x34 : FVec F S128x128 .f32 := matmul dot_S128x256_S256x128_S128x128_1_0_0_1_n_n none x33 v2 cst_591
  have cst_592 : F .f32 := Scalar.ofBits .f32 0x3F800000#32
  have x35 : FVec F S128x1 .f32 := broadcast S128x1 cst_592
  have x36 : FVec F S128x1 .f32 := divf x35 x32
  have x37 : FVec F S128x128 .f32 := broadcastTo S128x128 x36 broadcasts_S128x1_S128x128
  have x38 : FVec F S128x128 .f32 := mulf x34 x37
  have x39 : FVec F S128x128 .bf16 := truncf .bf16 x38 bitsLt_bf16_f32
  have x40 : FVec F S1x128x128 .bf16 := shapeCast S1x128x128 x39 shapeCasts_S128x128_S1x128x128
  x40

/-- The score of a query and a key in the kernel. -/
def ks (al : EReal) (dist : FVec Ideal S128x256 .f32) (qg : FVec Ideal S1x128 .f32)
    (k2 : FVec Ideal S256x128 .bf16) (q : Vec Ideal S1x1x128x128 .bf16) (r : Fin 128) (s : Fin 256) : EReal :=
  (∑ x : Fin 128, AttnRow.rms (fun e => q (ix4 0 0 r e)) x * qg (ix2 0 x) * k2 (ix2 s x)) + al * dist (ix2 r s)

/-- One entry of one head. -/
def ko (S : Fin 256 → EReal) (v : Fin 256 → EReal) (c : EReal) : EReal :=
  (∑ s, Ideal.exp2 (S s - max (Finset.univ.fold max ⊥ S) c) * v s)
    * Ideal.div 1 ((∑ s, Ideal.exp2 (S s - max (Finset.univ.fold max ⊥ S) c))
        + Ideal.exp2 (c - max (Finset.univ.fold max ⊥ S) c))

theorem head_at (al : Ideal .f32) (dist : FVec Ideal S128x256 .f32) (qg : FVec Ideal S1x128 .f32)
    (k2 v2 : FVec Ideal S256x128 .bf16) (q : Vec Ideal S1x1x128x128 .bf16) (sk : Elt Ideal .f32)
    (r d : Fin 128) :
    head al dist qg k2 v2 q sk (ix3 0 r d)
      = ko (ks al dist qg k2 q r) (fun s => v2 (ix2 s d)) (sk * Named.named (F := Ideal) κ "log2e" (φ := .f32) 0x3FB8AA3B#32) := by
  pointwise [head, ks, ko, AttnRow.rms, SoftRow.bits_bot]
  rfl

end Cert.AttnHead

end
-- ==== Proof.AttnEq.lean ====
module

public import proofs.«01_k».proof.Proof.AttnHead

@[expose] public section

set_option maxRecDepth 16384

noncomputable section

open Idealize.ShloMosaic Idealize.ShloMosaic.TcCoe Idealize.SL.Sem

/-! One entry of one head, in the kernel and in the reference. -/
namespace Cert.AttnRow

open Cert.SoftRow

theorem sqrt_128 : Ideal.sqrt (Ideal.ofBits .f32 0x43000000#32) = ((√128 : ℝ) : EReal) := by
  rw [bits_128, Ideal.sqrt_coe, if_neg (by norm_num)]

theorem rms_is_real (x : Fin 128 → EReal) : ∃ u : Fin 128 → ℝ, ∀ d, rms x d = (u d : EReal) := rms_real x

theorem k5_real (a0 : FVec Ideal Cert.AttnRefIdeal.S4x2048x5632 .f32) (a2 : FVec Ideal Cert.AttnRefIdeal.S128 .f32)
    (h2 : ∀ d, ∃ c : ℝ, a2 (ix1 d) = (c : EReal))
    (b : Fin 4) (n : Fin 16) (r : Fin 128) (h : Fin 2) (d : Fin 128) :
    ∃ c : ℝ, k5 a0 a2 (ix5 b n r h d) = (c : EReal) := by
  obtain ⟨u, hu⟩ := rms_is_real (fun e => a0 (ix3 b ⟨n.val * 128 + r.val, by omega⟩ ⟨5120 + (h.val * 128 + e.val), by omega⟩))
  obtain ⟨c, hc⟩ := h2 d
  exact ⟨u d * c, by rw [k5_at, hu, hc, EReal.coe_mul]⟩

theorem kk_real (K5 : FVec Ideal Cert.AttnRefIdeal.S4x16x128x2x128 .f32)
    (hK : ∀ b n r h d, ∃ c : ℝ, K5 (ix5 b n r h d) = (c : EReal))
    (b : Fin 4) (n : Fin 16) (s : Fin 256) (h : Fin 2) (d : Fin 128) :
    ∃ c : ℝ, kk K5 (ix5 b n s h d) = (c : EReal) := by
  rw [kk_at]
  split
  · split
    · exact hK ..
    · exact ⟨((0#32).toInt : ℝ), rfl⟩
  · exact hK ..

/-- The kernel's score of a place looked at is `L` times the reference's. -/
theorem score_mul (u G K : Fin 128 → ℝ) (p y : ℝ) :
    (∑ x, (u x : EReal) * ((G x : EReal) * (((√128)⁻¹ * L : ℝ) : EReal)) * (K x : EReal)) + ((-p * L : ℝ) : EReal) * (y : EReal)
      = ((L * ((∑ x, K x * (u x * G x)) / √128 - p * y) : ℝ) : EReal) := by
  simp only [← EReal.coe_mul, ← coe_sum, ← EReal.coe_add]
  congr 1
  rw [mul_sub, div_eq_mul_inv, Finset.sum_mul, Finset.mul_sum, sub_eq_add_neg]
  congr 1
  · exact Finset.sum_congr rfl fun x _ => by ring
  · ring

theorem score_ref (u G K : Fin 128 → ℝ) (p y : ℝ) :
    Ideal.div (∑ x, (K x : EReal) * ((u x : EReal) * (G x : EReal))) (Ideal.sqrt (Ideal.ofBits .f32 0x43000000#32))
        - ((p * y : ℝ) : EReal)
      = ((1 * ((∑ x, K x * (u x * G x)) / √128 - p * y) : ℝ) : EReal) := by
  rw [sqrt_128]
  simp only [← EReal.coe_mul, ← coe_sum]
  rw [div_real _ _ (by positivity), ← EReal.coe_sub, one_mul]

/-- A masked place is at the bottom: its distance is the top and the slope is negative. -/
theorem score_masked (A : EReal) (p : ℝ) (hp : 0 < p) : A + ((-p * L : ℝ) : EReal) * ⊤ = ⊥ := by
  rw [EReal.coe_mul_top_of_neg (by have := L_pos; nlinarith [mul_pos hp L_pos]), EReal.add_bot]

open Cert.AttnHead in
/-- One entry of the attention. -/
theorem entry (a0 : FVec Ideal Cert.AttnRefIdeal.S4x2048x5632 .f32) (a1 a2 : FVec Ideal Cert.AttnRefIdeal.S128 .f32)
    (a3 : FVec Ideal Cert.AttnRefIdeal.S8 .f32)
    (h1 : ∀ d, ∃ c : ℝ, a1 (ix1 d) = (c : EReal)) (h2 : ∀ d, ∃ c : ℝ, a2 (ix1 d) = (c : EReal))
    (h3 : ∀ d, ∃ c : ℝ, a3 (ix1 d) = (c : EReal))
    (b : Fin 4) (n : Fin 16) (h : Fin 2) (g : Fin 4) (r d : Fin 128)
    (al : Ideal .f32) (dist : FVec Ideal Cert.AttnIdeal.S128x256 .f32) (qg : FVec Ideal Cert.AttnIdeal.S1x128 .f32)
    (k2 v2 : FVec Ideal Cert.AttnIdeal.S256x128 .bf16) (q : Vec Ideal Cert.AttnIdeal.S1x1x128x128 .bf16) (sk : Elt Ideal .f32)
    (hal : al = ((-(1 / 2) ^ (h.val * 4 + g.val + 1) * L : ℝ) : EReal))
    (hdist : ∀ s, dist (ix2 r s) = if ok n.val r s then ((gap r s : ℝ) : EReal) else ⊤)
    (hqg : ∀ x, qg (ix2 0 x) = a1 (ix1 x) * (((√128)⁻¹ * L : ℝ) : EReal))
    (hk : ∀ s x, ok n.val r s → k2 (ix2 s x) = kk (k5 a0 a2) (ix5 b n s h x))
    (hv : ∀ s, ok n.val r s → v2 (ix2 s d) = kk (v5 a0) (ix5 b n s h d))
    (hq : ∀ e : Fin 128, q (ix4 0 0 r e) = a0 (ix3 b ⟨n.val * 128 + r.val, by omega⟩ ⟨4096 + ((h.val * 4 + g.val) * 128 + e.val), by omega⟩))
    (hsk : sk = a3 (ix1 ⟨h.val * 4 + g.val, by omega⟩))
    (t : Fin 2048) (ht : t.val = n.val * 128 + r.val) (e : Fin 1024) (he : e.val = (h.val * 4 + g.val) * 128 + d.val) :
    head al dist qg k2 v2 q sk (ix3 0 r d)
      = out (kk (v5 a0)) (wt (ex (ct (sc (kk (k5 a0 a2)) (q6 a0 a1)) a3))) (ix3 b t e) := by
  obtain ⟨u, hu⟩ := rms_is_real (fun e => a0 (ix3 b ⟨n.val * 128 + r.val, by omega⟩ ⟨4096 + ((h.val * 4 + g.val) * 128 + e.val), by omega⟩))
  choose G hG using h1
  choose K hK using fun s x => kk_real (k5 a0 a2) (k5_real a0 a2 h2) b n s h x
  obtain ⟨w, hw⟩ := h3 ⟨h.val * 4 + g.val, by omega⟩
  have hQ : (fun e => q (ix4 0 0 r e)) = (fun e : Fin 128 => a0 (ix3 b ⟨n.val * 128 + r.val, by omega⟩ ⟨4096 + ((h.val * 4 + g.val) * 128 + e.val), by omega⟩)) :=
    funext hq
  have hlog : Named.named (F := Ideal) Cert.AttnIdeal.κ "log2e" (φ := .f32) 0x3FB8AA3B#32 = ((L : ℝ) : EReal) :=
    IdealRules.named_const.ideal_named_scalar _ _ _ _ rfl
  have e1 : (⟨t.val / 128, by omega⟩ : Fin 16) = n := Fin.ext (by show t.val / 128 = _; omega)
  have e2 : (⟨e.val / 512, by omega⟩ : Fin 2) = h := Fin.ext (by show e.val / 512 = _; omega)
  have e3 : (⟨e.val % 128, by omega⟩ : Fin 128) = d := Fin.ext (by show e.val % 128 = _; omega)
  have e4 : (⟨e.val / 128 % 4, by omega⟩ : Fin 4) = g := Fin.ext (by show e.val / 128 % 4 = _; omega)
  have e5 : (⟨t.val % 128, by omega⟩ : Fin 128) = r := Fin.ext (by show t.val % 128 = _; omega)
  rw [head_at, out_at, e1, e2, e3, e4, e5, hsk, hw, hlog]
  simp only [wt_at, ex_at]
  refine row (ok n.val r)
    (fun s => (∑ x, K s x * (u x * G x)) / √128 - (1 / 2) ^ (h.val * 4 + g.val + 1) * gap r s) w
    (fun s => v2 (ix2 s d)) (fun s => kk (v5 a0) (ix5 b n s h d)) hv _ ?_ (fun k => ct (sc (kk (k5 a0 a2)) (q6 a0 a1)) a3 (ix6 b n h g r k)) ?_
  · intro s
    rw [ks, hQ]
    simp only [hu, hqg, hG, hal, hdist, score]
    by_cases hs : ok n.val r s
    · simp only [hs, if_true, hk s _ hs, hK]
      exact score_mul u G (K s) _ _
    · simp only [hs, if_false]
      exact score_masked _ _ (by positivity)
  · intro k
    rw [ct_at, hw]
    congr 1
    funext s
    rw [sc_at, sl_at, score]
    by_cases hs : ok n.val r s
    · simp only [hs, if_true, hK, q6_at, hu, hG]
      exact score_ref u G (K s) _ _
    · simp only [hs, if_false]

end Cert.AttnRow

end
-- ==== Proof.AttnOperands.lean ====
/- The operands of one head in `Cert.AttnIdeal`: the keys, the values and the distances, read as the reference's. -/
module

public import proofs.«01_k».proof.Proof.AttnBlocks
public import proofs.«01_k».proof.Proof.AttnEq

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnRow

variable (m : (ℓ : Loc nD τ sig) → Buf (Elt Ideal) ℓ)

/-- One head's keys, the block before and the blocks of the point, normed. -/
def keys (kn : Vec Ideal S1x128 .f32) (cur : Vec Ideal S1x1x512x128 .f32) (prev : Vec Ideal S1x1x128x128 .f32) : FVec Ideal S640x128 .bf16 :=
  k0_pay16 (k0_pay11 kn) (k0_pay12 cur) (k0_pay13 cur) prev

theorem keys1 (kn : Vec Ideal S1x128 .f32) (cur : Vec Ideal S1x1x512x128 .f32) (prev : Vec Ideal S1x1x128x128 .f32) :
    k0_pay90 (k0_pay11 kn) (k0_pay86 cur) (k0_pay87 cur) prev = keys kn cur prev := rfl

theorem keys_at (kn : Vec Ideal S1x128 .f32) (cur : Vec Ideal S1x1x512x128 .f32) (prev : Vec Ideal S1x1x128x128 .f32)
    (s : Fin 640) (x : Fin 128) :
    keys kn cur prev (ix2 s x) = if h : s.val < 128 then rms (fun e => prev (ix4 0 0 ⟨s.val, h⟩ e)) x * kn (ix2 0 x)
      else rms (fun e => cur (ix4 0 0 ⟨s.val - 128, by omega⟩ e)) x * kn (ix2 0 x) := by
  pointwise [keys, k0_pay16, k0_pay11, k0_pay12, k0_pay13, k0_pay14, rms]

/-- One head's values. -/
def vals (cur : Vec Ideal S1x1x512x128 .f32) (prev : Vec Ideal S1x1x128x128 .f32) : FVec Ideal S640x128 .bf16 :=
  k0_pay17 prev cur

theorem vals1 (cur : Vec Ideal S1x1x512x128 .f32) (prev : Vec Ideal S1x1x128x128 .f32) :
    k0_pay91 prev cur = vals cur prev := rfl

theorem vals_at (cur : Vec Ideal S1x1x512x128 .f32) (prev : Vec Ideal S1x1x128x128 .f32)
    (s : Fin 640) (x : Fin 128) :
    vals cur prev (ix2 s x) = if h : s.val < 128 then prev (ix4 0 0 ⟨s.val, h⟩ x)
      else cur (ix4 0 0 ⟨s.val - 128, by omega⟩ x) := by
  pointwise [vals, k0_pay17]

theorem dist_at (r : Fin 128) (s : Fin 256) :
    k0_pay8 (F := Ideal) (ix2 r s) = if inw r s = 1#1 then ((gap r s : ℝ) : EReal) else ⊤ := by
  pointwise [k0_pay8, k0_pay7, k0_pay6, SoftRow.bits_top]
  rfl

theorem dist0_at (i : grid0.Coords) (r : Fin 128) (s : Fin 256) :
    k0_pay9 (F := Ideal) i (ix2 r s) = if ok (i 1).val r s then ((gap r s : ℝ) : EReal) else ⊤ := by
  pointwise [k0_pay9, k0_pay7, k0_pay6, SoftRow.bits_top]
  rfl

theorem qgain_at (v : Vec Ideal S1x128 .f32) (x : Fin 128) :
    k0_pay10 v (ix2 0 x) = v (ix2 0 x) * (((√128)⁻¹ * SoftRow.L : ℝ) : EReal) := by
  have h : Named.named (F := Ideal) κ "att_scale_log2e" (φ := .f32) 0x3E0293EE#32 = (((√128)⁻¹ * SoftRow.L : ℝ) : EReal) :=
    IdealRules.named_const.ideal_named_scalar _ _ _ _ rfl
  rw [← h]
  pointwise [k0_pay10]

theorem fst_zero (s : Fin 256) (h : fst 0 s = 1#1) : 128 ≤ s.val := by
  revert s; decide

theorem fst_pos (n : Fin 16) (h : 1 ≤ n.val) (s : Fin 256) : fst n.val s = 1#1 := by
  have h1 : IntOp.cmpi .sgt (BitVec.ofNat 32 n.val) 0#32 = 1#1 := by revert n; decide
  have h2 : ∀ b : BitVec 1, IntOp.ori 1#1 b = 1#1 := by decide
  rw [fst, h1, h2]

theorem fst_four (n : Fin 4) (s : Fin 256) : fst (n.val * 4) s = fst n.val s := by
  have h : IntOp.cmpi .sgt (BitVec.ofNat 32 (n.val * 4)) 0#32 = IntOp.cmpi .sgt (BitVec.ofNat 32 n.val) 0#32 := by
    revert n; decide
  rw [fst, fst, h]

theorem ok_fst (n : ℕ) (r : Fin 128) (s : Fin 256) (h : ok n r s) : fst n s = 1#1 := by
  have : ∀ a b : BitVec 1, IntOp.andi a b = 1#1 → b = 1#1 := by decide
  exact this _ _ h

theorem ok_pos (n : Fin 16) (h : 1 ≤ n.val) (r : Fin 128) (s : Fin 256) : ok n.val r s ↔ inw r s = 1#1 := by
  have : ∀ a : BitVec 1, IntOp.andi a 1#1 = 1#1 ↔ a = 1#1 := by decide
  rw [ok, fst_pos n h, this]

theorem ok_four (n : Fin 4) (r : Fin 128) (s : Fin 256) : ok (n.val * 4) r s ↔ ok n.val r s := by
  rw [ok, ok, fst_four]

section Ref

variable (a0 : FVec Ideal Cert.AttnRefIdeal.S4x2048x5632 .f32) (a2 : FVec Ideal Cert.AttnRefIdeal.S128 .f32)
  (b : Fin 4) (i blk : Fin 4) (hh : Fin 2) (kn : Vec Ideal S1x128 .f32) (cur : Vec Ideal S1x1x512x128 .f32)
  (prev : Vec Ideal S1x1x128x128 .f32)

/-- The keys of block `blk` of the point are the reference's, at the places looked at. -/
theorem key_ref (hkn : ∀ x, kn (ix2 0 x) = a2 (ix1 x))
    (hc : ∀ (r : Fin 512) (e : Fin 128), cur (ix4 0 0 r e) = a0 (ix3 b ⟨i.val * 512 + r.val, by omega⟩ ⟨5120 + (hh.val * 128 + e.val), by omega⟩))
    (hp : ∀ (r : Fin 128) (e : Fin 128), prev (ix4 0 0 r e) = a0 (ix3 b ⟨(i.val * 4 - 1) * 128 + r.val, by omega⟩ ⟨5120 + (hh.val * 128 + e.val), by omega⟩))
    (r : Fin 128) (s : Fin 256) (x : Fin 128) (hok : ok (i.val * 4 + blk.val) r s) :
    keys kn cur prev (ix2 ⟨blk.val * 128 + s.val, by omega⟩ x)
      = kk (k5 a0 a2) (ix5 b ⟨i.val * 4 + blk.val, by omega⟩ s hh x) := by
  have h0 : i.val * 4 + blk.val = 0 → 128 ≤ s.val := fun h => fst_zero s (by rw [h] at hok; exact ok_fst _ _ _ hok)
  simp only [keys_at, kk_at, k5_at, hkn, hc, hp]
  by_cases h1 : s.val < 128
  · have h2 : 1 ≤ i.val * 4 + blk.val := by by_contra h; have := h0 (by omega); omega
    rw [dif_pos h1, dif_pos (show (1 ≤ i.val * 4 + blk.val ∧ i.val * 4 + blk.val - 1 < 16) ∧ s.val < 128 by omega)]
    by_cases h3 : blk.val * 128 + s.val < 128
    · rw [dif_pos h3]
      congr 2; funext e; congr 2; apply Fin.ext
      show (i.val * 4 - 1) * 128 + (blk.val * 128 + s.val) = (i.val * 4 + blk.val - 1) * 128 + s.val
      omega
    · rw [dif_neg h3]
      congr 2; funext e; congr 2; apply Fin.ext
      show i.val * 512 + (blk.val * 128 + s.val - 128) = (i.val * 4 + blk.val - 1) * 128 + s.val
      omega
  · rw [dif_neg h1, dif_neg (show ¬ blk.val * 128 + s.val < 128 by omega)]
    congr 2; funext e; congr 2; apply Fin.ext
    show i.val * 512 + (blk.val * 128 + s.val - 128) = (i.val * 4 + blk.val) * 128 + (s.val - 128)
    omega

/-- The values of block `blk` of the point are the reference's, at the places looked at. -/
theorem val_ref
    (hc : ∀ (r : Fin 512) (e : Fin 128), cur (ix4 0 0 r e) = a0 (ix3 b ⟨i.val * 512 + r.val, by omega⟩ ⟨5376 + (hh.val * 128 + e.val), by omega⟩))
    (hp : ∀ (r : Fin 128) (e : Fin 128), prev (ix4 0 0 r e) = a0 (ix3 b ⟨(i.val * 4 - 1) * 128 + r.val, by omega⟩ ⟨5376 + (hh.val * 128 + e.val), by omega⟩))
    (r : Fin 128) (s : Fin 256) (x : Fin 128) (hok : ok (i.val * 4 + blk.val) r s) :
    vals cur prev (ix2 ⟨blk.val * 128 + s.val, by omega⟩ x)
      = kk (v5 a0) (ix5 b ⟨i.val * 4 + blk.val, by omega⟩ s hh x) := by
  have h0 : i.val * 4 + blk.val = 0 → 128 ≤ s.val := fun h => fst_zero s (by rw [h] at hok; exact ok_fst _ _ _ hok)
  simp only [vals_at, kk_at, v5_at, hc, hp]
  by_cases h1 : s.val < 128
  · have h2 : 1 ≤ i.val * 4 + blk.val := by by_contra h; have := h0 (by omega); omega
    rw [dif_pos h1, dif_pos (show (1 ≤ i.val * 4 + blk.val ∧ i.val * 4 + blk.val - 1 < 16) ∧ s.val < 128 by omega)]
    by_cases h3 : blk.val * 128 + s.val < 128
    · rw [dif_pos h3]
      congr 2; apply Fin.ext
      show (i.val * 4 - 1) * 128 + (blk.val * 128 + s.val) = (i.val * 4 + blk.val - 1) * 128 + s.val
      omega
    · rw [dif_neg h3]
      congr 2; apply Fin.ext
      show i.val * 512 + (blk.val * 128 + s.val - 128) = (i.val * 4 + blk.val - 1) * 128 + s.val
      omega
  · rw [dif_neg h1, dif_neg (show ¬ blk.val * 128 + s.val < 128 by omega)]
    congr 2; apply Fin.ext
    show i.val * 512 + (blk.val * 128 + s.val - 128) = (i.val * 4 + blk.val) * 128 + (s.val - 128)
    omega

end Ref

end Cert.AttnIdeal.Value

end
-- ==== Proof.AttnValue.lean ====
/- The values of `Cert.AttnIdeal`'s result arrays: the reference's terms over the arguments. -/
module

public import proofs.«01_k».proof.Proof.AttnOperands

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnRow Cert.AttnHead

variable (m : (ℓ : Loc nD τ sig) → Buf (Elt Ideal) ℓ)

/-- The reference's attention. -/
def REF6 (a0 : FVec Ideal Cert.AttnRefIdeal.S4x2048x5632 .f32) (a1 a2 : FVec Ideal Cert.AttnRefIdeal.S128 .f32)
    (a3 : FVec Ideal Cert.AttnRefIdeal.S8 .f32) : FVec Ideal Cert.AttnRefIdeal.S4x2048x1024 .bf16 :=
  out (kk (v5 a0)) (wt (ex (ct (sc (kk (k5 a0 a2)) (q6 a0 a1)) a3)))

/-- The gains and the sinks are real numbers. -/
structure Real (c : Dev nD) : Prop where
  h1 : ∀ d : Fin 128, ∃ x : ℝ, (m ((c : Thread nD τ).loc main_arg1)) (ix1 d) = (x : EReal)
  h2 : ∀ d : Fin 128, ∃ x : ℝ, (m ((c : Thread nD τ).loc main_arg2)) (ix1 d) = (x : EReal)
  h3 : ∀ d : Fin 8, ∃ x : ℝ, (m ((c : Thread nD τ).loc main_arg3)) (ix1 d) = (x : EReal)

/-- What one head of one block of queries stores is the reference at the place it is stored. -/
theorem tile (c : Dev nD) (hR : Real m c) (t : Fin cfg0.N) (blk : Fin 4) (hh : Fin 2) (g : Fin 4)
    (al : Ideal .f32) (dist : FVec Ideal S128x256 .f32) (k2 v2 : FVec Ideal S256x128 .bf16)
    (q : Vec Ideal S1x1x128x128 .bf16) (sk : Elt Ideal .f32)
    (ck cv : Vec Ideal S1x1x512x128 .f32) (pk pv : Vec Ideal S1x1x128x128 .f32)
    (x : S1x128x128.Idx) (j : Cert.AttnRefIdeal.S4x2048x1024.Idx)
    (hal : al = ((-(1 / 2) ^ (hh.val * 4 + g.val + 1) * SoftRow.L : ℝ) : EReal))
    (hdist : ∀ r s, dist (ix2 r s) = if ok (t.val % 4 * 4 + blk.val) r s then ((gap r s : ℝ) : EReal) else ⊤)
    (hk : ∀ (s : Fin 256) (x : Fin 128), k2 (ix2 s x) = keys (iblk m c 5 t) ck pk (ix2 ⟨blk.val * 128 + s.val, by omega⟩ x))
    (hv : ∀ (s : Fin 256) (x : Fin 128), v2 (ix2 s x) = vals cv pv (ix2 ⟨blk.val * 128 + s.val, by omega⟩ x))
    (hck : ∀ (r : Fin 512) (e : Fin 128), ck (ix4 0 0 r e) = iblk m c 2 t (ix4 0 0 r ⟨hh.val * 128 + e.val, by omega⟩))
    (hcv : ∀ (r : Fin 512) (e : Fin 128), cv (ix4 0 0 r e) = iblk m c 2 t (ix4 0 0 r ⟨256 + (hh.val * 128 + e.val), by omega⟩))
    (hpk : ∀ (r e : Fin 128), pk (ix4 0 0 r e) = iblk m c 3 t (ix4 0 0 r ⟨hh.val * 128 + e.val, by omega⟩))
    (hpv : ∀ (r e : Fin 128), pv (ix4 0 0 r e) = iblk m c 3 t (ix4 0 0 r ⟨256 + (hh.val * 128 + e.val), by omega⟩))
    (hq : ∀ (r e : Fin 128), q (ix4 0 0 r e) = X0_1 m c t (ix4 hh 0 ⟨blk.val * 128 + r.val, by omega⟩ ⟨g.val * 128 + e.val, by omega⟩))
    (hsk : sk = iblk m c 0 t (ix1 ⟨hh.val * 4 + g.val, by omega⟩))
    (hj0 : (j 0 : ℕ) = t.val / 4) (hj1 : (j 1 : ℕ) = t.val % 4 * 512 + blk.val * 128 + (x 1 : ℕ))
    (hj2 : (j 2 : ℕ) = (hh.val * 4 + g.val) * 128 + (x 2 : ℕ)) :
    head al dist (k0_pay10 (iblk m c 4 t)) k2 v2 q sk x
      = REF6 (m ((c : Thread nD τ).loc main_arg0)) (m ((c : Thread nD τ).loc main_arg1)) (m ((c : Thread nD τ).loc main_arg2)) (m ((c : Thread nD τ).loc main_arg3)) j := by
  have ht := lt16 t
  obtain ⟨r, hr⟩ : ∃ r : Fin 128, r.val = (x 1 : ℕ) := ⟨⟨_, (x 1).isLt⟩, rfl⟩
  obtain ⟨d, hd⟩ : ∃ d : Fin 128, d.val = (x 2 : ℕ) := ⟨⟨_, (x 2).isLt⟩, rfl⟩
  have hx : x = ix3 0 r d := by
    have : (x 0 : ℕ) < 1 := (x 0).isLt
    funext a; apply Fin.ext
    match a with
    | ⟨0, _⟩ => show (x 0 : ℕ) = 0; omega
    | ⟨1, _⟩ => exact hr.symm
    | ⟨2, _⟩ => exact hd.symm
  obtain ⟨T, hT⟩ : ∃ T : Fin 2048, T.val = (j 1 : ℕ) := ⟨⟨_, (j 1).isLt⟩, rfl⟩
  obtain ⟨E, hE⟩ : ∃ E : Fin 1024, E.val = (j 2 : ℕ) := ⟨⟨_, (j 2).isLt⟩, rfl⟩
  have hj : j = ix3 ⟨t.val / 4, by omega⟩ T E := by
    funext a; apply Fin.ext
    match a with
    | ⟨0, _⟩ => exact hj0
    | ⟨1, _⟩ => exact hT.symm
    | ⟨2, _⟩ => exact hE.symm
  rw [hx, hj]
  refine entry _ _ _ _ hR.h1 hR.h2 hR.h3 ⟨t.val / 4, by omega⟩ ⟨t.val % 4 * 4 + blk.val, by omega⟩ hh g r d
    al dist _ k2 v2 q sk hal (hdist r) (fun x => by rw [qgain_at, qn_at]) (fun s x hok => ?_) (fun s hok => ?_) (fun e => ?_)
    (by rw [hsk, sinks_at]) T (by rw [hT, hj1, hr]; show _ = (t.val % 4 * 4 + blk.val) * 128 + _; omega) E (by rw [hE, hj2, hd])
  · rw [hk]
    refine key_ref _ _ _ ⟨t.val % 4, by omega⟩ blk hh _ ck pk (fun x => kn_at m c t x) (fun r e => ?_) (fun r e => ?_) r s x hok
    · rw [hck, kv_at]
    · rw [hpk, prev_at]
  · rw [hv]
    refine val_ref _ _ ⟨t.val % 4, by omega⟩ blk hh cv pv (fun r e => ?_) (fun r e => ?_) r s d hok
    · rw [hcv, kv_at]; congr 2; apply Fin.ext; show 5120 + (256 + _) = 5376 + _; omega
    · rw [hpv, prev_at]; congr 2; apply Fin.ext; show 5120 + (256 + _) = 5376 + _; omega
  · rw [hq, q_at]; congr 2 <;> apply Fin.ext
    · show _ + (_ + _) = (_ * 4 + _) * 128 + _; omega
    · show 4096 + (_ + (_ + _)) = 4096 + ((_ * 4 + _) * 128 + _); omega

/-- Block `blk`'s 256 rows of the keys or values. -/
theorem rows_at (K : FVec Ideal S640x128 .bf16) (blk : Fin 4) (h : S640x128.Slices ![blk.val * 128, 0] S256x128) (s : Fin 256) (x : Fin 128) :
    extractStridedSlice S256x128 ![blk.val * 128, 0] K h (ix2 s x) = K (ix2 ⟨blk.val * 128 + s.val, by omega⟩ x) := by
  pointwise

theorem dist_pos (i : Fin 4) (blk : Fin 4) (h : 1 ≤ blk.val) (r : Fin 128) (s : Fin 256) :
    k0_pay8 (F := Ideal) (ix2 r s) = if ok (i.val * 4 + blk.val) r s then ((gap r s : ℝ) : EReal) else ⊤ := by
  rw [dist_at]
  exact if_congr (ok_pos ⟨i.val * 4 + blk.val, by omega⟩ (by show 1 ≤ i.val * 4 + blk.val; omega) r s).symm rfl rfl

theorem coord1 : ∀ t : Fin cfg0.N, (grid0.coords t 1 : ℕ) = t.val % 4 := (by decide +kernel : ∀ t : Fin grid0.N, _)

theorem dist_first (t : Fin cfg0.N) (r : Fin 128) (s : Fin 256) :
    k0_pay9 (F := Ideal) (grid0.coords t) (ix2 r s) = if ok (t.val % 4 * 4 + (0 : Fin 4).val) r s then ((gap r s : ℝ) : EReal) else ⊤ := by
  rw [dist0_at, coord1]
  exact if_congr (ok_four ⟨t.val % 4, by omega⟩ r s).symm rfl rfl

/-- A load of a window of a rank-four block, read at an index. -/
theorem ld4 {n0 n1 n2 n3 : ℕ} {e : EltTy} (X : Vec Ideal (⟨4, ![n0, n1, n2, n3]⟩ : Shape) e) (o0 o1 o2 o3 m0 m1 m2 m3 : ℕ)
    (inb : ∀ a, (![o0, o1, o2, o3] : Fin 4 → ℕ) a + (![m0, m1, m2, m3] : Fin 4 → ℕ) a ≤ (⟨4, ![n0, n1, n2, n3]⟩ : Shape).size a)
    (i0 : Fin m0) (i1 : Fin m1) (i2 : Fin m2) (i3 : Fin m3) (j0 : Fin n0) (j1 : Fin n1) (j2 : Fin n2) (j3 : Fin n3)
    (h0 : j0.val = o0 + i0.val) (h1 : j1.val = o1 + i1.val) (h2 : j2.val = o2 + i2.val) (h3 : j3.val = o3 + i3.val) :
    View.ld X (Rect.unit (s := ⟨4, ![n0, n1, n2, n3]⟩) ![o0, o1, o2, o3] ![m0, m1, m2, m3] inb) (ix4 i0 i1 i2 i3) = X (ix4 j0 j1 j2 j3) := by
  refine View.ld_unit_apply_of X _ _ inb _ _ fun a => ?_
  match a with
  | ⟨0, _⟩ => exact h0
  | ⟨1, _⟩ => exact h1
  | ⟨2, _⟩ => exact h2
  | ⟨3, _⟩ => exact h3

theorem slices_rows (blk : Fin 4) : S640x128.Slices ![blk.val * 128, 0] S256x128 := by
  revert blk; decide

theorem key_rows (c : Dev nD) (t : Fin cfg0.N) (blk : Fin 4) (ck : Vec Ideal S1x1x512x128 .f32) (pk : Vec Ideal S1x1x128x128 .f32)
    (s : Fin 256) (x : Fin 128) : extractStridedSlice S256x128 ![blk.val * 128, 0] (keys (iblk m c 5 t) ck pk) (slices_rows blk) (ix2 s x)
      = keys (iblk m c 5 t) ck pk (ix2 ⟨blk.val * 128 + s.val, by omega⟩ x) :=
  rows_at _ blk _ s x

theorem val_rows (blk : Fin 4) (cv : Vec Ideal S1x1x512x128 .f32) (pv : Vec Ideal S1x1x128x128 .f32)
    (s : Fin 256) (x : Fin 128) : extractStridedSlice S256x128 ![blk.val * 128, 0] (vals cv pv) (slices_rows blk) (ix2 s x)
      = vals cv pv (ix2 ⟨blk.val * 128 + s.val, by omega⟩ x) :=
  rows_at _ blk _ s x

set_option maxHeartbeats 4000000 in
theorem point6 (c : Dev nD) (hR : Real m c) (t : Fin cfg0.N) (y) :
    (outsAt0 m c t.val t.isLt).1 y = REF6 (m ((c : Thread nD τ).loc main_arg0)) (m ((c : Thread nD τ).loc main_arg1)) (m ((c : Thread nD τ).loc main_arg2)) (m ((c : Thread nD τ).loc main_arg3)) (((cfg0.win 6).blk t).view.emb y) := by
  by_cases h : t.val % 4 = 3
  on_goal 1 => rw [outsAt0_B m c t h]
  on_goal 2 => rw [outsAt0_A m c t h]
  all_goals
    frame_out
    canon_tiles x hx
    all_goals
      first
      | (have _ : (y 1 : ℕ) = (x 1 : ℕ) := hx1
         have _ : (y 2 : ℕ) = (x 2 : ℕ) := hx2
         refine tile m c hR t 0 0 0 _ _ _ _ _ _ _ _ _ _ x _ ?_ ?_ (key_rows m c t 0 _ _) (val_rows 0 _ _) ?_ ?_ ?_ ?_ ?_ ?_ ?_ ?_ ?_)
      | (have _ : (y 1 : ℕ) = (x 1 : ℕ) := hx1
         have _ : (y 2 : ℕ) = 128 + (x 2 : ℕ) := hx2
         refine tile m c hR t 0 0 1 _ _ _ _ _ _ _ _ _ _ x _ ?_ ?_ (key_rows m c t 0 _ _) (val_rows 0 _ _) ?_ ?_ ?_ ?_ ?_ ?_ ?_ ?_ ?_)
      | (have _ : (y 1 : ℕ) = (x 1 : ℕ) := hx1
         have _ : (y 2 : ℕ) = 256 + (x 2 : ℕ) := hx2
         refine tile m c hR t 0 0 2 _ _ _ _ _ _ _ _ _ _ x _ ?_ ?_ (key_rows m c t 0 _ _) (val_rows 0 _ _) ?_ ?_ ?_ ?_ ?_ ?_ ?_ ?_ ?_)
      | (have _ : (y 1 : ℕ) = (x 1 : ℕ) := hx1
         have _ : (y 2 : ℕ) = 384 + (x 2 : ℕ) := hx2
         refine tile m c hR t 0 0 3 _ _ _ _ _ _ _ _ _ _ x _ ?_ ?_ (key_rows m c t 0 _ _) (val_rows 0 _ _) ?_ ?_ ?_ ?_ ?_ ?_ ?_ ?_ ?_)
      | (have _ : (y 1 : ℕ) = 128 + (x 1 : ℕ) := hx1
         have _ : (y 2 : ℕ) = (x 2 : ℕ) := hx2
         refine tile m c hR t 1 0 0 _ _ _ _ _ _ _ _ _ _ x _ ?_ ?_ (key_rows m c t 1 _ _) (val_rows 1 _ _) ?_ ?_ ?_ ?_ ?_ ?_ ?_ ?_ ?_)
      | (have _ : (y 1 : ℕ) = 128 + (x 1 : ℕ) := hx1
         have _ : (y 2 : ℕ) = 128 + (x 2 : ℕ) := hx2
         refine tile m c hR t 1 0 1 _ _ _ _ _ _ _ _ _ _ x _ ?_ ?_ (key_rows m c t 1 _ _) (val_rows 1 _ _) ?_ ?_ ?_ ?_ ?_ ?_ ?_ ?_ ?_)
      | (have _ : (y 1 : ℕ) = 128 + (x 1 : ℕ) := hx1
         have _ : (y 2 : ℕ) = 256 + (x 2 : ℕ) := hx2
         refine tile m c hR t 1 0 2 _ _ _ _ _ _ _ _ _ _ x _ ?_ ?_ (key_rows m c t 1 _ _) (val_rows 1 _ _) ?_ ?_ ?_ ?_ ?_ ?_ ?_ ?_ ?_)
      | (have _ : (y 1 : ℕ) = 128 + (x 1 : ℕ) := hx1
         have _ : (y 2 : ℕ) = 384 + (x 2 : ℕ) := hx2
         refine tile m c hR t 1 0 3 _ _ _ _ _ _ _ _ _ _ x _ ?_ ?_ (key_rows m c t 1 _ _) (val_rows 1 _ _) ?_ ?_ ?_ ?_ ?_ ?_ ?_ ?_ ?_)
      | (have _ : (y 1 : ℕ) = 256 + (x 1 : ℕ) := hx1
         have _ : (y 2 : ℕ) = (x 2 : ℕ) := hx2
         refine tile m c hR t 2 0 0 _ _ _ _ _ _ _ _ _ _ x _ ?_ ?_ (key_rows m c t 2 _ _) (val_rows 2 _ _) ?_ ?_ ?_ ?_ ?_ ?_ ?_ ?_ ?_)
      | (have _ : (y 1 : ℕ) = 256 + (x 1 : ℕ) := hx1
         have _ : (y 2 : ℕ) = 128 + (x 2 : ℕ) := hx2
         refine tile m c hR t 2 0 1 _ _ _ _ _ _ _ _ _ _ x _ ?_ ?_ (key_rows m c t 2 _ _) (val_rows 2 _ _) ?_ ?_ ?_ ?_ ?_ ?_ ?_ ?_ ?_)
      | (have _ : (y 1 : ℕ) = 256 + (x 1 : ℕ) := hx1
         have _ : (y 2 : ℕ) = 256 + (x 2 : ℕ) := hx2
         refine tile m c hR t 2 0 2 _ _ _ _ _ _ _ _ _ _ x _ ?_ ?_ (key_rows m c t 2 _ _) (val_rows 2 _ _) ?_ ?_ ?_ ?_ ?_ ?_ ?_ ?_ ?_)
      | (have _ : (y 1 : ℕ) = 256 + (x 1 : ℕ) := hx1
         have _ : (y 2 : ℕ) = 384 + (x 2 : ℕ) := hx2
         refine tile m c hR t 2 0 3 _ _ _ _ _ _ _ _ _ _ x _ ?_ ?_ (key_rows m c t 2 _ _) (val_rows 2 _ _) ?_ ?_ ?_ ?_ ?_ ?_ ?_ ?_ ?_)
      | (have _ : (y 1 : ℕ) = 384 + (x 1 : ℕ) := hx1
         have _ : (y 2 : ℕ) = (x 2 : ℕ) := hx2
         refine tile m c hR t 3 0 0 _ _ _ _ _ _ _ _ _ _ x _ ?_ ?_ (key_rows m c t 3 _ _) (val_rows 3 _ _) ?_ ?_ ?_ ?_ ?_ ?_ ?_ ?_ ?_)
      | (have _ : (y 1 : ℕ) = 384 + (x 1 : ℕ) := hx1
         have _ : (y 2 : ℕ) = 128 + (x 2 : ℕ) := hx2
         refine tile m c hR t 3 0 1 _ _ _ _ _ _ _ _ _ _ x _ ?_ ?_ (key_rows m c t 3 _ _) (val_rows 3 _ _) ?_ ?_ ?_ ?_ ?_ ?_ ?_ ?_ ?_)
      | (have _ : (y 1 : ℕ) = 384 + (x 1 : ℕ) := hx1
         have _ : (y 2 : ℕ) = 256 + (x 2 : ℕ) := hx2
         refine tile m c hR t 3 0 2 _ _ _ _ _ _ _ _ _ _ x _ ?_ ?_ (key_rows m c t 3 _ _) (val_rows 3 _ _) ?_ ?_ ?_ ?_ ?_ ?_ ?_ ?_ ?_)
      | (have _ : (y 1 : ℕ) = 384 + (x 1 : ℕ) := hx1
         have _ : (y 2 : ℕ) = 384 + (x 2 : ℕ) := hx2
         refine tile m c hR t 3 0 3 _ _ _ _ _ _ _ _ _ _ x _ ?_ ?_ (key_rows m c t 3 _ _) (val_rows 3 _ _) ?_ ?_ ?_ ?_ ?_ ?_ ?_ ?_ ?_)
      | (have _ : (y 1 : ℕ) = (x 1 : ℕ) := hx1
         have _ : (y 2 : ℕ) = 512 + (x 2 : ℕ) := hx2
         refine tile m c hR t 0 1 0 _ _ _ _ _ _ _ _ _ _ x _ ?_ ?_ (key_rows m c t 0 _ _) (val_rows 0 _ _) ?_ ?_ ?_ ?_ ?_ ?_ ?_ ?_ ?_)
      | (have _ : (y 1 : ℕ) = (x 1 : ℕ) := hx1
         have _ : (y 2 : ℕ) = 640 + (x 2 : ℕ) := hx2
         refine tile m c hR t 0 1 1 _ _ _ _ _ _ _ _ _ _ x _ ?_ ?_ (key_rows m c t 0 _ _) (val_rows 0 _ _) ?_ ?_ ?_ ?_ ?_ ?_ ?_ ?_ ?_)
      | (have _ : (y 1 : ℕ) = (x 1 : ℕ) := hx1
         have _ : (y 2 : ℕ) = 768 + (x 2 : ℕ) := hx2
         refine tile m c hR t 0 1 2 _ _ _ _ _ _ _ _ _ _ x _ ?_ ?_ (key_rows m c t 0 _ _) (val_rows 0 _ _) ?_ ?_ ?_ ?_ ?_ ?_ ?_ ?_ ?_)
      | (have _ : (y 1 : ℕ) = (x 1 : ℕ) := hx1
         have _ : (y 2 : ℕ) = 896 + (x 2 : ℕ) := hx2
         refine tile m c hR t 0 1 3 _ _ _ _ _ _ _ _ _ _ x _ ?_ ?_ (key_rows m c t 0 _ _) (val_rows 0 _ _) ?_ ?_ ?_ ?_ ?_ ?_ ?_ ?_ ?_)
      | (have _ : (y 1 : ℕ) = 128 + (x 1 : ℕ) := hx1
         have _ : (y 2 : ℕ) = 512 + (x 2 : ℕ) := hx2
         refine tile m c hR t 1 1 0 _ _ _ _ _ _ _ _ _ _ x _ ?_ ?_ (key_rows m c t 1 _ _) (val_rows 1 _ _) ?_ ?_ ?_ ?_ ?_ ?_ ?_ ?_ ?_)
      | (have _ : (y 1 : ℕ) = 128 + (x 1 : ℕ) := hx1
         have _ : (y 2 : ℕ) = 640 + (x 2 : ℕ) := hx2
         refine tile m c hR t 1 1 1 _ _ _ _ _ _ _ _ _ _ x _ ?_ ?_ (key_rows m c t 1 _ _) (val_rows 1 _ _) ?_ ?_ ?_ ?_ ?_ ?_ ?_ ?_ ?_)
      | (have _ : (y 1 : ℕ) = 128 + (x 1 : ℕ) := hx1
         have _ : (y 2 : ℕ) = 768 + (x 2 : ℕ) := hx2
         refine tile m c hR t 1 1 2 _ _ _ _ _ _ _ _ _ _ x _ ?_ ?_ (key_rows m c t 1 _ _) (val_rows 1 _ _) ?_ ?_ ?_ ?_ ?_ ?_ ?_ ?_ ?_)
      | (have _ : (y 1 : ℕ) = 128 + (x 1 : ℕ) := hx1
         have _ : (y 2 : ℕ) = 896 + (x 2 : ℕ) := hx2
         refine tile m c hR t 1 1 3 _ _ _ _ _ _ _ _ _ _ x _ ?_ ?_ (key_rows m c t 1 _ _) (val_rows 1 _ _) ?_ ?_ ?_ ?_ ?_ ?_ ?_ ?_ ?_)
      | (have _ : (y 1 : ℕ) = 256 + (x 1 : ℕ) := hx1
         have _ : (y 2 : ℕ) = 512 + (x 2 : ℕ) := hx2
         refine tile m c hR t 2 1 0 _ _ _ _ _ _ _ _ _ _ x _ ?_ ?_ (key_rows m c t 2 _ _) (val_rows 2 _ _) ?_ ?_ ?_ ?_ ?_ ?_ ?_ ?_ ?_)
      | (have _ : (y 1 : ℕ) = 256 + (x 1 : ℕ) := hx1
         have _ : (y 2 : ℕ) = 640 + (x 2 : ℕ) := hx2
         refine tile m c hR t 2 1 1 _ _ _ _ _ _ _ _ _ _ x _ ?_ ?_ (key_rows m c t 2 _ _) (val_rows 2 _ _) ?_ ?_ ?_ ?_ ?_ ?_ ?_ ?_ ?_)
      | (have _ : (y 1 : ℕ) = 256 + (x 1 : ℕ) := hx1
         have _ : (y 2 : ℕ) = 768 + (x 2 : ℕ) := hx2
         refine tile m c hR t 2 1 2 _ _ _ _ _ _ _ _ _ _ x _ ?_ ?_ (key_rows m c t 2 _ _) (val_rows 2 _ _) ?_ ?_ ?_ ?_ ?_ ?_ ?_ ?_ ?_)
      | (have _ : (y 1 : ℕ) = 256 + (x 1 : ℕ) := hx1
         have _ : (y 2 : ℕ) = 896 + (x 2 : ℕ) := hx2
         refine tile m c hR t 2 1 3 _ _ _ _ _ _ _ _ _ _ x _ ?_ ?_ (key_rows m c t 2 _ _) (val_rows 2 _ _) ?_ ?_ ?_ ?_ ?_ ?_ ?_ ?_ ?_)
      | (have _ : (y 1 : ℕ) = 384 + (x 1 : ℕ) := hx1
         have _ : (y 2 : ℕ) = 512 + (x 2 : ℕ) := hx2
         refine tile m c hR t 3 1 0 _ _ _ _ _ _ _ _ _ _ x _ ?_ ?_ (key_rows m c t 3 _ _) (val_rows 3 _ _) ?_ ?_ ?_ ?_ ?_ ?_ ?_ ?_ ?_)
      | (have _ : (y 1 : ℕ) = 384 + (x 1 : ℕ) := hx1
         have _ : (y 2 : ℕ) = 640 + (x 2 : ℕ) := hx2
         refine tile m c hR t 3 1 1 _ _ _ _ _ _ _ _ _ _ x _ ?_ ?_ (key_rows m c t 3 _ _) (val_rows 3 _ _) ?_ ?_ ?_ ?_ ?_ ?_ ?_ ?_ ?_)
      | (have _ : (y 1 : ℕ) = 384 + (x 1 : ℕ) := hx1
         have _ : (y 2 : ℕ) = 768 + (x 2 : ℕ) := hx2
         refine tile m c hR t 3 1 2 _ _ _ _ _ _ _ _ _ _ x _ ?_ ?_ (key_rows m c t 3 _ _) (val_rows 3 _ _) ?_ ?_ ?_ ?_ ?_ ?_ ?_ ?_ ?_)
      | (have _ : (y 1 : ℕ) = 384 + (x 1 : ℕ) := hx1
         have _ : (y 2 : ℕ) = 896 + (x 2 : ℕ) := hx2
         refine tile m c hR t 3 1 3 _ _ _ _ _ _ _ _ _ _ x _ ?_ ?_ (key_rows m c t 3 _ _) (val_rows 3 _ _) ?_ ?_ ?_ ?_ ?_ ?_ ?_ ?_ ?_)
      on_goal 1 => refine (IdealRules.named_const.ideal_named_scalar _ _ _ _ rfl).trans ?_; congr 1; norm_num [SoftRow.L]
      on_goal 1 => first | exact dist_pos ⟨t.val % 4, by omega⟩ _ (by decide) | exact dist_first t
      iterate 5 on_goal 1 => exact fun r e => ld4 _ _ _ _ _ _ _ _ _ _ _ _ _ _ _ _ _ _ (by rfl) (by rfl) (by first | rfl | exact (Nat.zero_add _).symm | (dsimp only; omega)) (by first | rfl | exact Nat.zero_add _ | (dsimp only; omega))
      on_goal 1 => exact View.ld_unit_apply_of _ _ _ _ _ _ (by decide)
      all_goals (blk_simp [idx_val t] <;> omega)

end Cert.AttnIdeal.Value

end
-- ==== Proof.AttnFinal.lean ====
/- The attention call's three result arrays after the run are the reference's results. -/
module

public import proofs.«01_k».proof.Proof.AttnValue

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnRow Cert.AttnHead

variable (m : (ℓ : Loc nD τ sig) → Buf (Elt Ideal) ℓ)

/-- The reference's last keys, as one term over its arguments. -/
def REF7 (a0 : FVec Ideal Cert.AttnRefIdeal.S4x2048x5632 .f32) (a2 : FVec Ideal Cert.AttnRefIdeal.S128 .f32) : FVec Ideal Cert.AttnRefIdeal.S4x128x256 .f32 :=
  shapeCast _ (extractStridedSlice Cert.AttnRefIdeal.S4x128x2x128 ![0, 1920, 0, 0] (mulf (mulf (shapeCast _ (extractStridedSlice Cert.AttnRefIdeal.S4x2048x256 ![0, 0, 5120] a0 Cert.AttnRefIdeal.Gen.slices_S4x2048x5632_S4x2048x256_0_0_5120) Cert.AttnRefIdeal.Gen.shapeCasts_S4x2048x256_S4x2048x2x128) (broadcastInDim Cert.AttnRefIdeal.S4x2048x2x128 ![0, 1, 2, 3] Cert.AttnRefIdeal.Gen.bcast_S4x2048x2x1_S4x2048x2x128_0_1_2_3 (Host.rsqrt (addf (Host.divf (broadcastInDim Cert.AttnRefIdeal.S4x2048x2x1 ![0, 1, 2] Cert.AttnRefIdeal.Gen.bcast_S4x2048x2_S4x2048x2x1_0_1_2 (Host.reduceAdd (mulf (shapeCast _ (extractStridedSlice Cert.AttnRefIdeal.S4x2048x256 ![0, 0, 5120] a0 Cert.AttnRefIdeal.Gen.slices_S4x2048x5632_S4x2048x256_0_0_5120) Cert.AttnRefIdeal.Gen.shapeCasts_S4x2048x256_S4x2048x2x128) (shapeCast _ (extractStridedSlice Cert.AttnRefIdeal.S4x2048x256 ![0, 0, 5120] a0 Cert.AttnRefIdeal.Gen.slices_S4x2048x5632_S4x2048x256_0_0_5120) Cert.AttnRefIdeal.Gen.shapeCasts_S4x2048x256_S4x2048x2x128)) (constant Cert.AttnRefIdeal.S_ .f32 0x00000000#32) Cert.AttnRefIdeal.Gen.reducesTo_S4x2048x2x128_S4x2048x2_d3 Cert.AttnRefIdeal.Gen.h_S_)) (broadcastInDim Cert.AttnRefIdeal.S4x2048x2x1 ![] Cert.AttnRefIdeal.Gen.bcast_S_S4x2048x2x1 (constant Cert.AttnRefIdeal.S_ .f32 0x43000000#32))) (broadcastInDim Cert.AttnRefIdeal.S4x2048x2x1 ![] Cert.AttnRefIdeal.Gen.bcast_S_S4x2048x2x1 (constant Cert.AttnRefIdeal.S_ .f32 0x358637BD#32)))))) (broadcastInDim Cert.AttnRefIdeal.S4x2048x2x128 ![0, 1, 2, 3] Cert.AttnRefIdeal.Gen.bcast_S1x1x1x128_S4x2048x2x128_0_1_2_3 (broadcastInDim Cert.AttnRefIdeal.S1x1x1x128 ![3] Cert.AttnRefIdeal.Gen.bcast_S128_S1x1x1x128_3 a2))) Cert.AttnRefIdeal.Gen.slices_S4x2048x2x128_S4x128x2x128_0_1920_0_0) Cert.AttnRefIdeal.Gen.shapeCasts_S4x128x2x128_S4x128x256

/-- The reference's last values. -/
def REF8 (a0 : FVec Ideal Cert.AttnRefIdeal.S4x2048x5632 .f32) : FVec Ideal Cert.AttnRefIdeal.S4x128x256 .f32 :=
  shapeCast _ (extractStridedSlice Cert.AttnRefIdeal.S4x128x2x128 ![0, 1920, 0, 0] (shapeCast _ (extractStridedSlice Cert.AttnRefIdeal.S4x2048x256 ![0, 0, 5376] a0 Cert.AttnRefIdeal.Gen.slices_S4x2048x5632_S4x2048x256_0_0_5376) Cert.AttnRefIdeal.Gen.shapeCasts_S4x2048x256_S4x2048x2x128) Cert.AttnRefIdeal.Gen.slices_S4x2048x2x128_S4x128x2x128_0_1920_0_0) Cert.AttnRefIdeal.Gen.shapeCasts_S4x128x2x128_S4x128x256

theorem ref7_at (a0 : FVec Ideal Cert.AttnRefIdeal.S4x2048x5632 .f32) (a2 : FVec Ideal Cert.AttnRefIdeal.S128 .f32) (b : Fin 4) (r : Fin 128) (h : Fin 2) (d : Fin 128) :
    REF7 a0 a2 (ix3 b r ⟨h.val * 128 + d.val, by omega⟩)
      = rms (fun e => a0 (ix3 b ⟨1920 + r.val, by omega⟩ ⟨5120 + (h.val * 128 + e.val), by omega⟩)) d * a2 (ix1 d) := by
  pointwise [REF7, rms]

theorem ref8_at (a0 : FVec Ideal Cert.AttnRefIdeal.S4x2048x5632 .f32) (b : Fin 4) (r : Fin 128) (h : Fin 2) (d : Fin 128) :
    REF8 a0 (ix3 b r ⟨h.val * 128 + d.val, by omega⟩) = a0 (ix3 b ⟨1920 + r.val, by omega⟩ ⟨5376 + (h.val * 128 + d.val), by omega⟩) := by
  pointwise [REF8]

theorem final6 (c : Dev nD) (hR : Real m c) : (dats m 0 c).arrAt 6 (cfgs 0).N
    = REF6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  exact point6 m c hR t y

theorem flush7 : ∀ t : Fin cfg0.N, (cfg0.win 7).flush t = true → t.val % 4 = 3 :=
  (by decide +kernel : ∀ t : Fin grid0.N, _)

/-- The keys of one head the point gives back: the last rows of its blocks, normed. -/
theorem lastk_at (kn : Vec Ideal S1x128 .f32) (cur : Vec Ideal S1x1x512x128 .f32) (r d : Fin 128) :
    k0_pay2 (k0_pay15 (k0_pay11 kn) (k0_pay12 cur) (k0_pay13 cur)) (ix3 0 r d)
      = rms (fun e => cur (ix4 0 0 ⟨384 + r.val, by omega⟩ e)) d * kn (ix2 0 d) := by
  pointwise [k0_pay2, k0_pay15, k0_pay14, k0_pay11, k0_pay12, k0_pay13, rms]

theorem lastv_at (v : Vec Ideal S1x1x128x128 .f32) (r d : Fin 128) :
    k0_pay3 v (ix3 0 r d) = v (ix4 0 0 r d) := by
  pointwise [k0_pay3]

/-- An index of a rank-three array with a leading one, by its coordinates. -/
theorem coords3 (x : S1x128x128.Idx) : ∃ r d : Fin 128, x = ix3 0 r d ∧ r.val = (x 1 : ℕ) ∧ d.val = (x 2 : ℕ) := by
  refine ⟨⟨_, (x 1).isLt⟩, ⟨_, (x 2).isLt⟩, ?_, rfl, rfl⟩
  have : (x 0 : ℕ) < 1 := (x 0).isLt
  funext a; apply Fin.ext
  match a with
  | ⟨0, _⟩ => show (x 0 : ℕ) = 0; omega
  | ⟨1, _⟩ => rfl
  | ⟨2, _⟩ => rfl

theorem keys_out (c : Dev nD) (t : Fin cfg0.N) (h3 : t.val % 4 = 3) (hh : Fin 2) (cur : Vec Ideal S1x1x512x128 .f32)
    (x : S1x128x128.Idx) (j : Cert.AttnRefIdeal.S4x128x256.Idx)
    (hc : ∀ (r : Fin 512) (e : Fin 128), cur (ix4 0 0 r e) = iblk m c 2 t (ix4 0 0 r ⟨hh.val * 128 + e.val, by omega⟩))
    (hj0 : (j 0 : ℕ) = t.val / 4) (hj1 : (j 1 : ℕ) = (x 1 : ℕ)) (hj2 : (j 2 : ℕ) = hh.val * 128 + (x 2 : ℕ)) :
    k0_pay2 (k0_pay15 (k0_pay11 (iblk m c 5 t)) (k0_pay12 cur) (k0_pay13 cur)) x
      = REF7 (m ((c : Thread nD τ).loc main_arg0)) (m ((c : Thread nD τ).loc main_arg2)) j := by
  have ht := lt16 t
  obtain ⟨r, d, hx, hr, hd⟩ := coords3 x
  have hj : j = ix3 ⟨t.val / 4, by omega⟩ r ⟨hh.val * 128 + d.val, by omega⟩ := by
    funext a; apply Fin.ext
    match a with
    | ⟨0, _⟩ => exact hj0
    | ⟨1, _⟩ => exact hj1.trans hr.symm
    | ⟨2, _⟩ => exact hj2.trans (congrArg (hh.val * 128 + ·) hd.symm)
  rw [hx, hj, lastk_at, ref7_at, kn_at]
  simp only [hc, kv_at]
  congr 2; funext e; congr 2; apply Fin.ext
  show t.val % 4 * 512 + (384 + r.val) = 1920 + r.val
  omega

theorem vals_out (c : Dev nD) (t : Fin cfg0.N) (h3 : t.val % 4 = 3) (hh : Fin 2) (v : Vec Ideal S1x1x128x128 .f32)
    (x : S1x128x128.Idx) (j : Cert.AttnRefIdeal.S4x128x256.Idx)
    (hc : ∀ r e : Fin 128, v (ix4 0 0 r e) = iblk m c 2 t (ix4 0 0 ⟨384 + r.val, by omega⟩ ⟨256 + (hh.val * 128 + e.val), by omega⟩))
    (hj0 : (j 0 : ℕ) = t.val / 4) (hj1 : (j 1 : ℕ) = (x 1 : ℕ)) (hj2 : (j 2 : ℕ) = hh.val * 128 + (x 2 : ℕ)) :
    k0_pay3 v x = REF8 (m ((c : Thread nD τ).loc main_arg0)) j := by
  have ht := lt16 t
  obtain ⟨r, d, hx, hr, hd⟩ := coords3 x
  have hj : j = ix3 ⟨t.val / 4, by omega⟩ r ⟨hh.val * 128 + d.val, by omega⟩ := by
    funext a; apply Fin.ext
    match a with
    | ⟨0, _⟩ => exact hj0
    | ⟨1, _⟩ => exact hj1.trans hr.symm
    | ⟨2, _⟩ => exact hj2.trans (congrArg (hh.val * 128 + ·) hd.symm)
  rw [hx, hj, lastv_at, ref8_at, hc, kv_at]
  congr 2 <;> apply Fin.ext
  · show t.val % 4 * 512 + (384 + r.val) = 1920 + r.val; omega
  · show 5120 + (256 + _) = 5376 + _; omega

theorem final7 (c : Dev nD) : (dats m 0 c).arrAt 7 (cfgs 0).N
    = REF7 (m ((c : Thread nD τ).loc main_arg0)) (m ((c : Thread nD τ).loc main_arg2)) := by
  refine (dats m 0 c).arrAt_eq_of_covers 7 _ (by decide +kernel) fun t hf y => ?_
  have h3 := flush7 t hf
  have ht := lt16 t
  blk_simp; rw [after0_7, outsAt0_B m c t h3]; frame_out
  canon_tiles x hx
  all_goals
    first
    | (have _ : (y 2 : ℕ) = (x 2 : ℕ) := hx2
       refine keys_out m c t h3 0 _ x _ ?_ ?_ ?_ ?_)
    | refine keys_out m c t h3 1 _ x _ ?_ ?_ ?_ ?_
    on_goal 1 => exact fun r e => ld4 _ _ _ _ _ _ _ _ _ _ _ _ _ _ _ _ _ _ (by rfl) (by rfl) (by first | rfl | exact (Nat.zero_add _).symm | (dsimp only; omega)) (by first | rfl | exact Nat.zero_add _ | (dsimp only; omega))
    all_goals (blk_simp [idx_val t] <;> omega)

theorem flush8 : ∀ t : Fin cfg0.N, (cfg0.win 8).flush t = true → t.val % 4 = 3 :=
  (by decide +kernel : ∀ t : Fin grid0.N, _)

theorem final8 (c : Dev nD) : (dats m 0 c).arrAt 8 (cfgs 0).N
    = REF8 (m ((c : Thread nD τ).loc main_arg0)) := by
  refine (dats m 0 c).arrAt_eq_of_covers 8 _ (by decide +kernel) fun t hf y => ?_
  have h3 := flush8 t hf
  have ht := lt16 t
  blk_simp; rw [after0_8, outsAt0_B m c t h3]; frame_out
  canon_tiles x hx
  all_goals
    first
    | (have _ : (y 2 : ℕ) = (x 2 : ℕ) := hx2
       refine vals_out m c t h3 0 _ x _ ?_ ?_ ?_ ?_)
    | refine vals_out m c t h3 1 _ x _ ?_ ?_ ?_ ?_
    on_goal 1 => exact fun r e => ld4 _ _ _ _ _ _ _ _ _ _ _ _ _ _ _ _ _ _ (by rfl) (by rfl) (by first | rfl | exact (Nat.zero_add _).symm | (dsimp only; omega)) (by first | rfl | exact Nat.zero_add _ | (dsimp only; omega))
    all_goals (blk_simp [idx_val t] <;> omega)

end Cert.AttnIdeal.Value

end
-- ==== Proof.AttnClaims.lean ====
/- The claims about the programs `Attn`, `AttnIdeal` and `AttnRefIdeal`. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Pre_finite_gains_and_sinks
public import proofs.«01_k».proof.Proof.AttnFinal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AttnClaims

theorem frame_p : Cert.quiescent_Attn := fun m ρ _ => Cert.Attn.Gen.frame m ρ
theorem frame_pi : Cert.quiescent_AttnIdeal := fun m ρ _ => Cert.AttnIdeal.Gen.frame m ρ
theorem frame_ri : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- Each named constant's value is the one its table gives it. -/
theorem preserves : Cert.preserves_Attn_AttnIdeal := by
  unfold Cert.preserves_Attn_AttnIdeal
  refine ⟨?_, ?_, ?_, ?_, ?_, ?_, ?_, ?_, ?_, ?_⟩ <;> exact IdealRules.named_const.statement _ _ _ _ _ rfl

theorem frame_pi_pre : Cert.quiescent_AttnIdeal_pre_finite_gains_and_sinks := fun m ρ _ => Cert.AttnIdeal.Gen.frame m ρ
theorem frame_ri_pre : Cert.quiescent_AttnRefIdeal_pre_finite_gains_and_sinks := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- A number whose absolute value is below infinity is real. -/
theorem real_of_lt (v : EReal) (h : Ideal.cmp .olt (max v (-v)) (Ideal.ofBits .f32 0x7F800000#32) = 1#1) : ∃ x : ℝ, v = (x : EReal) := by
  rw [Cert.SoftRow.bits_top] at h
  induction v with
  | bot => simp [Ideal.cmp] at h
  | top => simp [Ideal.cmp] at h
  | coe x => exact ⟨x, rfl⟩

/-- The precondition says the gains and the sinks are real numbers. -/
theorem real_of_pre (m : (ℓ : Loc Cert.AttnIdeal.nD Cert.AttnIdeal.τ Cert.AttnIdeal.sig) → Buf (Elt Ideal) ℓ)
    (h : Cert.Pre_AttnIdeal_finite_gains_and_sinks m) (c : Dev Cert.AttnIdeal.nD) : Cert.AttnIdeal.Value.Real m c :=
  ⟨fun d => real_of_lt _ (congrFun (h c).1 (ix1 d)), fun d => real_of_lt _ (congrFun (h c).2.1 (ix1 d)), fun d => real_of_lt _ (congrFun (h c).2.2 (ix1 d))⟩

/-- The reference's attention, as one term of its arguments. -/
theorem ref_out (m : (ℓ : Loc Cert.AttnRefIdeal.nD Cert.AttnRefIdeal.τ Cert.AttnRefIdeal.sig) → Buf (Elt Ideal) ℓ) (c : Dev Cert.AttnRefIdeal.nD) :
    Cert.AttnRefIdeal.Value.res_out0 m c = Cert.AttnIdeal.Value.REF6 (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))
      (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) := rfl

/-- The kernel's result arrays and the reference's results are one term of the arguments. -/
theorem algebraic : Cert.algebraic_AttnIdeal_AttnRefIdeal_pre_finite_gains_and_sinks := by
  pair_intro
  · run_from Cert.AttnIdeal.Gen.run_main m g
  · run_from Cert.AttnRefIdeal.Value.run m' g'
    · refine (ref_out m' c).trans ?_
      obtain ⟨h0, h1, h2, h3⟩ := hagree c
      rw [h0, h1, h2, h3]
      exact (Cert.AttnIdeal.Value.final6 m c (real_of_pre m hpre c)).symm
    · exact (Cert.AttnIdeal.Value.final7 m c).symm
    · exact (Cert.AttnIdeal.Value.final8 m c).symm

end Cert.Proof.AttnClaims

end
-- ==== Proof.Sums.lean ====
/- Sums over a long index range, cut into ranges of equal length. -/
module

public import Idealize.ShloMosaic.Lib.Pipeline.ValueKit

@[expose] public section

open scoped BigOperators

namespace Cert.Sums

/-- A sum over `n * b` indices is the sum over `n` ranges of the sums over the `b` indices of each. -/
theorem sum_blocks {M : Type*} [AddCommMonoid M] (n b : Nat) (f : Fin (n * b) → M) :
    ∑ k : Fin (n * b), f k
      = ∑ s : Fin n, ∑ k : Fin b, f ⟨s.val * b + k.val, by
          have := s.isLt; have := k.isLt
          calc s.val * b + k.val < s.val * b + b := by omega
            _ = (s.val + 1) * b := by rw [Nat.add_mul, Nat.one_mul]
            _ ≤ n * b := Nat.mul_le_mul_right b (by omega)⟩ := by
  rw [← Fintype.sum_prod_type', ← finProdFinEquiv.sum_comp]
  refine Finset.sum_congr rfl fun x _ => congrArg f (Fin.ext ?_)
  simp [finProdFinEquiv, Nat.mul_comm, Nat.add_comm]

/-- The sum over eleven indices, added in order. -/
theorem sum_eleven {M : Type*} [AddCommMonoid M] (g : Fin 11 → M) :
    ∑ s : Fin 11, g s = g 0 + g 1 + g 2 + g 3 + g 4 + g 5 + g 6 + g 7 + g 8 + g 9 + g 10 := by
  simp only [Fin.sum_univ_castSucc, Fin.sum_univ_zero, zero_add]
  rfl

/-- The sum over 5632 indices as eleven sums of 512, added in order. -/
theorem sum_5632 {M : Type*} [AddCommMonoid M] (f : Fin 5632 → M) :
    ∑ k : Fin 5632, f k
      = ∑ k : Fin 512, f ⟨k.val, by omega⟩
        + ∑ k : Fin 512, f ⟨512 + k.val, by omega⟩
        + ∑ k : Fin 512, f ⟨1024 + k.val, by omega⟩
        + ∑ k : Fin 512, f ⟨1536 + k.val, by omega⟩
        + ∑ k : Fin 512, f ⟨2048 + k.val, by omega⟩
        + ∑ k : Fin 512, f ⟨2560 + k.val, by omega⟩
        + ∑ k : Fin 512, f ⟨3072 + k.val, by omega⟩
        + ∑ k : Fin 512, f ⟨3584 + k.val, by omega⟩
        + ∑ k : Fin 512, f ⟨4096 + k.val, by omega⟩
        + ∑ k : Fin 512, f ⟨4608 + k.val, by omega⟩
        + ∑ k : Fin 512, f ⟨5120 + k.val, by omega⟩ := by
  refine ((sum_blocks 11 512 f).trans (sum_eleven _)).trans ?_
  have h0 : ∀ k : Nat, (0 : Fin 11).val * 512 + k = k := fun k => by simp
  simp only [h0]
  rfl

end Cert.Sums
-- ==== Proof.OutValue.lean ====
/- The value of `Cert.OutIdeal`'s result array: the reference's term over the arguments. -/
module

public import proofs.«01_k».proof.Proof.Gen.OutIdeal.Frame
public import proofs.«01_k».proof.Proof.Gen.OutRefIdeal
public import proofs.«01_k».proof.Proof.Sums
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutIdeal.Value

open Cert.OutIdeal Cert.OutIdeal.Gen

variable (m : (ℓ : Loc nD τ sig) → Buf (Elt Ideal) ℓ)

/-- The reference's result as one term over its arguments. -/
abbrev REF (a0 : FVec Ideal Cert.OutRefIdeal.S4x2048x1024 .bf16) (a1 : FVec Ideal Cert.OutRefIdeal.S4x2048x1024 .bf16) (a2 : FVec Ideal Cert.OutRefIdeal.S2048x2048 .f32) (a3 : FVec Ideal Cert.OutRefIdeal.S4x2048x2048 .f32) (a4 : FVec Ideal Cert.OutRefIdeal.S4x12288 .f32) : FVec Ideal Cert.OutRefIdeal.S4x2048x2048 .f32 :=
  addf a3 (mulf (broadcastInDim Cert.OutRefIdeal.S4x2048x2048 ![0, 1, 2] Cert.OutRefIdeal.Gen.bcast_S4x1x2048_S4x2048x2048_0_1_2 (extractStridedSlice Cert.OutRefIdeal.S4x1x2048 ![0, 0, 4096] (broadcastInDim Cert.OutRefIdeal.S4x1x12288 ![0, 2] Cert.OutRefIdeal.Gen.bcast_S4x12288_S4x1x12288_0_2 a4) Cert.OutRefIdeal.Gen.slices_S4x1x12288_S4x1x2048_0_0_4096)) (Host.dotGeneral Cert.OutRefIdeal.dot_S4x2048x2048_S2048x2048_S4x2048x2048_2_0_01_1_n_n none (concatenate Cert.OutRefIdeal.S4x2048x2048 2 [⟨Cert.OutRefIdeal.S4x2048x1024, (extf .f32 a0 Cert.OutRefIdeal.Gen.bitsLt_bf16_f32)⟩, ⟨Cert.OutRefIdeal.S4x2048x1024, (extf .f32 a1 Cert.OutRefIdeal.Gen.bitsLt_bf16_f32)⟩] Cert.OutRefIdeal.Gen.concatenates_S4x2048x1024_S4x2048x1024_S4x2048x2048_d2) a2))

/-- Every window's block index at every grid point, decided. -/
theorem idx_val : ∀ t : Fin cfg0.N, win0_0.index t = ![t.val / 4, 0, 0]
    ∧ win0_1.index t = ![t.val / 4, 0, 0]
    ∧ win0_2.index t = ![t.val % 4, 0, 0]
    ∧ win0_3.index t = ![t.val % 4, 1, 0]
    ∧ win0_4.index t = ![t.val / 4, 0, t.val % 4]
    ∧ win0_5.index t = ![t.val / 4, 0, 8 + (t.val % 4)]
    ∧ win0_6.index t = ![t.val / 4, 0, t.val % 4] :=
  (by decide +kernel : ∀ t : Fin grid0.N, _)

/-- POINT: what the body stores at block index `y` of point `t` is the reference at the array index `y` sits at. -/
theorem point (c : Dev nD) (t : Fin cfg0.N) (y) :
    k0_pay1 (iblk m c 0 t) (iblk m c 2 t) (iblk m c 1 t) (iblk m c 3 t) (iblk m c 4 t) (iblk m c 5 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 6).blk
        t).view.emb y) := by
  pointwise [k0_pay1, REF]
  blk_point [iblk, V, idx_val t]

/-- BRIDGE: the result array after the run (complete: the blocks tile the array, decided). -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  exact point m c t y

end Cert.OutIdeal.Value

end
-- ==== Proof.OutClaims.lean ====
/- The claims about the programs `Out`, `OutIdeal` and `OutRefIdeal`. -/
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.OutValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.OutClaims

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem preserves : Cert.preserves_Out_OutIdeal := trivial

/-- The kernel's result array and the reference's result are one term of the arguments (`final`). -/
theorem algebraic : Cert.algebraic_OutIdeal_OutRefIdeal := by
  pair_intro
  · run_from Cert.OutIdeal.Gen.run_main m g
  · run_from Cert.OutRefIdeal.Value.run m' g'
    exact (Cert.OutIdeal.Value.final m c).symm

end Cert.Proof.OutClaims

end
-- ==== Proof.DownValue.lean ====
/- The value of `Cert.DownIdeal`'s result array: the reference's term over the arguments. -/
module

public import proofs.«01_k».proof.Proof.Gen.DownIdeal.Frame
public import proofs.«01_k».proof.Proof.Gen.DownRefIdeal
public import proofs.«01_k».proof.Proof.Sums
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DownIdeal.Value

open Cert.DownIdeal Cert.DownIdeal.Gen

variable (m : (ℓ : Loc nD τ sig) → Buf (Elt Ideal) ℓ)

/-- The reference's result as one term over its arguments. -/
abbrev REF (a0 : FVec Ideal Cert.DownRefIdeal.S4x2048x5632 .bf16) (a1 : FVec Ideal Cert.DownRefIdeal.S5632x2048 .f32) (a2 : FVec Ideal Cert.DownRefIdeal.S4x2048x2048 .f32) (a3 : FVec Ideal Cert.DownRefIdeal.S4x12288 .f32) : FVec Ideal Cert.DownRefIdeal.S4x2048x2048 .f32 :=
  addf a2 (mulf (broadcastInDim Cert.DownRefIdeal.S4x2048x2048 ![0, 1, 2] Cert.DownRefIdeal.Gen.bcast_S4x1x2048_S4x2048x2048_0_1_2 (extractStridedSlice Cert.DownRefIdeal.S4x1x2048 ![0, 0, 10240] (broadcastInDim Cert.DownRefIdeal.S4x1x12288 ![0, 2] Cert.DownRefIdeal.Gen.bcast_S4x12288_S4x1x12288_0_2 a3) Cert.DownRefIdeal.Gen.slices_S4x1x12288_S4x1x2048_0_0_10240)) (Host.dotGeneral Cert.DownRefIdeal.dot_S4x2048x5632_S5632x2048_S4x2048x2048_2_0_01_1_n_n none (extf .f32 a0 Cert.DownRefIdeal.Gen.bitsLt_bf16_f32) a1))

/-- Every window's block index at every grid point, decided. -/
theorem idx_val : ∀ t : Fin cfg0.N, win0_0.index t = ![0, t.val / 8, t.val / 4 % 2, 0]
    ∧ win0_1.index t = ![t.val % 4, 0, 0]
    ∧ win0_2.index t = ![t.val / 8, t.val / 4 % 2, t.val % 4]
    ∧ win0_3.index t = ![t.val / 8, 0, 20 + (t.val % 4)]
    ∧ win0_4.index t = ![t.val / 8, t.val / 4 % 2, t.val % 4] :=
  (by decide +kernel : ∀ t : Fin grid0.N, _)

/-- POINT: what the body stores at block index `y` of point `t` is the reference at the array index `y` sits at. -/
theorem point (c : Dev nD) (t : Fin cfg0.N) (y) :
    k0_pay1 (k0_pay8 (View.ld (iblk m c 0 t) r0_6)) (k0_pay9 (View.ld (iblk m c 0 t) r0_7)) (k0_pay10 (View.ld (iblk m
      c 0 t) r0_8)) (k0_pay11 (View.ld (iblk m c 0 t) r0_9)) (k0_pay12 (View.ld (iblk m c 0 t) r0_10)) (k0_pay13
      (k0_pay2 (View.ld (iblk m c 0 t) r0_0)) (k0_pay3 (View.ld (iblk m c 0 t) r0_1)) (k0_pay4 (View.ld (iblk m c 0 t)
      r0_2)) (k0_pay5 (View.ld (iblk m c 0 t) r0_3)) (k0_pay6 (View.ld (iblk m c 0 t) r0_4)) (k0_pay7 (View.ld (iblk m c
      0 t) r0_5)) (View.ld (iblk m c 1 t) r0_11) (View.ld (iblk m c 1 t) r0_12) (View.ld (iblk m c 1 t) r0_13) (View.ld
      (iblk m c 1 t) r0_14) (View.ld (iblk m c 1 t) r0_15) (View.ld (iblk m c 1 t) r0_16)) (View.ld (iblk m c 1 t)
      r0_17) (View.ld (iblk m c 1 t) r0_18) (View.ld (iblk m c 1 t) r0_19) (View.ld (iblk m c 1 t) r0_20) (View.ld (iblk
      m c 1 t) r0_21) (iblk m c 2 t) (iblk m c 3 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, k0_pay2, k0_pay3, k0_pay4, k0_pay5, k0_pay6, k0_pay7, k0_pay8, k0_pay9, k0_pay10, k0_pay11, k0_pay12, k0_pay13, REF]
  rw [Cert.Sums.sum_5632]
  blk_point [iblk, V, idx_val t]

/-- BRIDGE: the result array after the run (complete: the blocks tile the array, decided). -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.DownIdeal.Value

end
-- ==== Proof.DownClaims.lean ====
/- The claims about the programs `Down`, `DownIdeal` and `DownRefIdeal`. -/
module

public import proofs.«01_k».proof.Defs
public import proofs.«01_k».proof.Proof.Gen.Down.Frame
public import proofs.«01_k».proof.Proof.Gen.DownIdeal.Frame
public import proofs.«01_k».proof.Proof.Gen.DownRefIdeal.Run
public import proofs.«01_k».proof.Proof.DownValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.DownClaims

theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem preserves : Cert.preserves_Down_DownIdeal := trivial

/-- The kernel's result array and the reference's result are one term of the arguments (`final`). -/
theorem algebraic : Cert.algebraic_DownIdeal_DownRefIdeal := by
  pair_intro
  · run_from Cert.DownIdeal.Gen.run_main m g
  · run_from Cert.DownRefIdeal.Value.run m' g'
    exact (Cert.DownIdeal.Value.final m c).symm

end Cert.Proof.DownClaims

end
-- ==== Proof.GateUpRuns.lean ====
module

public import proofs.«01_k».proof.Proof.Gen.GateUpIdeal.Frame
public import proofs.«01_k».proof.Proof.Gen.GateUpIdeal.Skeleton
public import proofs.«01_k».proof.Proof.Gen.GateUpIdeal.Loops

/-!
One step of the gate and up kernel, run on buffers of known contents: the first step, which
fills the first half of the scratch before it reads it, and any later step. Each run gives the
list of blocks that the step writes to the output's buffer and to the scratch.
-/

@[expose] public section

set_option maxRecDepth 16384

noncomputable section

namespace Cert.GateUpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen

variable {F : FTy → Type} [FloatOps F]

local notation "𝕄" => MT nD τ sig Unit (Elt F) ℕ (UR sig nD τ) ℕ

variable (c : Dev nD) (i : grid0.Coords)
  (arg3 : Memref sig .tc .vmem S1x1024x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S1x1x2048 .f32) (harg6 : arg6.IsWhole)
  (arg7 : Memref sig .tc .vmem S1x1x2048 .f32) (harg7 : arg7.IsWhole)
  (arg8 : Memref sig .tc .vmem S1x2048 .f32) (harg8 : arg8.IsWhole)
  (arg9 : Memref sig .tc .vmem S1x2048x512 .bf16) (harg9 : arg9.IsWhole)
  (arg10 : Memref sig .tc .vmem S1x2048x512 .bf16) (harg10 : arg10.IsWhole)
  (arg11 : Memref sig .tc .vmem S1x1x1024x512 .bf16) (harg11 : arg11.IsWhole)
  (arg12 : Memref sig .tc .vmem S2x1024x2048 .bf16) (harg12 : arg12.IsWhole)
  (x0 : Vec F S1x1024x2048 .f32)
  (x1 : Vec F S1x1x2048 .f32)
  (x2 : Vec F S1x1x2048 .f32)
  (x3 : Vec F S1x1x2048 .f32)
  (x4 : Vec F S1x1x2048 .f32)
  (x5 : Vec F S1x2048 .f32)
  (x6 : Vec F S1x2048x512 .bf16)
  (x7 : Vec F S1x2048x512 .bf16)
  (x8 : Vec F S2x1024x2048 .bf16)

set_option maxHeartbeats 4000000 in
/-- A step after the first. -/
def laterRun (hc0 : ¬ k0_cond1 i = 1#1) :
    Σ' (L11 : List (View.Piece (Elt F) S1x1x1024x512 .bf16)), { L12 : List (View.Piece (Elt F) S2x1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ owns (c : Thread nD τ) arg12 fullShare x8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
                ∗ (∃ f, (arg11.view.loc (c : Thread nD τ) ↦[arg11.view.set]{fullShare} arg11.view.writes (Elt F) f L11))
                ∗ (arg12.view.loc (c : Thread nD τ) ↦[arg12.view.set]{fullShare} arg12.view.writes (Elt F) (harg12.unread x8) L12)) -∗ K ⟨⟩))
          ⊢ wp frame (wpE (defs₀ (F := F)) Variants.none c none) E (cc0_gate_up_prompt i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_gate_up_prompt_eq_skeleton]; unfold cc0_gate_up_prompt_skel
    simp only [k0_part6_eq_skeleton]; unfold k0_part6_skel
    simp only [k0_part1_eq_skeleton, k0_part2_eq_skeleton, k0_part3_eq_skeleton, k0_part4_eq_skeleton, k0_part5_eq_skeleton]
    unfold k0_part5_skel k0_part4_skel k0_part3_skel k0_part2_skel k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf8
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H9]; · iexists _; iexact H9
    iexact H8

set_option maxHeartbeats 4000000 in
/-- The first step. -/
def firstRun (hc0 : k0_cond1 i = 1#1) :
    Σ' (L11 : List (View.Piece (Elt F) S1x1x1024x512 .bf16)), { L12 : List (View.Piece (Elt F) S2x1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ owns (c : Thread nD τ) arg12 fullShare x8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
                ∗ (∃ f, (arg11.view.loc (c : Thread nD τ) ↦[arg11.view.set]{fullShare} arg11.view.writes (Elt F) f L11))
                ∗ (arg12.view.loc (c : Thread nD τ) ↦[arg12.view.set]{fullShare} arg12.view.writes (Elt F) (harg12.unread x8) L12)) -∗ K ⟨⟩))
          ⊢ wp frame (wpE (defs₀ (F := F)) Variants.none c none) E (cc0_gate_up_prompt i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_gate_up_prompt_eq_skeleton]; unfold cc0_gate_up_prompt_skel
    simp only [k0_part6_eq_skeleton]; unfold k0_part6_skel
    simp only [k0_part1_eq_skeleton, k0_part2_eq_skeleton, k0_part3_eq_skeleton, k0_part4_eq_skeleton, k0_part5_eq_skeleton]
    unfold k0_part5_skel k0_part4_skel k0_part3_skel k0_part2_skel k0_part1_skel
    rw [dif_pos hc0]
    simp only [bind_assoc]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf8
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H9]; · iexists _; iexact H9
    iexact H8

end Cert.GateUpIdeal

end
-- ==== Proof.GateUpPieces.lean ====
module

public import proofs.«01_k».proof.Proof.GateUpRuns

/-!
The blocks that one step of the gate and up kernel writes, in a form that can be read: seven
groups of sixteen normalized rows for the next tile, at the first step before them the sixty-four
groups of the first tile, and the output's block.
-/

@[expose] public section

set_option maxRecDepth 16384

noncomputable section

namespace Cert.GateUpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen

variable {F : FTy → Type} [FloatOps F]

local notation "𝕄" => MT nD τ sig Unit (Elt F) ℕ (UR sig nD τ) ℕ

variable (c : Dev nD) (i : grid0.Coords)
  (arg3 : Memref sig .tc .vmem S1x1024x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S1x1x2048 .f32) (harg6 : arg6.IsWhole)
  (arg7 : Memref sig .tc .vmem S1x1x2048 .f32) (harg7 : arg7.IsWhole)
  (arg8 : Memref sig .tc .vmem S1x2048 .f32) (harg8 : arg8.IsWhole)
  (arg9 : Memref sig .tc .vmem S1x2048x512 .bf16) (harg9 : arg9.IsWhole)
  (arg10 : Memref sig .tc .vmem S1x2048x512 .bf16) (harg10 : arg10.IsWhole)
  (arg11 : Memref sig .tc .vmem S1x1x1024x512 .bf16) (harg11 : arg11.IsWhole)
  (arg12 : Memref sig .tc .vmem S2x1024x2048 .bf16) (harg12 : arg12.IsWhole)
  (x0 : Vec F S1x1024x2048 .f32)
  (x1 : Vec F S1x1x2048 .f32)
  (x2 : Vec F S1x1x2048 .f32)
  (x3 : Vec F S1x1x2048 .f32)
  (x4 : Vec F S1x1x2048 .f32)
  (x5 : Vec F S1x2048 .f32)
  (x6 : Vec F S1x2048x512 .bf16)
  (x7 : Vec F S1x2048x512 .bf16)
  (x8 : Vec F S2x1024x2048 .bf16)

/-- Sixteen rows of a block at a time, scaled, gained and shifted, at a step's `r`-th place. -/
def slab (i : grid0.Coords) (g : Vec F S1x2048 .f32) (sc sh : Vec F S1x1x2048 .f32) (x : Vec F S1x1024x2048 .f32) (r : Fin 7) :
    View.Piece (Elt F) S2x1024x2048 .bf16 :=
  ⟨Rect.unit (k0_off8 i (BitVec.ofNat 32 (16 * r.val))) S1x16x2048.size (k0_off8_inb i r),
    k0_pay1 g sc sh (View.ld x (Rect.unit (k0_off5 i (BitVec.ofNat 32 (16 * r.val))) S1x16x2048.size (k0_off5_inb i r)))⟩

/-- The seven groups of a step, the last written first. -/
def slabs (i : grid0.Coords) (g : Vec F S1x2048 .f32) (sc sh : Vec F S1x1x2048 .f32) (x : Vec F S1x1024x2048 .f32) :
    List (View.Piece (Elt F) S2x1024x2048 .bf16) :=
  [slab i g sc sh x 6, slab i g sc sh x 5, slab i g sc sh x 4, slab i g sc sh x 3, slab i g sc sh x 2, slab i g sc sh x 1, slab i g sc sh x 0]

/-- Sixteen rows of the first tile, at the loop's trip `k`. -/
def fillSlab (i : grid0.Coords) (hc0 : k0_cond1 i = 1#1) (g : Vec F S1x2048 .f32) (sc sh : Vec F S1x1x2048 .f32) (x : Vec F S1x1024x2048 .f32)
    (k : Fin k0_t1_loop.trips) : View.Piece (Elt F) S2x1024x2048 .bf16 :=
  ⟨Rect.unit (k0_off3 k) S1x16x2048.size (k0_off3_inb i k hc0),
    k0_pay1 g sc sh (View.ld x (Rect.unit (k0_off1 k) S1x16x2048.size (k0_off1_inb i k hc0)))⟩

/-- The groups of the trips before `k`, the last written first. -/
def fill (i : grid0.Coords) (hc0 : k0_cond1 i = 1#1) (g : Vec F S1x2048 .f32) (sc sh : Vec F S1x1x2048 .f32) (x : Vec F S1x1024x2048 .f32) :
    ℕ → List (View.Piece (Elt F) S2x1024x2048 .bf16)
  | 0 => []
  | k + 1 => if h : k < k0_t1_loop.trips then fillSlab i hc0 g sc sh x ⟨k, h⟩ :: fill i hc0 g sc sh x k else fill i hc0 g sc sh x k

/-- The output's block from the scratch as the step reads it. -/
def outPiece (i : grid0.Coords) (h : Vec F S2x1024x2048 .bf16) (wg wu : Vec F S1x2048x512 .bf16) :
    View.Piece (Elt F) S1x1x1024x512 .bf16 :=
  ⟨Rect.unit ![0, 0, 0, 0] S1x1x1024x512.size inb_S1x1x1024x512_S1x1x1024x512_0_0_0_0,
    k0_pay3 (k0_pay2 (View.ld h (Rect.unit (k0_off4 i) S1x1024x2048.size (k0_off4_inb i)))
      (View.ld wg (Rect.unit ![0, 0, 0] S1x2048x512.size inb_S1x2048x512_S1x2048x512_0_0_0))
      (View.ld wu (Rect.unit ![0, 0, 0] S1x2048x512.size inb_S1x2048x512_S1x2048x512_0_0_0)))⟩

/-- A vector read whole. -/
abbrev whole1 (g : Vec F S1x2048 .f32) : Vec F S1x2048 .f32 :=
  View.ld g (Rect.unit ![0, 0] S1x2048.size inb_S1x2048_S1x2048_0_0)
abbrev whole2 (g : Vec F S1x1x2048 .f32) : Vec F S1x1x2048 .f32 :=
  View.ld g (Rect.unit ![0, 0, 0] S1x1x2048.size inb_S1x1x2048_S1x1x2048_0_0_0)

theorem laterRun_scratch (hc0 : ¬ k0_cond1 i = 1#1) :
    (laterRun c i arg3 harg3 arg4 harg4 arg5 harg5 arg6 harg6 arg7 harg7 arg8 harg8 arg9 harg9 arg10 harg10 arg11 harg11 arg12 harg12 x0 x1 x2 x3 x4 x5 x6 x7 x8 hc0).2.1 = slabs i (whole1 x5) (whole2 x4) (whole2 x3) x0 := by
  unfold laterRun
  unfold laterRun.sl.H8_6 laterRun.sl.H8_5 laterRun.sl.H8_4 laterRun.sl.H8_3 laterRun.sl.H8_2 laterRun.sl.H8_1
  simp only [View.readAt_eq_ld, Memref.IsWhole.read_unread]
  rfl

theorem laterRun_out (hc0 : ¬ k0_cond1 i = 1#1) :
    (laterRun c i arg3 harg3 arg4 harg4 arg5 harg5 arg6 harg6 arg7 harg7 arg8 harg8 arg9 harg9 arg10 harg10 arg11 harg11 arg12 harg12 x0 x1 x2 x3 x4 x5 x6 x7 x8 hc0).1 = [outPiece i x8 x6 x7] := by
  unfold laterRun
  simp only [View.readAt_eq_ld, Memref.IsWhole.read_unread]
  rfl

theorem trip_pieces (hc0 : k0_cond1 i = 1#1) (g : Vec F S1x2048 .f32) (sc sh : Vec F S1x1x2048 .f32) (k : Fin k0_t1_loop.trips) :
    tripL_k0_t1 (F := F) Variants.none c none i arg3 harg3 arg4 harg4 arg5 harg5 arg6 harg6 arg7 harg7 arg8 harg8 arg9 harg9 arg10 harg10 arg11 harg11 arg12 harg12 hc0 g sc sh (harg3.unread x0) k = [fillSlab i hc0 g sc sh x0 k] := by
  unfold tripL_k0_t1 trip_k0_t1
  simp only [View.readAt_eq_ld, Memref.IsWhole.read_unread]
  rfl

theorem loop_pieces (hc0 : k0_cond1 i = 1#1) (g : Vec F S1x2048 .f32) (sc sh : Vec F S1x1x2048 .f32) (k : ℕ) :
    pb_k0_t1 (F := F) Variants.none c none i arg3 harg3 arg4 harg4 arg5 harg5 arg6 harg6 arg7 harg7 arg8 harg8 arg9 harg9 arg10 harg10 arg11 harg11 arg12 harg12 hc0 g sc sh (harg3.unread x0) k = fill i hc0 g sc sh x0 k := by
  induction k with
  | zero => rfl
  | succ k ih =>
    rw [pb_k0_t1.eq_2, fill, ih]
    unfold pb_k0_t1Step
    split
    · rw [trip_pieces]; rfl
    · rfl

theorem firstRun_scratch (hc0 : k0_cond1 i = 1#1) :
    (firstRun c i arg3 harg3 arg4 harg4 arg5 harg5 arg6 harg6 arg7 harg7 arg8 harg8 arg9 harg9 arg10 harg10 arg11 harg11 arg12 harg12 x0 x1 x2 x3 x4 x5 x6 x7 x8 hc0).2.1
      = slabs i (whole1 x5) (whole2 x4) (whole2 x3) x0 ++ fill i hc0 (whole1 x5) (whole2 x2) (whole2 x1) x0 k0_t1_loop.trips := by
  rw [← loop_pieces c i arg3 harg3 arg4 harg4 arg5 harg5 arg6 harg6 arg7 harg7 arg8 harg8 arg9 harg9 arg10 harg10 arg11 harg11 arg12 harg12]
  unfold firstRun
  unfold firstRun.sl.H8_6 firstRun.sl.H8_5 firstRun.sl.H8_4 firstRun.sl.H8_3 firstRun.sl.H8_2 firstRun.sl.H8_1
  simp only [View.readAt_eq_ld, Memref.IsWhole.read_unread]
  rfl

theorem firstRun_out (hc0 : k0_cond1 i = 1#1) :
    (firstRun c i arg3 harg3 arg4 harg4 arg5 harg5 arg6 harg6 arg7 harg7 arg8 harg8 arg9 harg9 arg10 harg10 arg11 harg11 arg12 harg12 x0 x1 x2 x3 x4 x5 x6 x7 x8 hc0).1
      = [outPiece i (arg12.view.read (Elt F) (arg12.view.writes (Elt F) (harg12.unread x8)
          (fill i hc0 (whole1 x5) (whole2 x2) (whole2 x1) x0 k0_t1_loop.trips))) x6 x7] := by
  rw [← loop_pieces c i arg3 harg3 arg4 harg4 arg5 harg5 arg6 harg6 arg7 harg7 arg8 harg8 arg9 harg9 arg10 harg10 arg11 harg11 arg12 harg12]
  unfold firstRun
  unfold firstRun.sl.x
  simp only [View.readAt_eq_ld, Memref.IsWhole.read_unread]
  rfl

end Cert.GateUpIdeal

end
-- ==== Proof.GateUpNorm.lean ====
module

public import proofs.«01_k».proof.Proof.GateUpPieces
public import Idealize.ShloMosaic.Lib.Pipeline.ValueKit
public import Idealize.ShloMosaic.Lib.WritesUnit

/-!
What the gate and up kernel keeps in its scratch: before a step, the half that the step reads
holds the normalized rows of the step's tile, and the other half holds those rows of the next
tile that the tile's earlier steps have written.
-/

@[expose] public section

set_option maxRecDepth 16384

noncomputable section

namespace Cert.GateUpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen

variable {F : FTy → Type} [FloatOps F]

local notation "𝕄" => MT nD τ sig Unit (Elt F) ℕ (UR sig nD τ) ℕ

variable (m : (ℓ : Loc nD τ sig) → Buf (Elt F) ℓ)

/-- Every window's block index at every step. -/
theorem idx_val : ∀ t : Fin cfg0.N,
    win0_0.index t = ![(if t.val % 11 = 0 then t.val / 11 else min (t.val / 11 + 1) 7) / 2,
      (if t.val % 11 = 0 then t.val / 11 else min (t.val / 11 + 1) 7) % 2, 0]
    ∧ win0_1.index t = ![0, 0, 3] ∧ win0_2.index t = ![0, 0, 4]
    ∧ win0_3.index t = ![min (t.val / 11 + 1) 7 / 2, 0, 3] ∧ win0_4.index t = ![min (t.val / 11 + 1) 7 / 2, 0, 4]
    ∧ win0_5.index t = ![0, 0]
    ∧ win0_6.index t = ![t.val % 11, 0, 0] ∧ win0_7.index t = ![t.val % 11, 0, 0]
    ∧ win0_8.index t = ![t.val % 11, t.val / 22, t.val / 11 % 2, 0] :=
  (by decide +kernel : ∀ t : Fin grid0.N, _)

/-- Where a step writes its seven groups, and where it reads them. -/
theorem slab_off : ∀ (t : Fin cfg0.N) (r : Fin 7),
    k0_off8 (grid0.coords t) (BitVec.ofNat 32 (16 * r.val)) = ![1 - t.val / 11 % 2, min (112 * (t.val % 11 - 1)) 912 + 16 * r.val, 0]
    ∧ k0_off5 (grid0.coords t) (BitVec.ofNat 32 (16 * r.val)) = ![0, min (112 * (t.val % 11 - 1)) 912 + 16 * r.val, 0] :=
  (by decide +kernel : ∀ (t : Fin grid0.N) (r : Fin 7), _)

theorem read_off : ∀ t : Fin cfg0.N, k0_off4 (grid0.coords t) = ![t.val / 11 % 2, 0, 0] :=
  (by decide +kernel : ∀ t : Fin grid0.N, _)

theorem first_iff : ∀ t : Fin cfg0.N, k0_cond1 (grid0.coords t) = 1#1 ↔ t.val = 0 :=
  (by decide +kernel : ∀ t : Fin grid0.N, _)

theorem fill_off : ∀ k : Fin k0_t1_loop.trips, k0_off3 k = ![0, 16 * k.val, 0] ∧ k0_off1 k = ![0, 16 * k.val, 0] := by
  decide +kernel

theorem fill_trips : k0_t1_loop.trips = 64 := by decide +kernel

/-- A tile of the residual stream. -/
def xTile (c : Dev nD) (q : ℕ) : Vec F S1x1024x2048 .f32 := fun y =>
  V m c main_arg0 (ValueIdx.ix3 (⟨q / 2 % 4, by omega⟩ : Fin 4) (⟨q % 2 * 1024 + (y 1).val, by have : (y 1).val < 1024 := (y 1).isLt; omega⟩ : Fin 2048) (y 2))

/-- The `k`-th part of the modulation of a tile's batch. -/
def modPart (c : Dev nD) (q : ℕ) (k : Fin 6) : Vec F S1x1x2048 .f32 := fun y =>
  V m c main_v0 (ValueIdx.ix3 (⟨q / 2 % 4, by omega⟩ : Fin 4) (0 : Fin 1) (⟨k.val * 2048 + (y 2).val, by have : (y 2).val < 2048 := (y 2).isLt; omega⟩ : Fin 12288))

/-- The norm's gain. -/
def gainRow (c : Dev nD) : Vec F S1x2048 .f32 := V m c main_v1

/-- The tile that a step finds in its first window. -/
def tileAt (n : ℕ) : ℕ := if n % 11 = 0 then n / 11 else min (n / 11 + 1) 7

theorem blk0 (c : Dev nD) (t : Fin cfg0.N) : iblk m c 0 t = xTile m c (tileAt t.val) := by
  have h : win0_0.index t = ![tileAt t.val / 2, tileAt t.val % 2, 0] := (idx_val t).1
  have hN : t.val < 88 := t.isLt
  have hq : tileAt t.val < 8 := by unfold tileAt; split <;> omega
  generalize tileAt t.val = q at h hq
  funext y
  have h0 : (y 0).val < 1 := (y 0).isLt
  refine congrArg (V m c main_arg0) (funext fun a => Fin.ext ?_)
  fin_cases a
  · blk_simp
    exact (congrFun h 0).trans (show q / 2 = q / 2 % 4 by omega)
  · blk_simp
    rw [show win0_0.index t 1 = q % 2 from congrFun h 1]
    rfl
  · blk_simp
    rw [show win0_0.index t 2 = 0 from congrFun h 2]
    exact Nat.zero_add _

theorem blkMod (c : Dev nD) (t : Fin cfg0.N) :
    iblk m c 1 t = modPart m c 0 3 ∧ iblk m c 2 t = modPart m c 0 4
    ∧ iblk m c 3 t = modPart m c (min (t.val / 11 + 1) 7) 3 ∧ iblk m c 4 t = modPart m c (min (t.val / 11 + 1) 7) 4 := by
  obtain ⟨-, h1, h2, h3, h4, -⟩ := idx_val t
  have hN : t.val < 88 := t.isLt
  have hq : min (t.val / 11 + 1) 7 < 8 := by omega
  generalize min (t.val / 11 + 1) 7 = q at h3 h4 hq
  refine ⟨funext fun y => congrArg (V m c main_v0) (funext fun a => Fin.ext ?_), funext fun y => congrArg (V m c main_v0) (funext fun a => Fin.ext ?_),
    funext fun y => congrArg (V m c main_v0) (funext fun a => Fin.ext ?_), funext fun y => congrArg (V m c main_v0) (funext fun a => Fin.ext ?_)⟩
  · fin_cases a <;> blk_simp
    · exact congrFun h1 0
    · exact congrFun h1 1
    · rw [show win0_1.index t 2 = 3 from congrFun h1 2]; try rfl
  · fin_cases a <;> blk_simp
    · exact congrFun h2 0
    · exact congrFun h2 1
    · rw [show win0_2.index t 2 = 4 from congrFun h2 2]; try rfl
  · fin_cases a <;> blk_simp
    · exact (congrFun h3 0).trans (show q / 2 = q / 2 % 4 by omega)
    · exact congrFun h3 1
    · rw [show win0_3.index t 2 = 3 from congrFun h3 2]; try rfl
  · fin_cases a <;> blk_simp
    · exact (congrFun h4 0).trans (show q / 2 = q / 2 % 4 by omega)
    · exact congrFun h4 1
    · rw [show win0_4.index t 2 = 4 from congrFun h4 2]; try rfl

theorem blkGain (c : Dev nD) (t : Fin cfg0.N) : iblk m c 5 t = gainRow m c := by
  obtain ⟨-, -, -, -, -, h5, -⟩ := idx_val t
  refine funext fun y => congrArg (V m c main_v1) (funext fun a => Fin.ext ?_)
  fin_cases a <;> blk_simp
  · rw [show win0_5.index t 0 = 0 from congrFun h5 0]
  · rw [show win0_5.index t 1 = 0 from congrFun h5 1]; exact Nat.zero_add _

/-- Sixteen rows of a tile. -/
def chunk (X : Vec F S1x1024x2048 .f32) (q : Fin 64) : Vec F S1x16x2048 .f32 := fun y =>
  X (ValueIdx.ix3 (0 : Fin 1) (⟨16 * q.val + (y 1).val, by have : (y 1).val < 16 := (y 1).isLt; omega⟩ : Fin 1024) (y 2))

/-- Row `r` of a normed tile, at column `k`. -/
def rowsOf (g : Vec F S1x2048 .f32) (sc sh : Vec F S1x1x2048 .f32) (X : Vec F S1x1024x2048 .f32) (r : Fin 1024) (k : Fin 2048) : Elt F .bf16 :=
  k0_pay1 g sc sh (chunk X ⟨r.val / 16, by omega⟩) (ValueIdx.ix3 (0 : Fin 1) (⟨r.val % 16, by omega⟩ : Fin 16) k)

/-- Row `r` of the normed tile `q`, at column `k`. -/
def nrow (c : Dev nD) (q : ℕ) (r : Fin 1024) (k : Fin 2048) : Elt F .bf16 :=
  rowsOf (gainRow m c) (modPart m c q 4) (modPart m c q 3) (xTile m c q) r k

theorem ld_chunk (X : Vec F S1x1024x2048 .f32) {off : Fin 3 → ℕ} (inb : ∀ a, off a + S1x16x2048.size a ≤ S1x1024x2048.size a) (q : Fin 64)
    (h : off = ![0, 16 * q.val, 0]) : View.ld X (Rect.unit off S1x16x2048.size inb) = chunk X q := by
  subst h
  funext y
  refine congrArg X (funext fun a => Fin.ext ?_)
  have h0 : (y 0).val < 1 := (y 0).isLt
  fin_cases a
  · show 0 + 1 * (y 0).val = 0
    omega
  · show 16 * q.val + 1 * (y 1).val = 16 * q.val + (y 1).val
    omega
  · show 0 + 1 * (y 2).val = (y 2).val
    omega

/-- Reading what one group of sixteen rows has been written over. -/
theorem read_group {κ : Kind} {sp : Space} (v : View sig κ sp S2x1024x2048 .bf16) (f : v.ty.Contents (Elt F))
    {off : Fin 3 → ℕ} (inb : ∀ a, off a + S1x16x2048.size a ≤ S2x1024x2048.size a)
    {off1 : Fin 3 → ℕ} (inb1 : ∀ a, off1 a + S1x16x2048.size a ≤ S1x1024x2048.size a)
    (g : Vec F S1x2048 .f32) (sc sh : Vec F S1x1x2048 .f32) (X : Vec F S1x1024x2048 .f32)
    (L : List (View.Piece (Elt F) S2x1024x2048 .bf16)) (s : ℕ) (q : Fin 64)
    (ho : off = ![s, 16 * q.val, 0]) (ho1 : off1 = ![0, 16 * q.val, 0]) (y : S2x1024x2048.Idx) :
    v.read (Elt F) (v.writes (Elt F) f ((⟨Rect.unit off S1x16x2048.size inb, k0_pay1 g sc sh (View.ld X (Rect.unit off1 S1x16x2048.size inb1))⟩ :
        View.Piece (Elt F) S2x1024x2048 .bf16) :: L)) y
      = if (y 0).val = s ∧ (y 1).val / 16 = q.val then rowsOf g sc sh X (y 1) (y 2) else v.read (Elt F) (v.writes (Elt F) f L) y := by
  have h1 : (y 1).val < 1024 := (y 1).isLt
  have h2 : (y 2).val < 2048 := (y 2).isLt
  split
  · rename_i h
    rw [View.read_writes_cons_unit_of_mem v f inb _ L y
      (ValueIdx.ix3 (0 : Fin 1) (⟨(y 1).val % 16, by omega⟩ : Fin 16) (y 2)) ho ?_, ld_chunk X inb1 q ho1]
    · unfold rowsOf
      have hq : q = ⟨(y 1).val / 16, by omega⟩ := Fin.ext h.2.symm
      exact congrArg (fun z => k0_pay1 g sc sh (chunk X z) (ValueIdx.ix3 (0 : Fin 1) (⟨(y 1).val % 16, by omega⟩ : Fin 16) (y 2))) hq
    · intro a
      fin_cases a
      · show (y 0).val = s + 0
        omega
      · show (y 1).val = 16 * q.val + (y 1).val % 16
        omega
      · show (y 2).val = 0 + (y 2).val
        omega
  · rename_i h
    by_cases hs : (y 0).val = s
    · refine View.read_writes_cons_unit_of_not_mem v f inb _ L y ho 1 ?_
      show (y 1).val < 16 * q.val ∨ 16 * q.val + 16 ≤ (y 1).val
      omega
    · refine View.read_writes_cons_unit_of_not_mem v f inb _ L y ho 0 ?_
      show (y 0).val < s ∨ s + 1 ≤ (y 0).val
      omega

/-- Reading what a step's seven groups have been written over. -/
theorem read_slabs {κ : Kind} {sp : Space} (v : View sig κ sp S2x1024x2048 .bf16) (f : v.ty.Contents (Elt F)) (t : Fin cfg0.N)
    (g : Vec F S1x2048 .f32) (sc sh : Vec F S1x1x2048 .f32) (X : Vec F S1x1024x2048 .f32)
    (L : List (View.Piece (Elt F) S2x1024x2048 .bf16)) (y : S2x1024x2048.Idx) :
    v.read (Elt F) (v.writes (Elt F) f (slabs (grid0.coords t) g sc sh X ++ L)) y
      = if (y 0).val = 1 - t.val / 11 % 2 ∧ min (7 * (t.val % 11 - 1)) 57 ≤ (y 1).val / 16 ∧ (y 1).val / 16 < min (7 * (t.val % 11 - 1)) 57 + 7
        then rowsOf g sc sh X (y 1) (y 2) else v.read (Elt F) (v.writes (Elt F) f L) y := by
  have step : ∀ (r : Fin 7) (L : List (View.Piece (Elt F) S2x1024x2048 .bf16)),
      v.read (Elt F) (v.writes (Elt F) f (slab (grid0.coords t) g sc sh X r :: L)) y
        = if (y 0).val = 1 - t.val / 11 % 2 ∧ (y 1).val / 16 = min (7 * (t.val % 11 - 1)) 57 + r.val
          then rowsOf g sc sh X (y 1) (y 2) else v.read (Elt F) (v.writes (Elt F) f L) y := fun r L => by
    have e : min (112 * (t.val % 11 - 1)) 912 + 16 * r.val = 16 * (min (7 * (t.val % 11 - 1)) 57 + r.val) := by omega
    exact read_group v f _ _ g sc sh X L (1 - t.val / 11 % 2) ⟨min (7 * (t.val % 11 - 1)) 57 + r.val, by omega⟩
      ((slab_off t r).1.trans (by rw [e])) ((slab_off t r).2.trans (by rw [e])) y
  unfold slabs
  simp only [List.cons_append, List.nil_append]
  rw [step 6, step 5, step 4, step 3, step 2, step 1, step 0]
  simp only [show (6 : Fin 7).val = 6 from rfl, show (5 : Fin 7).val = 5 from rfl, show (4 : Fin 7).val = 4 from rfl, show (3 : Fin 7).val = 3 from rfl,
    show (2 : Fin 7).val = 2 from rfl, show (1 : Fin 7).val = 1 from rfl, show (0 : Fin 7).val = 0 from rfl]
  generalize rowsOf g sc sh X (y 1) (y 2) = A
  generalize v.read (Elt F) (v.writes (Elt F) f L) y = B
  generalize min (7 * (t.val % 11 - 1)) 57 = o
  split_ifs <;> first | rfl | (exfalso; omega)

/-- Reading what the first step's fill has been written over. -/
theorem read_fill {κ : Kind} {sp : Space} (v : View sig κ sp S2x1024x2048 .bf16) (f : v.ty.Contents (Elt F)) (i : grid0.Coords) (hc0 : k0_cond1 i = 1#1)
    (g : Vec F S1x2048 .f32) (sc sh : Vec F S1x1x2048 .f32) (X : Vec F S1x1024x2048 .f32) (y : S2x1024x2048.Idx) (n : ℕ) (hn : n ≤ k0_t1_loop.trips) :
    v.read (Elt F) (v.writes (Elt F) f (fill i hc0 g sc sh X n)) y
      = if (y 0).val = 0 ∧ (y 1).val / 16 < n then rowsOf g sc sh X (y 1) (y 2) else v.read (Elt F) f y := by
  induction n with
  | zero =>
    rw [if_neg (by omega)]
    rfl
  | succ n ih =>
    have h64 := fill_trips
    rw [fill, dif_pos (show n < k0_t1_loop.trips by omega)]
    refine (read_group v f _ _ g sc sh X _ 0 ⟨n, by omega⟩ (fill_off ⟨n, by omega⟩).1 (fill_off ⟨n, by omega⟩).2 y).trans ?_
    rw [ih (by omega)]
    generalize rowsOf g sc sh X (y 1) (y 2) = A
    generalize v.read (Elt F) f y = B
    dsimp only
    split_ifs <;> first | rfl | (exfalso; omega)

/-- What the scratch holds before step `n`: the half that the step reads holds its tile's normed rows, the other half the next
tile's rows written so far. Before the first step nothing is known. -/
def Good (c : Dev nD) (n : ℕ) (h : Vec F S2x1024x2048 .bf16) : Prop :=
  0 < n → n < 88 →
    (∀ y : S2x1024x2048.Idx, (y 0).val = n / 11 % 2 → h y = nrow m c (n / 11) (y 1) (y 2))
    ∧ ∀ y : S2x1024x2048.Idx, (y 0).val = 1 - n / 11 % 2 → (y 1).val / 16 < 7 * (n % 11 - 1) → h y = nrow m c (min (n / 11 + 1) 7) (y 1) (y 2)

/-- One step's seven groups carry the scratch on to the next step. -/
theorem good_step (c : Dev nD) (t : Fin cfg0.N) (h h' : Vec F S2x1024x2048 .bf16)
    (hcur : ∀ y : S2x1024x2048.Idx, (y 0).val = t.val / 11 % 2 → h y = nrow m c (t.val / 11) (y 1) (y 2))
    (hnext : ∀ y : S2x1024x2048.Idx, (y 0).val = 1 - t.val / 11 % 2 → (y 1).val / 16 < 7 * (t.val % 11 - 1) → h y = nrow m c (min (t.val / 11 + 1) 7) (y 1) (y 2))
    (hw : ∀ y : S2x1024x2048.Idx, h' y
      = if (y 0).val = 1 - t.val / 11 % 2 ∧ min (7 * (t.val % 11 - 1)) 57 ≤ (y 1).val / 16 ∧ (y 1).val / 16 < min (7 * (t.val % 11 - 1)) 57 + 7
        then rowsOf (iblk m c 5 t) (iblk m c 4 t) (iblk m c 3 t) (iblk m c 0 t) (y 1) (y 2) else h y) :
    Good m c (t.val + 1) h' := by
  intro _ hn
  have key : ∀ y : S2x1024x2048.Idx, t.val % 11 ≠ 0 → (y 0).val = 1 - t.val / 11 % 2 → (y 1).val / 16 < 7 * (t.val % 11) →
      h' y = nrow m c (min (t.val / 11 + 1) 7) (y 1) (y 2) := fun y h0 hy hr => by
    have h1 : (y 1).val < 1024 := (y 1).isLt
    rw [hw y, blk0, (blkMod m c t).2.2.1, (blkMod m c t).2.2.2, blkGain, show tileAt t.val = min (t.val / 11 + 1) 7 from if_neg h0]
    split
    · rfl
    · exact hnext y hy (by omega)
  have cur : ∀ y : S2x1024x2048.Idx, (y 0).val = t.val / 11 % 2 → h' y = nrow m c (t.val / 11) (y 1) (y 2) := fun y hy => by
    rw [hw y, if_neg (by omega)]
    exact hcur y hy
  by_cases h10 : t.val % 11 = 10
  · refine ⟨fun y hy => ?_, fun y _ hr => absurd hr (by omega)⟩
    have h1 : (y 1).val < 1024 := (y 1).isLt
    rw [key y (by omega) (by omega) (by omega), show min (t.val / 11 + 1) 7 = (t.val + 1) / 11 by omega]
  · have hd : (t.val + 1) / 11 = t.val / 11 := by omega
    rw [hd]
    refine ⟨cur, fun y hy hr => ?_⟩
    exact key y (by omega) hy (by omega)

/-- The normed tile that a step multiplies. -/
def normTile (c : Dev nD) (q : ℕ) : Vec F S1x1024x2048 .bf16 := fun y => nrow m c q (y 1) (y 2)

theorem ld_cur (c : Dev nD) (t : Fin cfg0.N) (h : Vec F S2x1024x2048 .bf16)
    (hcur : ∀ y : S2x1024x2048.Idx, (y 0).val = t.val / 11 % 2 → h y = nrow m c (t.val / 11) (y 1) (y 2)) :
    View.ld h (Rect.unit (k0_off4 (grid0.coords t)) S1x1024x2048.size (k0_off4_inb (grid0.coords t))) = normTile m c (t.val / 11) := by
  funext y
  have h0 : (y 0).val < 1 := (y 0).isLt
  have h1 : (y 1).val < 1024 := (y 1).isLt
  have ho := read_off t
  have hlt : t.val / 11 % 2 < 2 := by omega
  refine (View.ld_unit_apply_of h _ _ _ y (ValueIdx.ix3 (⟨t.val / 11 % 2, hlt⟩ : Fin 2) (y 1) (y 2)) fun a => ?_).trans (hcur _ rfl)
  refine Eq.trans ?_ (congrArg (· + (y a).val) (congrFun ho a).symm)
  fin_cases a
  · show t.val / 11 % 2 = t.val / 11 % 2 + (y 0).val
    omega
  · show (y 1).val = 0 + (y 1).val
    omega
  · show (y 2).val = 0 + (y 2).val
    omega

/-- After the first step's fill the first half holds the first tile. -/
theorem fill_cur {κ : Kind} {sp : Space} (v : View sig κ sp S2x1024x2048 .bf16) (f : v.ty.Contents (Elt F)) (c : Dev nD) (t : Fin cfg0.N)
    (ht : t.val = 0) (hc0 : k0_cond1 (grid0.coords t) = 1#1) (y : S2x1024x2048.Idx) (hy : (y 0).val = t.val / 11 % 2) :
    v.read (Elt F) (v.writes (Elt F) f (fill (grid0.coords t) hc0 (iblk m c 5 t) (iblk m c 2 t) (iblk m c 1 t) (iblk m c 0 t) k0_t1_loop.trips)) y
      = nrow m c (t.val / 11) (y 1) (y 2) := by
  have h1 : (y 1).val < 1024 := (y 1).isLt
  have h64 := fill_trips
  rw [read_fill v f _ hc0 _ _ _ _ y _ le_rfl, if_pos (by omega), blk0, (blkMod m c t).1, (blkMod m c t).2.1, blkGain, ht]
  rfl

end Cert.GateUpIdeal

end
-- ==== Proof.GateUpRun.lean ====
module

public import proofs.«01_k».proof.Proof.GateUpNorm

/-!
The run of the gate and up kernel: its body's obligation at every step, with what the scratch
holds carried from step to step, and the frame.
-/

@[expose] public section

set_option maxRecDepth 16384

noncomputable section

namespace Cert.GateUpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch owned at contents that are good before step `n`, and the generator register. -/
def inv (c : Dev nD) (n : ℕ) : sProp 𝕄 :=
  iprop((∃ h, ⌜Good m c n h⌝ ∗ owns (c : Thread nD τ) (Memref.whole cc0_scratch0) fullShare h) ∗ ∃ r, prngReg c r)

/-- The block that a step writes to the output. -/
def outBlk (c : Dev nD) (t : Fin cfg0.N) : Vec F S1x1x1024x512 .bf16 :=
  k0_pay3 (k0_pay2 (normTile m c (t.val / 11)) (iblk m c 6 t) (iblk m c 7 t))

/-- What the run is proved with: the arrays as the region finds them, the inputs' buffers left at their blocks, the output's at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body finds at a step, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The output's block, read back from the one store over it. -/
theorem read_out {sp : Space} (v : View sig .tc sp S1x1x1024x512 .bf16) (f : v.ty.Contents (Elt F)) (c : Dev nD) (t : Fin cfg0.N)
    (h : Vec F S2x1024x2048 .bf16)
    (hcur : ∀ y : S2x1024x2048.Idx, (y 0).val = t.val / 11 % 2 → h y = nrow m c (t.val / 11) (y 1) (y 2)) :
    v.read (Elt F) (v.writes (Elt F) f [outPiece (grid0.coords t) h (iblk m c 6 t) (iblk m c 7 t)]) = outBlk m c t := by
  funext y
  unfold outPiece outBlk
  refine (View.read_writes_cons_unit_of_mem v f (off' := ![0, 0, 0, 0]) _ _ [] y y rfl (fun a => by fin_cases a <;> exact (Nat.zero_add _).symm)).trans ?_
  rw [ld_cur m c t h hcur,
    View.ld_unit_zero (by funext a; fin_cases a <;> rfl), View.ld_unit_zero (by funext a; fin_cases a <;> rfl)]

theorem whole1_eq (g : Vec F S1x2048 .f32) : whole1 g = g := View.ld_unit_zero (by funext a; fin_cases a <;> rfl) _ _
theorem whole2_eq (g : Vec F S1x1x2048 .f32) : whole2 g = g := View.ld_unit_zero (by funext a; fin_cases a <;> rfl) _ _

set_option maxHeartbeats 1600000 in
/-- The body at a step: the run of the step's kind, the scratch carried on by `good_step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = inv m c (t.val + 1) from rfl, show (dats m 0 c).Φ t.castSucc = inv m c t.val from rfl,
    show (dats m 0 c).owesAt () t.succ = (dats m 0 c).owesAt () t.castSucc from rfl]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  rw [show (dats m 0 c).leavesExact 5 t = owns (c : Thread nD τ) (st0_5 t) fullShare ((dats m 0 c).after 5 t) from rfl, after0_5]
  rw [show (dats m 0 c).leavesExact 6 t = owns (c : Thread nD τ) (st0_6 t) fullShare ((dats m 0 c).after 6 t) from rfl, after0_6]
  rw [show (dats m 0 c).leavesExact 7 t = owns (c : Thread nD τ) (st0_7 t) fullShare ((dats m 0 c).after 7 t) from rfl, after0_7]
  rw [show (dats m 0 c).leavesExact 8 t = owns (c : Thread nD τ) (st0_8 t) fullShare ((dats m 0 c).after 8 t) from rfl, after0_8]
  have hN : t.val < 88 := t.isLt
  unfold inv
  by_cases h0 : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases HΦ with ⟨⟨%h, %hg, Hs⟩, Hp⟩
    have hc0 : k0_cond1 (grid0.coords t) = 1#1 := (first_iff t).mpr h0
    iapply ((firstRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t) h hc0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [Hs]; · iexact Hs
    iintro ⟨H0, H1, H2, H3, H4, H5, H6, H7, ⟨%e8, H8⟩, Hs⟩
    rw [firstRun_scratch, firstRun_out]
    isplitl [Hs Hp]
    · isplitl [Hs]
      · iexists _
        isplitr
        swap
        · unfold owns
          iexists _
          isplitr
          swap
          · iexact Hs
          ipureintro; rfl
        ipureintro
        rw [whole1_eq, whole2_eq, whole2_eq, whole2_eq, whole2_eq]
        exact good_step m c t _ _ (fun y hy => fill_cur m _ _ c t h0 hc0 y hy) (fun y _ hr => absurd hr (by omega))
          (fun y => read_slabs _ _ t _ _ _ _ _ y)
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    rw [whole1_eq, whole2_eq, whole2_eq]
    exact read_out m _ _ c t _ (fun y hy => fill_cur m _ _ c t h0 hc0 y hy)
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases HΦ with ⟨⟨%h, %hg, Hs⟩, Hp⟩
    have hc0 : ¬ k0_cond1 (grid0.coords t) = 1#1 := fun h => h0 ((first_iff t).mp h)
    obtain ⟨hcur, hnext⟩ := hg (by have : t.castSucc.val = t.val := rfl; omega) hN
    iapply ((laterRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t) h hc0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [Hs]; · iexact Hs
    iintro ⟨H0, H1, H2, H3, H4, H5, H6, H7, ⟨%e8, H8⟩, Hs⟩
    rw [laterRun_scratch, laterRun_out]
    isplitl [Hs Hp]
    · isplitl [Hs]
      · iexists _
        isplitr
        swap
        · unfold owns
          iexists _
          isplitr
          swap
          · iexact Hs
          ipureintro; rfl
        ipureintro
        rw [whole1_eq, whole2_eq, whole2_eq]
        refine good_step m c t h _ hcur hnext (fun y => ?_)
        rw [← List.append_nil (slabs _ _ _ _ _), read_slabs _ _ t _ _ _ _ _ y]
        exact congrArg _ (congrFun (Memref.IsWhole.read_unread _ _) y)
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    exact read_out m _ _ c t h hcur

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first step nothing is asked of the scratch. -/
theorem inv_in (c : Dev nD) : Pipeline.ΦA spec0 c ⊢ (dats m 0 c).Φ 0 := by
  rw [show (dats m 0 c).Φ 0 = inv m c 0 from rfl]
  unfold Pipeline.ΦA inv
  rw [scopedRest0_eq]
  simp only [owns_whole]
  iintro ⟨⟨%f, Hs⟩, Hp⟩
  isplitl [Hs]
  · iexists f
    isplitr
    · ipureintro
      exact fun h => absurd h (lt_irrefl 0)
    iexact Hs
  iexact Hp

/-- After the last step the scratch is given back. -/
theorem inv_out (c : Dev nD) : (dats m 0 c).Φ (Fin.last cfg0.N) ⊢ Pipeline.ΦA spec0 c := by
  rw [show (dats m 0 c).Φ (Fin.last cfg0.N) = inv m c cfg0.N from rfl]
  unfold Pipeline.ΦA inv
  rw [scopedRest0_eq]
  simp only [owns_whole]
  iintro ⟨⟨%f, -, Hs⟩, Hp⟩
  isplitl [Hs]
  · iexists f
    iexact Hs
  iexact Hp

set_option backward.isDefEq.respectTransparency.types false in
/-- The run: every array of the pipeline ends at what `dats` computes, every other unscoped buffer as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.GateUpIdeal

end
-- ==== Proof.GateUpValue.lean ====
/- The value of `Cert.GateUpIdeal`'s result array: the reference's term over the arguments. -/
module

public import proofs.«01_k».proof.Proof.GateUpRun
public import proofs.«01_k».proof.Proof.Gen.GateUpRefIdeal
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! ## The reference, read at an index -/

namespace Cert.GateUpTerm

open Cert.GateUpRefIdeal Cert.GateUpRefIdeal.Gen

/-- The normed and modulated stream, as the reference computes it. -/
def H2 (a0 : FVec Ideal S4x2048x2048 .f32) (a1 : FVec Ideal S4x12288 .f32) (a2 : FVec Ideal S2048 .f32) : FVec Ideal S4x2048x2048 .f32 :=
  addf (mulf (mulf (mulf a0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf a0 a0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 a2))) (broadcastInDim S4x2048x2048 ![0, 1, 2] bcast_S4x1x2048_S4x2048x2048_0_1_2 (addf (broadcastInDim S4x1x2048 ![] bcast_S_S4x1x2048 (constant S_ .f32 0x3F800000#32)) (extractStridedSlice S4x1x2048 ![0, 0, 8192] (broadcastInDim S4x1x12288 ![0, 2] bcast_S4x12288_S4x1x12288_0_2 a1) slices_S4x1x12288_S4x1x2048_0_0_8192)))) (broadcastInDim S4x2048x2048 ![0, 1, 2] bcast_S4x1x2048_S4x2048x2048_0_1_2 (extractStridedSlice S4x1x2048 ![0, 0, 6144] (broadcastInDim S4x1x12288 ![0, 2] bcast_S4x12288_S4x1x12288_0_2 a1) slices_S4x1x12288_S4x1x2048_0_0_6144))

/-- The gated products, laid out by column tiles, as the reference lays them. -/
def ACT (g u : FVec Ideal S4x2048x5632 .f32) : FVec Ideal S11x4x2048x512 .bf16 :=
  transpose S11x4x2048x512 [2, 0, 1, 3] (shapeCast S4x2048x11x512 (truncf .bf16 (mulf (mulf g (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf g))))) u) bitsLt_bf16_f32) shapeCasts_S4x2048x5632_S4x2048x11x512) transposes_S4x2048x11x512_S11x4x2048x512_2_0_1_3

/-- The reference's result as one term over its arguments. -/
def REF (a0 : FVec Ideal S4x2048x2048 .f32) (a1 : FVec Ideal S4x12288 .f32) (a2 : FVec Ideal S2048 .f32)
    (a3 a4 : FVec Ideal S2048x5632 .f32) : FVec Ideal S11x4x2048x512 .bf16 :=
  ACT (Host.dotGeneral dot_S4x2048x2048_S2048x5632_S4x2048x5632_2_0_01_1_n_n none (H2 a0 a1 a2) a3)
    (Host.dotGeneral dot_S4x2048x2048_S2048x5632_S4x2048x5632_2_0_01_1_n_n none (H2 a0 a1 a2) a4)

/-- One entry of a normed row: the entry over the row's root mean square, gained, scaled and shifted. -/
def normAt (x : Fin 2048 → EReal) (k : Fin 2048) (g s h : EReal) : EReal :=
  x k * Ideal.rsqrt (Ideal.div (∑ l, x l * x l) (Ideal.ofBits .f32 0x45000000#32) + Ideal.ofBits .f32 0x358637BD#32) * (g * (1 + s)) + h

/-- The gate's value over one plus its negative's exponential, times the other product. -/
def gated (g u : EReal) : EReal := Ideal.div g (1 + Ideal.exp (-g)) * u

theorem exp_nonneg (x : EReal) : 0 ≤ Ideal.exp x := by
  induction x with
  | bot => exact le_refl _
  | top => exact le_top
  | coe r => exact EReal.coe_nonneg.mpr (Real.exp_pos r).le

theorem gated_eq (g u : EReal) : g * Ideal.div 1 (1 + Ideal.exp (-g)) * u = gated g u := by
  have h : (1 + Ideal.exp (-g) : EReal) ≠ 0 :=
    ((lt_of_lt_of_le zero_lt_one (le_add_of_nonneg_right (exp_nonneg (-g)))) : (0 : EReal) < 1 + Ideal.exp (-g)).ne'
  unfold gated Ideal.div
  rw [if_neg h, if_neg h, one_mul]

theorem H2_at (a0 : FVec Ideal S4x2048x2048 .f32) (a1 : FVec Ideal S4x12288 .f32) (a2 : FVec Ideal S2048 .f32) (b : Fin 4) (s k : Fin 2048) :
    H2 a0 a1 a2 (ix3 b s k) = normAt (fun l => a0 (ix3 b s l)) k (a2 (ix1 k)) (a1 (ix2 b ⟨8192 + k.val, by omega⟩)) (a1 (ix2 b ⟨6144 + k.val, by omega⟩)) := by
  pointwise [H2, normAt]
  rw [← mul_assoc]

theorem ACT_at (g u : FVec Ideal S4x2048x5632 .f32) (j : Fin 11) (b : Fin 4) (s : Fin 2048) (l : Fin 512) :
    ACT g u (ix4 j b s l) = gated (g (ix3 b s ⟨j.val * 512 + l.val, by omega⟩)) (u (ix3 b s ⟨j.val * 512 + l.val, by omega⟩)) := by
  pointwise [ACT]
  exact gated_eq _ _

theorem REF_at (a0 : FVec Ideal S4x2048x2048 .f32) (a1 : FVec Ideal S4x12288 .f32) (a2 : FVec Ideal S2048 .f32)
    (a3 a4 : FVec Ideal S2048x5632 .f32) (j : Fin 11) (b : Fin 4) (s : Fin 2048) (l : Fin 512) :
    REF a0 a1 a2 a3 a4 (ix4 j b s l)
      = gated (∑ k : Fin 2048, H2 a0 a1 a2 (ix3 b s k) * a3 (ix2 k ⟨j.val * 512 + l.val, by omega⟩))
          (∑ k : Fin 2048, H2 a0 a1 a2 (ix3 b s k) * a4 (ix2 k ⟨j.val * 512 + l.val, by omega⟩)) := by
  unfold REF
  rw [ACT_at]
  pointwise []

end Cert.GateUpTerm

namespace Cert.GateUpIdeal.Value

open Cert.GateUpIdeal Cert.GateUpIdeal.Gen Cert.GateUpTerm

/-! ## The kernel's payloads, read at an index -/

theorem norm_at (g : FVec Ideal S1x2048 .f32) (sc sh : FVec Ideal S1x1x2048 .f32) (X : FVec Ideal S1x16x2048 .f32) (r : Fin 16) (k : Fin 2048) :
    k0_pay1 (F := Ideal) g sc sh X (ix3 0 r k)
      = normAt (fun l => X (ix3 0 r l)) k (g (ix2 0 k)) (sc (ix3 0 0 k)) (sh (ix3 0 0 k)) := by
  pointwise [k0_pay1, normAt]

theorem out_at (h : FVec Ideal S1x1024x2048 .bf16) (wg wu : FVec Ideal S1x2048x512 .bf16) (r : Fin 1024) (l : Fin 512) :
    k0_pay3 (F := Ideal) (k0_pay2 (F := Ideal) h wg wu) (ix4 0 0 r l)
      = gated (∑ k : Fin 2048, h (ix3 0 r k) * wg (ix3 0 k l)) (∑ k : Fin 2048, h (ix3 0 r k) * wu (ix3 0 k l)) := by
  pointwise [k0_pay3, k0_pay2, gated]
  rw [zero_sub]

/-! ## The arrays that the windows stage, and their blocks -/

variable (m : (ℓ : Loc nD τ sig) → Buf (Elt Ideal) ℓ)

theorem V_v0 (c : Dev nD) : V m c main_v0 = shapeCast S4x1x12288 (m ((c : Thread nD τ).loc main_arg1)) shapeCasts_S4x12288_S4x1x12288 := by
  unfold V; after_results_simp; try rfl
theorem V_v1 (c : Dev nD) : V m c main_v1 = shapeCast S1x2048 (m ((c : Thread nD τ).loc main_arg2)) shapeCasts_S2048_S1x2048 := by
  unfold V; after_results_simp; try rfl
theorem V_v4 (c : Dev nD) : V m c main_v4 = truncf (F := Ideal) .bf16 (transpose S11x2048x512 [1, 0, 2]
    (shapeCast S2048x11x512 (m ((c : Thread nD τ).loc main_arg3)) shapeCasts_S2048x5632_S2048x11x512) transposes_S2048x11x512_S11x2048x512_1_0_2) bitsLt_bf16_f32 := by
  unfold V; after_results_simp; try rfl
theorem V_v7 (c : Dev nD) : V m c main_v7 = truncf (F := Ideal) .bf16 (transpose S11x2048x512 [1, 0, 2]
    (shapeCast S2048x11x512 (m ((c : Thread nD τ).loc main_arg4)) shapeCasts_S2048x5632_S2048x11x512) transposes_S2048x11x512_S11x2048x512_1_0_2) bitsLt_bf16_f32 := by
  unfold V; after_results_simp; try rfl

theorem mod_at (x : FVec Ideal S4x12288 .f32) (b : Fin 4) (k : Fin 12288) : shapeCast S4x1x12288 x shapeCasts_S4x12288_S4x1x12288 (ix3 b 0 k) = x (ix2 b k) := by
  pointwise []
theorem gain_at (x : FVec Ideal S2048 .f32) (k : Fin 2048) : shapeCast S1x2048 x shapeCasts_S2048_S1x2048 (ix2 0 k) = x (ix1 k) := by
  pointwise []
theorem tile_at (x : FVec Ideal S2048x5632 .f32) (j : Fin 11) (k : Fin 2048) (l : Fin 512) :
    truncf (F := Ideal) .bf16 (transpose S11x2048x512 [1, 0, 2] (shapeCast S2048x11x512 x shapeCasts_S2048x5632_S2048x11x512)
      transposes_S2048x11x512_S11x2048x512_1_0_2) bitsLt_bf16_f32 (ix3 j k l) = x (ix2 k ⟨j.val * 512 + l.val, by omega⟩) := by
  pointwise []

theorem v0_at (c : Dev nD) (b : Fin 4) (k : Fin 12288) : V m c main_v0 (ix3 b 0 k) = (m ((c : Thread nD τ).loc main_arg1)) (ix2 b k) :=
  (congrFun (V_v0 m c) _).trans (mod_at _ b k)
theorem v1_at (c : Dev nD) (k : Fin 2048) : V m c main_v1 (ix2 0 k) = (m ((c : Thread nD τ).loc main_arg2)) (ix1 k) :=
  (congrFun (V_v1 m c) _).trans (gain_at _ k)
theorem v4_at (c : Dev nD) (j : Fin 11) (k : Fin 2048) (l : Fin 512) :
    V m c main_v4 (ix3 j k l) = (m ((c : Thread nD τ).loc main_arg3)) (ix2 k ⟨j.val * 512 + l.val, by omega⟩) :=
  (congrFun (V_v4 m c) _).trans (tile_at _ j k l)
theorem v7_at (c : Dev nD) (j : Fin 11) (k : Fin 2048) (l : Fin 512) :
    V m c main_v7 (ix3 j k l) = (m ((c : Thread nD τ).loc main_arg4)) (ix2 k ⟨j.val * 512 + l.val, by omega⟩) :=
  (congrFun (V_v7 m c) _).trans (tile_at _ j k l)

/-- A staged weight block is a column tile of the weight. -/
theorem wg_at (c : Dev nD) (t : Fin cfg0.N) (k : Fin 2048) (l : Fin 512) :
    iblk m c 6 t (ix3 0 k l) = (m ((c : Thread nD τ).loc main_arg3)) (ix2 k ⟨t.val % 11 * 512 + l.val, by omega⟩) := by
  have h : win0_6.index t = ![t.val % 11, 0, 0] := (idx_val t).2.2.2.2.2.2.1
  refine Eq.trans (congrArg (V m c main_v4) (funext fun a => Fin.ext ?_)) (v4_at m c ⟨t.val % 11, by omega⟩ k l)
  fin_cases a <;> blk_simp
  · exact congrFun h 0
  · rw [show win0_6.index t 1 = 0 from congrFun h 1]; exact Nat.zero_add _
  · rw [show win0_6.index t 2 = 0 from congrFun h 2]; exact Nat.zero_add _
theorem wu_at (c : Dev nD) (t : Fin cfg0.N) (k : Fin 2048) (l : Fin 512) :
    iblk m c 7 t (ix3 0 k l) = (m ((c : Thread nD τ).loc main_arg4)) (ix2 k ⟨t.val % 11 * 512 + l.val, by omega⟩) := by
  have h : win0_7.index t = ![t.val % 11, 0, 0] := (idx_val t).2.2.2.2.2.2.2.1
  refine Eq.trans (congrArg (V m c main_v7) (funext fun a => Fin.ext ?_)) (v7_at m c ⟨t.val % 11, by omega⟩ k l)
  fin_cases a <;> blk_simp
  · exact congrFun h 0
  · rw [show win0_7.index t 1 = 0 from congrFun h 1]; exact Nat.zero_add _
  · rw [show win0_7.index t 2 = 0 from congrFun h 2]; exact Nat.zero_add _

/-! ## The normed tile is a tile of the reference's normed stream -/

theorem chunk_at (X : FVec Ideal S1x1024x2048 .f32) (r : Fin 1024) (l : Fin 2048) :
    chunk (F := Ideal) X ⟨r.val / 16, by omega⟩ (ix3 0 (⟨r.val % 16, by omega⟩ : Fin 16) l) = X (ix3 0 r l) := by
  refine congrArg X (funext fun a => Fin.ext ?_)
  fin_cases a
  · rfl
  · show 16 * (r.val / 16) + r.val % 16 = r.val
    omega
  · rfl

theorem nrow_at (c : Dev nD) (q : ℕ) (r : Fin 1024) (k : Fin 2048) :
    nrow m c q r k = H2 (m ((c : Thread nD τ).loc main_arg0)) (m ((c : Thread nD τ).loc main_arg1)) (m ((c : Thread nD τ).loc main_arg2))
      (ix3 ⟨q / 2 % 4, by omega⟩ ⟨q % 2 * 1024 + r.val, by omega⟩ k) := by
  unfold nrow rowsOf
  refine (norm_at _ _ _ _ _ _).trans (Eq.trans ?_ (H2_at _ _ _ _ _ _).symm)
  have hx : (fun l => chunk (F := Ideal) (xTile m c q) ⟨r.val / 16, by omega⟩ (ix3 0 (⟨r.val % 16, by omega⟩ : Fin 16) l))
      = fun l => (m ((c : Thread nD τ).loc main_arg0)) (ix3 (⟨q / 2 % 4, by omega⟩ : Fin 4) (⟨q % 2 * 1024 + r.val, by omega⟩ : Fin 2048) l) := by
    funext l
    refine (chunk_at _ r l).trans ?_
    unfold xTile
    rw [V_main_arg0]
    rfl
  have hg : gainRow m c (ix2 0 k) = (m ((c : Thread nD τ).loc main_arg2)) (ix1 k) := v1_at m c k
  have hs : modPart m c q 4 (ix3 0 0 k) = (m ((c : Thread nD τ).loc main_arg1)) (ix2 (⟨q / 2 % 4, by omega⟩ : Fin 4) (⟨8192 + k.val, by omega⟩ : Fin 12288)) :=
    v0_at m c _ _
  have hh : modPart m c q 3 (ix3 0 0 k) = (m ((c : Thread nD τ).loc main_arg1)) (ix2 (⟨q / 2 % 4, by omega⟩ : Fin 4) (⟨6144 + k.val, by omega⟩ : Fin 12288)) :=
    v0_at m c _ _
  rw [hx, hg, hs, hh]

/-! ## The result array -/

theorem point (c : Dev nD) (t : Fin cfg0.N) (y : S1x1x1024x512.Idx) :
    outBlk m c t y = REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 8).blk t).view.emb y) := by
  have hN : t.val < 88 := t.isLt
  have h : win0_8.index t = ![t.val % 11, t.val / 22, t.val / 11 % 2, 0] := (idx_val t).2.2.2.2.2.2.2.2
  have y0 : (y 0).val < 1 := (y 0).isLt
  have y1 : (y 1).val < 1 := (y 1).isLt
  have y2 : (y 2).val < 1024 := (y 2).isLt
  have y3 : (y 3).val < 512 := (y 3).isLt
  have hy : y = ix4 0 0 (y 2) (y 3) := funext fun a => Fin.ext (by
    fin_cases a
    · show (y 0).val = 0
      omega
    · show (y 1).val = 0
      omega
    · rfl
    · rfl)
  have he : ((cfg0.win 8).blk t).view.emb y = ix4 (⟨t.val % 11, by omega⟩ : Fin 11) (⟨t.val / 22, by omega⟩ : Fin 4)
      (⟨t.val / 11 % 2 * 1024 + (y 2).val, by omega⟩ : Fin 2048) (y 3) := funext fun a => Fin.ext (by
    fin_cases a <;> blk_simp
    · exact congrFun h 0
    · exact congrFun h 1
    · rw [show win0_8.index t 2 = t.val / 11 % 2 from congrFun h 2]; rfl
    · rw [show win0_8.index t 3 = 0 from congrFun h 3]; exact Nat.zero_add _)
  rw [he]
  refine Eq.trans ?_ (REF_at _ _ _ _ _ _ _ _ _).symm
  refine (congrArg (outBlk m c t) hy).trans ((out_at _ _ _ (y 2) (y 3)).trans ?_)
  have e : (⟨t.val / 11 / 2 % 4, by omega⟩ : Fin 4) = ⟨t.val / 22, by omega⟩ := Fin.ext (by show t.val / 11 / 2 % 4 = t.val / 22; omega)
  have hn : ∀ k : Fin 2048, normTile m c (t.val / 11) (ix3 0 (y 2) k) = H2 (m ((c : Thread nD τ).loc main_arg0)) (m ((c : Thread nD τ).loc main_arg1))
      (m ((c : Thread nD τ).loc main_arg2)) (ix3 (⟨t.val / 22, by omega⟩ : Fin 4) (⟨t.val / 11 % 2 * 1024 + (y 2).val, by omega⟩ : Fin 2048) k) :=
    fun k => (nrow_at m c (t.val / 11) (y 2) k).trans (by rw [e])
  refine congrArg₂ gated (Finset.sum_congr rfl fun k _ => ?_) (Finset.sum_congr rfl fun k _ => ?_)
  · exact Ideal.mul_congr (hn k) (wg_at m c t k (y 3))
  · exact Ideal.mul_congr (hn k) (wu_at m c t k (y 3))

theorem final (c : Dev nD) : (dats m 0 c).arrAt 8 (cfgs 0).N = REF (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp; rw [after0_8]
  exact point m c t y

end Cert.GateUpIdeal.Value

end
-- ==== Proof.GateUpClaims.lean ====
/- The claims about the programs `GateUp`, `GateUpIdeal` and `GateUpRefIdeal`. -/
module

public import proofs.«01_k».proof.Defs
public import proofs.«01_k».proof.Proof.Gen.GateUpRefIdeal.Run
public import proofs.«01_k».proof.Proof.Gen.GateUp
public import proofs.«01_k».proof.Proof.GateUpValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.GateUpClaims

/-- The two printed programs have the same text, so the same bodies at every label. -/
theorem bodies_eq : @Cert.GateUp.defs₀ Bits _ _ = @Cert.GateUpIdeal.defs₀ Bits _ _ := by
  funext p l a
  cases p with
  | tc =>
    match l, a with
    | 0, (t, s) => rfl
  | scScalar _ => rfl
  | scVector _ _ => rfl

/-- And the same table of bodies and pipelines. -/
theorem defs_eq : @Cert.GateUp.defs Bits _ _ = @Cert.GateUpIdeal.defs Bits _ _ :=
  congrArg (fun d : Defs Cert.GateUpIdeal.nD Cert.GateUpIdeal.τ Cert.GateUpIdeal.sig (Elt Bits) Cert.GateUpIdeal.Λ₀ =>
    @Pipeline.defs _ _ _ _ _ _ Cert.GateUpIdeal.pcfgs d) bodies_eq

/-- The kernel's frame, from the one run written over any float values. -/
theorem frame_p : Cert.quiescent_GateUp := fun m ρ _ =>
  have key : ∀ D, D = @Cert.GateUpIdeal.defs Bits _ _ →
      θ_run D (onTc (τ := Cert.GateUpIdeal.τ) (Cert.GateUpIdeal.main (F := Bits))) ⟨m, fun _ => 0, ρ⟩ _ :=
    fun _ h => h ▸ Cert.GateUpIdeal.frame (F := Bits) m ρ
  key _ defs_eq

theorem frame_pi : Cert.quiescent_GateUpIdeal := fun m ρ _ => Cert.GateUpIdeal.frame m ρ
theorem frame_ri : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

theorem preserves : Cert.preserves_GateUp_GateUpIdeal := trivial

theorem ref_out (m' : (ℓ : Loc Cert.GateUpRefIdeal.nD Cert.GateUpRefIdeal.τ Cert.GateUpRefIdeal.sig) → Buf (Elt Ideal) ℓ) (c : Dev Cert.GateUpRefIdeal.nD) :
    Cert.GateUpRefIdeal.Value.res_main_v32 m' c = Cert.GateUpTerm.REF
      (m' ((c.tc : Thread Cert.GateUpRefIdeal.nD Cert.GateUpRefIdeal.τ).loc Cert.GateUpRefIdeal.main_arg0))
      (m' ((c.tc : Thread Cert.GateUpRefIdeal.nD Cert.GateUpRefIdeal.τ).loc Cert.GateUpRefIdeal.main_arg1))
      (m' ((c.tc : Thread Cert.GateUpRefIdeal.nD Cert.GateUpRefIdeal.τ).loc Cert.GateUpRefIdeal.main_arg2))
      (m' ((c.tc : Thread Cert.GateUpRefIdeal.nD Cert.GateUpRefIdeal.τ).loc Cert.GateUpRefIdeal.main_arg3))
      (m' ((c.tc : Thread Cert.GateUpRefIdeal.nD Cert.GateUpRefIdeal.τ).loc Cert.GateUpRefIdeal.main_arg4)) := by
  unfold Cert.GateUpRefIdeal.Value.res_main_v32 Cert.GateUpTerm.REF Cert.GateUpTerm.ACT Cert.GateUpTerm.H2
  rfl

/-- The kernel's result array and the reference's result are one term of the arguments (`final`). -/
theorem algebraic : Cert.algebraic_GateUpIdeal_GateUpRefIdeal := by
  pair_intro
  · run_from Cert.GateUpIdeal.run_main m g
  · run_from Cert.GateUpRefIdeal.Value.run m' g'
    refine (ref_out m' c).trans ?_
    obtain ⟨h0, h1, h2, h3, h4⟩ := hagree c
    rw [h0, h1, h2, h3, h4]
    exact (Cert.GateUpIdeal.Value.final m c).symm

end Cert.Proof.GateUpClaims

end
-- ==== Proof.SampleRows.lean ====
/- The layouts of the samples' gated sums: rows, weights, residuals and gates read at an entry, at any inner width. -/
module

public import Idealize.ShloMosaic.Lib.Pipeline.ValueKit
public import Idealize.ShloMosaic.Lib.Claim

@[expose] public section

set_option maxRecDepth 16384

noncomputable section

open Idealize.ShloMosaic
open scoped BigOperators

namespace Cert.SampleRows

/-- An index of three axes by its coordinates. -/
theorem ix3_eta {a b c : Nat} (y : Shape.Idx ⟨3, ![a, b, c]⟩) : ∃ (p : Fin a) (q : Fin b) (r : Fin c), y = ix3 p q r :=
  ⟨y 0, y 1, y 2, by funext i; fin_cases i <;> rfl⟩

variable {R K N : Nat}

/-- The samples as one group of rows. -/
theorem group_at (a : FVec Ideal ⟨3, ![R, 1, K]⟩ .f32) (h : (⟨3, ![R, 1, K]⟩ : Shape).ShapeCasts ⟨3, ![1, R, K]⟩) (r : Fin R) (k : Fin K) :
    shapeCast ⟨3, ![1, R, K]⟩ a h (ix3 0 r k) = a (ix3 r 0 k) :=
  shapeCast_apply a h _ _ (by
    rw [Shape.rowMajor_val_three, Shape.rowMajor_val_three]
    show (r.val * 1 + 0) * K + k.val = (0 * R + r.val) * K + k.val
    rw [Nat.mul_one, Nat.zero_mul, Nat.zero_add, Nat.add_zero])

/-- The modulation as one group of rows. -/
theorem mod_at (a : FVec Ideal ⟨2, ![R, K]⟩ .f32) (h : (⟨2, ![R, K]⟩ : Shape).ShapeCasts ⟨3, ![1, R, K]⟩) (r : Fin R) (k : Fin K) :
    shapeCast ⟨3, ![1, R, K]⟩ a h (ix3 0 r k) = a (ix2 r k) :=
  shapeCast_apply a h _ _ (by
    rw [Shape.rowMajor_val_three, Shape.rowMajor_val_two]
    show r.val * K + k.val = (0 * R + r.val) * K + k.val
    rw [Nat.zero_mul, Nat.zero_add])

/-- A weight as a stack of one layer. -/
theorem weight_at (a : FVec Ideal ⟨2, ![K, N]⟩ .f32) (h : (⟨2, ![K, N]⟩ : Shape).BroadcastsInDim ⟨3, ![1, K, N]⟩ ![1, 2]) (k : Fin K) (l : Fin N) :
    broadcastInDim ⟨3, ![1, K, N]⟩ ![1, 2] h a (ix3 0 k l) = a (ix2 k l) := by
  unfold broadcastInDim
  refine congrArg a (funext fun i => Fin.ext ?_)
  fin_cases i
  · show (if h : K = 1 then (⟨0, _⟩ : Fin K) else ⟨k.val, _⟩).val = k.val
    split <;> simp <;> omega
  · show (if h : N = 1 then (⟨0, _⟩ : Fin N) else ⟨l.val, _⟩).val = l.val
    split <;> simp <;> omega

end Cert.SampleRows

end
-- ==== Proof.SDownValue.lean ====
/- The value of `Cert.SDownIdeal`'s result arrays: the reference's terms over the arguments. -/
module

public import proofs.«01_k».proof.Proof.Gen.SDownIdeal.Frame
public import proofs.«01_k».proof.Proof.Gen.SDownRefIdeal
public import proofs.«01_k».proof.Proof.SampleRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SDownIdeal.Value

open Cert.SDownIdeal Cert.SDownIdeal.Gen

variable (m : (ℓ : Loc nD τ sig) → Buf (Elt Ideal) ℓ)

/-- The reference's result, the samples one after another, as one term over its arguments. -/
abbrev REF (a0 : FVec Ideal Cert.SDownRefIdeal.S32x1x5632 .f32) (a1 : FVec Ideal Cert.SDownRefIdeal.S5632x2048 .f32) (a2 : FVec Ideal Cert.SDownRefIdeal.S32x1x2048 .f32) (a3 : FVec Ideal Cert.SDownRefIdeal.S32x12288 .f32) : FVec Ideal Cert.SDownRefIdeal.S32x1x2048 .f32 :=
  addf a2 (mulf (extractStridedSlice Cert.SDownRefIdeal.S32x1x2048 ![0, 0, 10240] (broadcastInDim Cert.SDownRefIdeal.S32x1x12288 ![0, 2] Cert.SDownRefIdeal.Gen.bcast_S32x12288_S32x1x12288_0_2 a3) Cert.SDownRefIdeal.Gen.slices_S32x1x12288_S32x1x2048_0_0_10240) (Host.dotGeneral Cert.SDownRefIdeal.dot_S32x1x5632_S5632x2048_S32x1x2048_2_0_01_1_n_n none a0 a1))

/-- The reference's weight tiles. -/
abbrev TILES (a1 : FVec Ideal Cert.SDownRefIdeal.S5632x2048 .f32) : FVec Ideal Cert.SDownRefIdeal.S4x5632x512 .bf16 :=
  truncf .bf16 (transpose Cert.SDownRefIdeal.S4x5632x512 [1, 0, 2] (shapeCast _ a1 Cert.SDownRefIdeal.Gen.shapeCasts_S5632x2048_S5632x4x512) Cert.SDownRefIdeal.Gen.transposes_S5632x4x512_S4x5632x512_1_0_2) Cert.SDownRefIdeal.Gen.bitsLt_bf16_f32

theorem idx_val : ∀ t : Fin cfg0.N, win0_0.index t = ![0, 0, 0] ∧ win0_1.index t = ![0, 0, t.val]
    ∧ win0_2.index t = ![0, 0, t.val] ∧ win0_3.index t = ![0, 0, 20 + t.val]
    ∧ win0_4.index t = ![0, 0, t.val] ∧ win0_5.index t = ![t.val, 0, 0] :=
  (by decide +kernel : ∀ t : Fin grid0.N, _)

/-- The reference's result in the one group of rows the call works on. -/
abbrev ROWS (r : FVec Ideal Cert.SDownRefIdeal.S32x1x2048 .f32) : FVec Ideal S1x32x2048 .f32 :=
  shapeCast S1x32x2048 r shapeCasts_S32x1x2048_S1x32x2048

theorem V_v1 (c : Dev nD) : V m c main_v1 = broadcastInDim S1x5632x2048 ![1, 2] bcast_S5632x2048_S1x5632x2048_1_2 (m ((c : Thread nD τ).loc main_arg1)) := by
  unfold V; after_results_simp; try rfl

theorem V_v0 (c : Dev nD) : V m c main_v0 = shapeCast S1x32x5632 (m ((c : Thread nD τ).loc main_arg0)) shapeCasts_S32x1x5632_S1x32x5632 := by
  rfl
theorem V_v2 (c : Dev nD) : V m c main_v2 = shapeCast S1x32x2048 (m ((c : Thread nD τ).loc main_arg2)) shapeCasts_S32x1x2048_S1x32x2048 := by
  rfl
theorem V_v3 (c : Dev nD) : V m c main_v3 = shapeCast S1x32x12288 (m ((c : Thread nD τ).loc main_arg3)) shapeCasts_S32x12288_S1x32x12288 := by
  rfl

theorem act_blk (c : Dev nD) (t : Fin cfg0.N) (r : Fin 32) (k : Fin 5632) :
    iblk m c 0 t (ix3 0 r k) = m ((c : Thread nD τ).loc main_arg0) (ix3 r 0 k) := by
  refine Eq.trans (b := V m c main_v0 (ix3 0 r k)) ?_ ((congrFun (V_v0 m c) _).trans (Cert.SampleRows.group_at _ _ r k))
  blk_ext [iblk, idx_val t]
theorem weight_blk (c : Dev nD) (t : Fin cfg0.N) (k : Fin 5632) (l : Fin 512) (h : t.val * 512 + l.val < 2048) :
    iblk m c 1 t (ix3 0 k l) = m ((c : Thread nD τ).loc main_arg1) (ix2 k ⟨t.val * 512 + l.val, h⟩) := by
  refine Eq.trans (b := V m c main_v1 (ix3 0 k ⟨t.val * 512 + l.val, h⟩)) ?_ ((congrFun (V_v1 m c) _).trans (Cert.SampleRows.weight_at _ _ k _))
  blk_ext [iblk, idx_val t]
theorem res_blk (c : Dev nD) (t : Fin cfg0.N) (r : Fin 32) (l : Fin 512) (h : t.val * 512 + l.val < 2048) :
    iblk m c 2 t (ix3 0 r l) = m ((c : Thread nD τ).loc main_arg2) (ix3 r 0 ⟨t.val * 512 + l.val, h⟩) := by
  refine Eq.trans (b := V m c main_v2 (ix3 0 r ⟨t.val * 512 + l.val, h⟩)) ?_ ((congrFun (V_v2 m c) _).trans (Cert.SampleRows.group_at _ _ r _))
  blk_ext [iblk, idx_val t]
theorem mod_blk (c : Dev nD) (t : Fin cfg0.N) (r : Fin 32) (l : Fin 512) (h : 10240 + (t.val * 512 + l.val) < 12288) :
    iblk m c 3 t (ix3 0 r l) = m ((c : Thread nD τ).loc main_arg3) (ix2 r ⟨10240 + (t.val * 512 + l.val), h⟩) := by
  refine Eq.trans (b := V m c main_v3 (ix3 0 r ⟨10240 + (t.val * 512 + l.val), h⟩)) ?_ ((congrFun (V_v3 m c) _).trans (Cert.SampleRows.mod_at _ _ r _))
  blk_ext [iblk, idx_val t]

/-- What the body stores of a block of rows, at one entry, from what its operands hold there. -/
theorem rows_at (w : FVec Ideal S1x5632x512 .f32) (a : FVec Ideal S1x32x5632 .f32) (x g : FVec Ideal S1x32x512 .f32) (r : Fin 32) (l : Fin 512) :
    k0_pay3 w a x g (ix3 0 r l) = x (ix3 0 r l) + g (ix3 0 r l) * ∑ k : Fin 5632, a (ix3 0 r k) * w (ix3 0 k l) := by
  pointwise [k0_pay3, k0_pay1]
/-- The reference at one entry. -/
theorem ref_at (a0 : FVec Ideal Cert.SDownRefIdeal.S32x1x5632 .f32) (a1 : FVec Ideal Cert.SDownRefIdeal.S5632x2048 .f32) (a2 : FVec Ideal Cert.SDownRefIdeal.S32x1x2048 .f32) (a3 : FVec Ideal Cert.SDownRefIdeal.S32x12288 .f32)
    (r : Fin 32) (l : Fin 2048) :
    ROWS (REF a0 a1 a2 a3) (ix3 0 r l) = a2 (ix3 r 0 l) + a3 (ix2 r ⟨10240 + l.val, by omega⟩) * ∑ k : Fin 5632, a0 (ix3 r 0 k) * a1 (ix2 k l) := by
  pointwise [REF]
theorem tile_at (w : FVec Ideal S1x5632x512 .f32) (k : Fin 5632) (l : Fin 512) : k0_pay2 (F := Ideal) w (ix3 0 k l) = w (ix3 0 k l) := by
  pointwise [k0_pay2, k0_pay1]
theorem tiles_at (a1 : FVec Ideal Cert.SDownRefIdeal.S5632x2048 .f32) (j : Fin 4) (k : Fin 5632) (l : Fin 512) :
    TILES a1 (ix3 j k l) = a1 (ix2 k ⟨j.val * 512 + l.val, by omega⟩) := by
  pointwise [TILES]

theorem point_rows (c : Dev nD) (t : Fin cfg0.N) (y) :
    k0_pay3 (iblk m c 1 t) (iblk m c 0 t) (iblk m c 2 t) (iblk m c 3 t) y
      = ROWS (REF (m ((c : Thread nD τ).loc main_arg0)) (m ((c : Thread nD τ).loc main_arg1)) (m ((c : Thread nD τ).loc main_arg2)) (m ((c : Thread nD τ).loc main_arg3))) (((cfg0.win 4).blk t).view.emb y) := by
  obtain ⟨p, r, l, rfl⟩ := Cert.SampleRows.ix3_eta y
  have ht : t.val < 4 := t.isLt
  have h : t.val * 512 + l.val < 2048 := by omega
  obtain rfl : p = 0 := Subsingleton.elim _ _
  have e : ((cfg0.win 4).blk t).view.emb (ix3 0 r l) = ix3 0 r ⟨t.val * 512 + l.val, h⟩ := by blk_ext [idx_val t]
  refine (rows_at _ _ _ _ r l).trans (Eq.trans ?_ ((congrArg _ e).trans (ref_at _ _ _ _ r _)).symm)
  rw [res_blk m c t r l h, mod_blk m c t r l (by omega)]
  simp only [act_blk, weight_blk m c t _ l h]

theorem point_tiles (c : Dev nD) (t : Fin cfg0.N) (y) :
    k0_pay2 (iblk m c 1 t) y = TILES (m ((c : Thread nD τ).loc main_arg1)) (((cfg0.win 5).blk t).view.emb y) := by
  obtain ⟨p, k, l, rfl⟩ := Cert.SampleRows.ix3_eta y
  have ht : t.val < 4 := t.isLt
  have h : t.val * 512 + l.val < 2048 := by omega
  obtain rfl : p = 0 := Subsingleton.elim _ _
  have e : ((cfg0.win 5).blk t).view.emb (ix3 0 k l) = ix3 ⟨t.val, ht⟩ k l := by blk_ext [idx_val t]
  exact (tile_at _ k l).trans ((weight_blk m c t k l h).trans ((congrArg _ e).trans (tiles_at _ ⟨t.val, ht⟩ k l)).symm)

theorem final_rows (c : Dev nD) : (dats m 0 c).arrAt 4 (cfgs 0).N = ROWS (REF (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp; rw [after0_4]; frame_out
  exact point_rows m c t y

theorem final_tiles (c : Dev nD) : (dats m 0 c).arrAt 5 (cfgs 0).N = TILES (m ((c : Thread nD τ).loc main_arg1)) := by
  refine (dats m 0 c).arrAt_eq_of_covers 5 _ (by decide +kernel) fun t hf y => ?_
  blk_simp; rw [after0_5]; frame_out
  exact point_tiles m c t y

/-- The rows cut back into samples, after the region. -/
theorem rows_end (c : Dev nD) : Pipeline.afterTail₀ cfgs (dats m) 0 (V0 m) [hostOps1] c main_v5
    = REF (m ((c : Thread nD τ).loc main_arg0)) (m ((c : Thread nD τ).loc main_arg1)) (m ((c : Thread nD τ).loc main_arg2)) (m ((c : Thread nD τ).loc main_arg3)) := by
  have e := Pipeline.withArrays_arr (cfgs 0).spec launch0.win.arr_inj c (V0 m c) (fun w => (dats m 0 c).arrAt w (cfgs 0).N) 4
  refine (congrArg (fun f => shapeCast S32x1x2048 f shapeCasts_S1x32x2048_S32x1x2048) (e.trans (final_rows m c))).trans ?_
  funext y
  pointwise []

end Cert.SDownIdeal.Value

end
-- ==== Proof.SDownClaims.lean ====
/- The claims about the programs `SDown`, `SDownIdeal` and `SDownRefIdeal`. -/
module

public import proofs.«01_k».proof.Defs
public import proofs.«01_k».proof.Proof.Gen.SDown.Frame
public import proofs.«01_k».proof.Proof.Gen.SDownIdeal.Frame
public import proofs.«01_k».proof.Proof.Gen.SDownRefIdeal.Run
public import proofs.«01_k».proof.Proof.SDownValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.SDownClaims

theorem frame_p : Cert.quiescent_SDown := fun m ρ _ => Cert.SDown.Gen.frame m ρ
theorem frame_pi : Cert.quiescent_SDownIdeal := fun m ρ _ => Cert.SDownIdeal.Gen.frame m ρ
theorem frame_ri : Cert.quiescent_SDownRefIdeal := fun m ρ _ =>
  (θ_run Cert.SDownRefIdeal.defs _ _).mono (fun r h => ⟨fun c => (h c).2.2, sem_eq_zero_of_no_sems (by decide) r.2⟩)
    (Cert.SDownRefIdeal.Value.run (F := Ideal) m ρ)

theorem preserves : Cert.preserves_SDown_SDownIdeal := trivial

/-- Each of the kernel's results and the reference's are one term of the arguments. -/
theorem algebraic : Cert.algebraic_SDownIdeal_SDownRefIdeal := by
  pair_intro
  · run_from Cert.SDownIdeal.Gen.run_main m g
    · exact Cert.SDownIdeal.Gen.W_main_arg0 m _ c
    · exact Cert.SDownIdeal.Gen.W_main_arg1 m _ c
    · exact Cert.SDownIdeal.Gen.W_main_arg2 m _ c
    · exact Cert.SDownIdeal.Gen.W_main_arg3 m _ c
  · run_from Cert.SDownRefIdeal.Value.run m' g'
    · exact (Cert.SDownIdeal.Value.rows_end m c).symm
    · exact (Cert.SDownIdeal.Value.final_tiles m c).symm

end Cert.Proof.SDownClaims

end
-- ==== Proof.MixSame.lean ====
/- The program `Mix` and its idealization are one text: their body tables are equal. -/
module

public import proofs.«01_k».proof.Defs
public import proofs.«01_k».proof.Proof.Gen.Mix
public import proofs.«01_k».proof.Proof.Gen.MixIdeal

@[expose] public section

set_option maxRecDepth 16384

noncomputable section

open Idealize.ShloMosaic Idealize.ShloMosaic.TcCoe Idealize.SL.Sem

namespace Cert.Proof.MixSame

set_option maxHeartbeats 20000000 in
/-- The printed program and its idealization run one text, so their bodies are one. -/
theorem bodies_eq : @Cert.Mix.defs₀ Bits _ _ = @Cert.MixIdeal.defs₀ Bits _ _ := by
  funext p l a
  cases p with
  | tc => match l, a with | 0, (t, s) => rfl
  | scScalar _ => rfl
  | scVector _ _ => rfl

theorem defs_eq : @Cert.Mix.defs Bits _ _ = @Cert.MixIdeal.defs Bits _ _ :=
  congrArg (fun d : Defs Cert.MixIdeal.nD Cert.MixIdeal.τ Cert.MixIdeal.sig (Elt Bits) Cert.MixIdeal.Λ₀ =>
    @Pipeline.defs _ _ _ _ _ _ Cert.MixIdeal.pcfgs d) bodies_eq

end Cert.Proof.MixSame

end
-- ==== Proof.MixRun.lean ====
/- The frame of the samples' mixing call: its run at every point of the grid, over any float values. -/
module

public import proofs.«01_k».proof.Proof.Gen.MixIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.MixIdeal.Run

open Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (64 stores of `S1x1x128`, checked by the kernel's evaluation: Lib/Ring.lean `Piece.tiledL`, linear in the pieces, through a loop's `@[irreducible]` trip theorem too), so they cover it. -/
theorem cover0_A_9 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) (y : S4x1x2048.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).1 ![1, 1, 128] (by sl_kernel_rfl) y

/-- What the run leaves in output 9's staging buffer: its pieces read back over junk. -/
def out0_A_9 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) : Vec F S4x1x2048 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).1)

/-- The run's pieces for output 10 tile its block (32 stores of `S1x1x1x128x128`, checked by the kernel's evaluation: Lib/Ring.lean `Piece.tiledL`, linear in the pieces, through a loop's `@[irreducible]` trip theorem too), so they cover it. -/
theorem cover0_A_10 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) (y : S1x4x8x128x128.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.1 ![1, 1, 1, 128, 128] (by sl_kernel_rfl) y

/-- What the run leaves in output 10's staging buffer: its pieces read back over junk. -/
def out0_A_10 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) : Vec F S1x4x8x128x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.1)

/-- The run's pieces for output 11 tile its block (8 stores of `S1x1x128x1x128`, checked by the kernel's evaluation: Lib/Ring.lean `Piece.tiledL`, linear in the pieces, through a loop's `@[irreducible]` trip theorem too), so they cover it. -/
theorem cover0_A_11 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) (y : S1x4x128x2x128.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.2.1 ![1, 1, 128, 1, 128] (by sl_kernel_rfl) y

/-- What the run leaves in output 11's staging buffer: its pieces read back over junk. -/
def out0_A_11 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) : Vec F S1x4x128x2x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.2.1)

/-- The run's pieces for output 12 tile its block (8 stores of `S1x1x128x1x128`, checked by the kernel's evaluation: Lib/Ring.lean `Piece.tiledL`, linear in the pieces, through a loop's `@[irreducible]` trip theorem too), so they cover it. -/
theorem cover0_A_12 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) (y : S1x4x128x2x128.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.2.2.1 ![1, 1, 128, 1, 128] (by sl_kernel_rfl) y

/-- What the run leaves in output 12's staging buffer: its pieces read back over junk. -/
def out0_A_12 (c : Dev nD) (i : grid0.Coords) (arg1 : Memref sig .tc .smem S8 .f32) (harg1 : arg1.IsWhole) (arg2 : Memref sig .tc .vmem S4x1x5632 .f32) (harg2 : arg2.IsWhole) (arg3 : Memref sig .tc .vmem S1x4x8x128x128 .f32) (harg3 : arg3.IsWhole) (arg4 : Memref sig .tc .vmem S1x4x128x2x128 .f32) (harg4 : arg4.IsWhole) (arg5 : Memref sig .tc .vmem S1x4x128x2x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg13 : Memref sig .tc .vmem S4x1x2048 .f32) (harg13 : arg13.IsWhole) (arg14 : Memref sig .tc .vmem S1x4x8x128x128 .f32) (harg14 : arg14.IsWhole) (arg15 : Memref sig .tc .vmem S1x4x128x2x128 .f32) (harg15 : arg15.IsWhole) (arg16 : Memref sig .tc .vmem S1x4x128x2x128 .f32) (harg16 : arg16.IsWhole)
    (x0 : Vec F S8 .f32) (x1 : Vec F S4x1x5632 .f32) (x2 : Vec F S1x4x8x128x128 .f32) (x3 : Vec F S1x4x128x2x128 .f32) (x4 : Vec F S1x4x128x2x128 .f32) (x5 : Vec F S1x1024 .f32) (x6 : Vec F S1x128 .f32) (x7 : Vec F S1x128 .f32) (x8 : Vec F S1x128 .f32) : Vec F S1x4x128x2x128 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg13 harg13 arg14 harg14 arg15 harg15 arg16 harg16 x0 x1 x2 x3 x4 x5 x6 x7 x8).2.2.2.1)

/-! ## What the outputs hold after each point -/

/-- What the outputs' staging buffers hold after the body at point `t` (as a tuple, in window order): the run's contents at
    the point's memrefs and input blocks. -/
def outsAt0 (c : Dev nD) (t : Fin cfg0.N) : Vec F S4x1x2048 .f32 × Vec F S1x4x8x128x128 .f32 × Vec F S1x4x128x2x128 .f32 × Vec F S1x4x128x2x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2.1
    | ⟨12, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]
theorem after0_12 (c : Dev nD) (t : Fin cfg0.N) : (dats m 0 c).after 12 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0
  unfold out0_A_9 out0_A_10 out0_A_11 out0_A_12; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every argument array ends as it began and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.MixIdeal.Run

end
-- ==== Proof.MixRead.lean ====
/- Reads and writes of a block through one request's part of it, at an index. -/
module

public import Idealize.ShloMosaic.Lib.Pipeline.ValueKit
public import Idealize.ShloMosaic.Lib.WholeRead
public import Idealize.ShloMosaic.Lib.Claim

@[expose] public section

set_option maxRecDepth 16384

noncomputable section

open Idealize.ShloMosaic

namespace Cert.MixRead

variable {sig : RefSig} {Val : EltTy → Type} {κ : Kind} {sp : Space} {e : EltTy}

theorem cons_one {n : ℕ} {d : Fin n → ℕ} {D : Fin (n + 1) → ℕ} (hD : D = Fin.cons 1 d)
    (h : (⟨n, d⟩ : Shape).numel = (⟨n + 1, D⟩ : Shape).numel) (x : (⟨n, d⟩ : Shape).Idx) (i : Fin n) :
    ((Shape.reshapeEquiv h x) i.succ).val = (x i).val ∧ ((Shape.reshapeEquiv h x) 0).val = 0 := by
  subst hD
  have e := Shape.reshapeEquiv_cons_one (d := d) h x
  exact ⟨congrArg (fun z : (⟨n + 1, Fin.cons 1 d⟩ : Shape).Idx => (z i.succ).val) e, congrArg (fun z : (⟨n + 1, Fin.cons 1 d⟩ : Shape).Idx => (z 0).val) e⟩

theorem cons_two {n : ℕ} {d : Fin n → ℕ} {D : Fin (n + 2) → ℕ} (hD : D = Fin.cons 1 (Fin.cons 1 d : Fin (n + 1) → ℕ))
    (h : (⟨n, d⟩ : Shape).numel = (⟨n + 2, D⟩ : Shape).numel) (x : (⟨n, d⟩ : Shape).Idx) (i : Fin n) :
    ((Shape.reshapeEquiv h x) i.succ.succ).val = (x i).val := by
  subst hD
  have h1 : (⟨n, d⟩ : Shape).numel = (⟨n + 1, Fin.cons 1 d⟩ : Shape).numel :=
    Rect.numel_consShape (Fin.cons 1 d) rfl fun _ => rfl
  have h2 : (⟨n + 1, Fin.cons 1 d⟩ : Shape).numel = (⟨n + 2, Fin.cons 1 (Fin.cons 1 d : Fin (n + 1) → ℕ)⟩ : Shape).numel :=
    h1.symm.trans h
  have k : Shape.reshapeEquiv h x = Shape.reshapeEquiv h2 (Shape.reshapeEquiv h1 x) := (Shape.reshapeEquiv_reshapeEquiv h2 h1 x).symm
  rw [k]
  exact ((cons_one rfl h2 _ i.succ).1).trans (cons_one rfl h1 x i).1

/-- A load through one request's part of a block, that part taken without its leading axis. -/
theorem load_one {n : ℕ} {d : Fin n → ℕ} {D0 : Fin (n + 1) → ℕ} {m : Memref sig κ sp ⟨n + 1, D0⟩ e} (hw : m.IsWhole)
    (X : (⟨n + 1, D0⟩ : Shape).Idx → Val e) (r0 : Rect ⟨n + 1, D0⟩) (lr : LoadRect ⟨n, d⟩) (h0 : r0.size 0 = 1)
    (hs : ∀ i, r0.size i.succ = d i) (h1 : ∀ a, r0.stride a = 1)
    (hR : lr.shape.numel = (r0.withinL (lr.consLift r0.size h0 hs) h1).shape.numel) (x : lr.shape.Idx)
    (y : (⟨n + 1, D0⟩ : Shape).Idx) (hy0 : (y 0).val = r0.off 0)
    (hy : ∀ i : Fin n, (y i.succ).val = r0.off i.succ + (lr.off i + lr.stride i * (x i).val)) :
    LoadRect.valAlong hR (View.readAt Val m.view (r0.withinL (lr.consLift r0.size h0 hs) h1) (hw.unread X)) x = X y := by
  refine (hw.readAt_unread X _ _).trans (congrArg X (funext fun a => Fin.ext ?_))
  refine Fin.cases ?_ (fun i => ?_) a
  · rw [hy0, LoadRect.idx_apply]
    have : ((Shape.reshapeEquiv hR x) 0).val < 1 := ((Shape.reshapeEquiv hR x) 0).isLt
    show r0.off 0 + 0 + 1 * ((Shape.reshapeEquiv hR x) 0).val = r0.off 0
    omega
  · rw [hy i, LoadRect.idx_apply]
    have := (cons_one (d := lr.size) (D := Fin.cons 1 lr.size) rfl hR x i).1
    exact (congrArg (fun q : ℕ => r0.off i.succ + lr.off i + lr.stride i * q) this).trans (Nat.add_assoc _ _ _)

/-- A load through one layer's and one request's part of a block, taken without its two leading axes. -/
theorem load_two {n : ℕ} {d : Fin n → ℕ} {d1 : Fin (n + 1) → ℕ} {D0 : Fin (n + 2) → ℕ} {m : Memref sig κ sp ⟨n + 2, D0⟩ e} (hw : m.IsWhole)
    (X : (⟨n + 2, D0⟩ : Shape).Idx → Val e) (r0 : Rect ⟨n + 2, D0⟩) (lr : LoadRect ⟨n, d⟩)
    (k0 : d1 0 = 1) (ks : ∀ i, d1 i.succ = d i) (h0 : r0.size 0 = 1)
    (hs : ∀ i, r0.size i.succ = d1 i) (h1 : ∀ a, r0.stride a = 1)
    (hR : lr.shape.numel = (r0.withinL ((lr.consLift d1 k0 ks).consLift r0.size h0 hs) h1).shape.numel) (x : lr.shape.Idx)
    (y : (⟨n + 2, D0⟩ : Shape).Idx) (hy0 : (y 0).val = r0.off 0) (hy1 : (y 1).val = r0.off 1)
    (hy : ∀ i : Fin n, (y i.succ.succ).val = r0.off i.succ.succ + (lr.off i + lr.stride i * (x i).val)) :
    LoadRect.valAlong hR (View.readAt Val m.view (r0.withinL ((lr.consLift d1 k0 ks).consLift r0.size h0 hs) h1) (hw.unread X)) x = X y := by
  refine (hw.readAt_unread X _ _).trans (congrArg X (funext fun a => Fin.ext ?_))
  refine Fin.cases ?_ (fun i => Fin.cases ?_ (fun i => ?_) i) a
  · rw [hy0, LoadRect.idx_apply]
    have : ((Shape.reshapeEquiv hR x) 0).val < 1 := ((Shape.reshapeEquiv hR x) 0).isLt
    show r0.off 0 + 0 + 1 * ((Shape.reshapeEquiv hR x) 0).val = r0.off 0
    omega
  · refine Eq.trans ?_ hy1.symm
    rw [LoadRect.idx_apply]
    have : ((Shape.reshapeEquiv hR x) 1).val < 1 := ((Shape.reshapeEquiv hR x) 1).isLt
    show r0.off 1 + 0 + 1 * ((Shape.reshapeEquiv hR x) 1).val = r0.off 1
    omega
  · rw [hy i, LoadRect.idx_apply]
    have := cons_two (d := lr.size) (D := Fin.cons 1 (Fin.cons 1 lr.size : Fin (n + 1) → ℕ)) rfl hR x i
    exact (congrArg (fun q : ℕ => r0.off i.succ.succ + lr.off i + lr.stride i * q) this).trans (Nat.add_assoc _ _ _)

/-- A stored value carried to a layer's and a request's part, at an index. -/
theorem pay_two {V : Type} {n : ℕ} {d : Fin n → ℕ} {d1 : Fin (n + 1) → ℕ} {D0 : Fin (n + 2) → ℕ}
    (r0 : Rect ⟨n + 2, D0⟩) (r : Rect ⟨n, d⟩)
    (k0 : d1 0 = 1) (ks : ∀ i, d1 i.succ = d i) (h0 : r0.size 0 = 1)
    (hs : ∀ i, r0.size i.succ = d1 i) (h1 : ∀ a, r0.stride a = 1)
    (hR : (r0.within ((r.consLift d1 k0 ks).consLift r0.size h0 hs) h1).shape.numel = r.shape.numel)
    (w : r.shape.Idx → V) (x : (r0.within ((r.consLift d1 k0 ks).consLift r0.size h0 hs) h1).shape.Idx)
    (z : r.shape.Idx) (hz : ∀ i : Fin n, (z i).val = (x i.succ.succ).val) : Rect.payAlong hR w x = w z := by
  refine congrArg w (funext fun i => Fin.ext ?_)
  have := cons_two (d := r.size) (D := Fin.cons 1 (Fin.cons 1 r.size : Fin (n + 1) → ℕ)) rfl hR.symm (Shape.reshapeEquiv hR x) i
  have e : Shape.reshapeEquiv hR.symm (Shape.reshapeEquiv hR x) = x := by
    rw [Shape.reshapeEquiv_reshapeEquiv, Shape.reshapeEquiv_self]
  exact this.symm.trans ((congrArg (fun q : (r0.within ((r.consLift d1 k0 ks).consLift r0.size h0 hs) h1).shape.Idx => (q i.succ.succ).val) e).trans (hz i).symm)

/-- Where a layer's and a request's part places an index. -/
theorem emb_two {n : ℕ} {d : Fin n → ℕ} {d1 : Fin (n + 1) → ℕ} {D0 : Fin (n + 2) → ℕ}
    (r0 : Rect ⟨n + 2, D0⟩) (r : Rect ⟨n, d⟩)
    (k0 : d1 0 = 1) (ks : ∀ i, d1 i.succ = d i) (h0 : r0.size 0 = 1)
    (hs : ∀ i, r0.size i.succ = d1 i) (h1 : ∀ a, r0.stride a = 1)
    (x : (r0.within ((r.consLift d1 k0 ks).consLift r0.size h0 hs) h1).shape.Idx) (y : (⟨n + 2, D0⟩ : Shape).Idx)
    (z : r.shape.Idx) (hz : ∀ i : Fin n, (z i).val = (x i.succ.succ).val)
    (hy0 : (y 0).val = r0.off 0) (hy1 : (y 1).val = r0.off 1)
    (hy : ∀ i : Fin n, (y i.succ.succ).val = r0.off i.succ.succ + (r.off i + r.stride i * (z i).val)) :
    (r0.within ((r.consLift d1 k0 ks).consLift r0.size h0 hs) h1).emb x = y := by
  refine funext fun a => Fin.ext ?_
  refine Fin.cases ?_ (fun i => Fin.cases ?_ (fun i => ?_) i) a
  · rw [hy0, Rect.emb_apply]
    have : (x 0).val < 1 := (x 0).isLt
    show r0.off 0 + 0 + 1 * (x 0).val = r0.off 0
    omega
  · refine Eq.trans ?_ hy1.symm
    rw [Rect.emb_apply]
    have : (x 1).val < 1 := (x 1).isLt
    show r0.off 1 + 0 + 1 * (x 1).val = r0.off 1
    omega
  · rw [hy i, Rect.emb_apply, hz i]
    show r0.off i.succ.succ + r.off i + r.stride i * (x i.succ.succ).val = _
    omega

end Cert.MixRead

end
-- ==== Proof.MixTerm.lean ====
/- The reference's results for the samples, as terms over its arguments. -/
module

public import proofs.«01_k».proof.Proof.Gen.MixRefIdeal
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.MixTerm

open Cert.MixRefIdeal Cert.MixRefIdeal.Gen

/-- The forget gate before its sigmoid. -/
def GATE (a0 : FVec Ideal S32x1x5632 .f32) : FVec Ideal S32x1x8x128 .f32 :=
  shapeCast _ (extractStridedSlice S32x1x1024 ![0, 0, 1024] a0 slices_S32x1x5632_S32x1x1024_0_0_1024) shapeCasts_S32x1x1024_S32x1x8x128

/-- The logarithm of the gate's sigmoid. -/
def LSIG (a0 : FVec Ideal S32x1x5632 .f32) : FVec Ideal S32x1x8x128 .f32 :=
  Host.negf (select (cmpf .une (subf (Host.negf (GATE a0)) (broadcastInDim S32x1x8x128 ![] bcast_S_S32x1x8x128 (constant S_ .f32 0x00000000#32))) (subf (Host.negf (GATE a0)) (broadcastInDim S32x1x8x128 ![] bcast_S_S32x1x8x128 (constant S_ .f32 0x00000000#32)))) (addf (Host.negf (GATE a0)) (broadcastInDim S32x1x8x128 ![] bcast_S_S32x1x8x128 (constant S_ .f32 0x00000000#32))) (addf (maximumf (Host.negf (GATE a0)) (broadcastInDim S32x1x8x128 ![] bcast_S_S32x1x8x128 (constant S_ .f32 0x00000000#32))) (Host.log1p (Host.exp (Host.negf (Host.absf (subf (Host.negf (GATE a0)) (broadcastInDim S32x1x8x128 ![] bcast_S_S32x1x8x128 (constant S_ .f32 0x00000000#32)))))))))

/-- The logarithm of the lower bound. -/
def LLB (a4 : FVec Ideal S1024 .f32) : FVec Ideal S32x1x8x128 .f32 :=
  broadcastInDim S32x1x8x128 ![0, 1, 2, 3] bcast_S1x1x8x128_S32x1x8x128_0_1_2_3 (broadcastInDim S1x1x8x128 ![2, 3] bcast_S8x128_S1x1x8x128_2_3 (Host.log (shapeCast _ a4 shapeCasts_S1024_S8x128)))

/-- The logarithm of one minus the lower bound. -/
def LOM (a4 : FVec Ideal S1024 .f32) : FVec Ideal S32x1x8x128 .f32 :=
  broadcastInDim S32x1x8x128 ![0, 1, 2, 3] bcast_S1x1x8x128_S32x1x8x128_0_1_2_3 (broadcastInDim S1x1x8x128 ![2, 3] bcast_S8x128_S1x1x8x128_2_3 (Host.log1p (Host.negf (shapeCast _ a4 shapeCasts_S1024_S8x128))))

/-- The logarithm of the forget factor. -/
def LOGF (a0 : FVec Ideal S32x1x5632 .f32) (a4 : FVec Ideal S1024 .f32) : FVec Ideal S32x1x8x128 .f32 :=
  select (cmpf .une (subf (LLB a4) (addf (LOM a4) (LSIG a0))) (subf (LLB a4) (addf (LOM a4) (LSIG a0)))) (addf (LLB a4) (addf (LOM a4) (LSIG a0))) (addf (maximumf (LLB a4) (addf (LOM a4) (LSIG a0))) (Host.log1p (Host.exp (Host.negf (Host.absf (subf (LLB a4) (addf (LOM a4) (LSIG a0))))))))

/-- Its running sum over the one token. -/
def CUM (a0 : FVec Ideal S32x1x5632 .f32) (a4 : FVec Ideal S1024 .f32) : FVec Ideal S32x8x1x128 .f32 :=
  Host.reduceWindowAdd ![1, 1, 1, 1] ![1, 1, 1, 1] ![0, 0, 0, 0] ![0, 0, 0, 0] (transpose S32x8x1x128 [0, 2, 1, 3] (LOGF a0 a4) transposes_S32x1x8x128_S32x8x1x128_0_2_1_3) (broadcastInDim S_ ![] bcast_S_S_ (constant S_ .f32 0x00000000#32)) reduceWindows_S32x8x1x128_S32x8x1x128_w1s1p0_0_w1s1p0_0_w1s1p0_0_w1s1p0_0 h_S_

/-- The new state. -/
def STATE (a0 : FVec Ideal S32x1x5632 .f32) (a1 : FVec Ideal S32x8x128x128 .f32) (a4 : FVec Ideal S1024 .f32) : FVec Ideal S32x8x128x128 .f32 :=
  addf (mulf a1 (broadcastInDim S32x8x128x128 ![0, 1, 2, 3] bcast_S32x8x128x1_S32x8x128x128_0_1_2_3 (Host.exp (broadcastInDim S32x8x128x1 ![0, 1, 2] bcast_S32x8x128_S32x8x128x1_0_1_2 (shapeCast _ (CUM a0 a4) shapeCasts_S32x8x1x128_S32x8x128))))) (Host.dotGeneral dot_S32x8x1x128_S32x8x1x128_S32x8x128x128_2_2_3_3_01_01 none (mulf (transpose S32x8x1x128 [0, 2, 1, 3] (Host.negf (Host.expm1 (LOGF a0 a4))) transposes_S32x1x8x128_S32x8x1x128_0_2_1_3) (Host.exp (subf (CUM a0 a4) (CUM a0 a4)))) (transpose S32x8x1x128 [0, 2, 1, 3] (shapeCast _ (extractStridedSlice S32x1x1024 ![0, 0, 2048] a0 slices_S32x1x5632_S32x1x1024_0_0_2048) shapeCasts_S32x1x1024_S32x1x8x128) transposes_S32x1x8x128_S32x8x1x128_0_2_1_3))

/-- The new keys. -/
def KEYS (a0 : FVec Ideal S32x1x5632 .f32) (a2 : FVec Ideal S32x128x2x128 .f32) (a5 : FVec Ideal S128 .f32) : FVec Ideal S32x128x2x128 .f32 :=
  extractStridedSlice S32x128x2x128 ![0, 1, 0, 0] (concatenate S32x129x2x128 1 [⟨S32x128x2x128, a2⟩, ⟨S32x1x2x128, (mulf (mulf (shapeCast _ (extractStridedSlice S32x1x256 ![0, 0, 5120] a0 slices_S32x1x5632_S32x1x256_0_0_5120) shapeCasts_S32x1x256_S32x1x2x128) (broadcastInDim S32x1x2x128 ![0, 1, 2, 3] bcast_S32x1x2x1_S32x1x2x128_0_1_2_3 (Host.rsqrt (addf (Host.divf (broadcastInDim S32x1x2x1 ![0, 1, 2] bcast_S32x1x2_S32x1x2x1_0_1_2 (Host.reduceAdd (mulf (shapeCast _ (extractStridedSlice S32x1x256 ![0, 0, 5120] a0 slices_S32x1x5632_S32x1x256_0_0_5120) shapeCasts_S32x1x256_S32x1x2x128) (shapeCast _ (extractStridedSlice S32x1x256 ![0, 0, 5120] a0 slices_S32x1x5632_S32x1x256_0_0_5120) shapeCasts_S32x1x256_S32x1x2x128)) (constant S_ .f32 0x00000000#32) reducesTo_S32x1x2x128_S32x1x2_d3 h_S_)) (broadcastInDim S32x1x2x1 ![] bcast_S_S32x1x2x1 (constant S_ .f32 0x43000000#32))) (broadcastInDim S32x1x2x1 ![] bcast_S_S32x1x2x1 (constant S_ .f32 0x358637BD#32)))))) (broadcastInDim S32x1x2x128 ![0, 1, 2, 3] bcast_S1x1x1x128_S32x1x2x128_0_1_2_3 (broadcastInDim S1x1x1x128 ![3] bcast_S128_S1x1x1x128_3 a5)))⟩] concatenates_S32x128x2x128_S32x1x2x128_S32x129x2x128_d1) slices_S32x129x2x128_S32x128x2x128_0_1_0_0

/-- The new values. -/
def VALS (a0 : FVec Ideal S32x1x5632 .f32) (a3 : FVec Ideal S32x128x2x128 .f32) : FVec Ideal S32x128x2x128 .f32 :=
  extractStridedSlice S32x128x2x128 ![0, 1, 0, 0] (concatenate S32x129x2x128 1 [⟨S32x128x2x128, a3⟩, ⟨S32x1x2x128, (shapeCast _ (extractStridedSlice S32x1x256 ![0, 0, 5376] a0 slices_S32x1x5632_S32x1x256_0_0_5376) shapeCasts_S32x1x256_S32x1x2x128)⟩] concatenates_S32x128x2x128_S32x1x2x128_S32x129x2x128_d1) slices_S32x129x2x128_S32x128x2x128_0_1_0_0

/-- A row of 128 numbers divided by its root mean square. -/
def rms (x : Fin 128 → EReal) (d : Fin 128) : EReal :=
  x d * Ideal.rsqrt (Ideal.div (∑ e, x e * x e) (Ideal.ofBits .f32 0x43000000#32) + Ideal.ofBits .f32 0x358637BD#32)

theorem vals_at (a0 : FVec Ideal S32x1x5632 .f32) (a3 : FVec Ideal S32x128x2x128 .f32) (b : Fin 32) (k : Fin 128) (h : Fin 2) (d : Fin 128) :
    VALS a0 a3 (ix4 b k h d) = if hk : 1 + k.val < 128 then a3 (ix4 b ⟨1 + k.val, hk⟩ h d) else a0 (ix3 b 0 ⟨5376 + (h.val * 128 + d.val), by omega⟩) := by
  pointwise [VALS]

theorem keys_at (a0 : FVec Ideal S32x1x5632 .f32) (a2 : FVec Ideal S32x128x2x128 .f32) (a5 : FVec Ideal S128 .f32) (b : Fin 32) (k : Fin 128) (h : Fin 2) (d : Fin 128) :
    KEYS a0 a2 a5 (ix4 b k h d) = if hk : 1 + k.val < 128 then a2 (ix4 b ⟨1 + k.val, hk⟩ h d)
      else rms (fun e => a0 (ix3 b 0 ⟨5120 + (h.val * 128 + e.val), by omega⟩)) d * a5 (ix1 d) := by
  pointwise [KEYS, rms]

theorem one {n z : ℕ} (b : Fin n) (hz : z = 0) : b.val * 1 + z - 0 = b.val := by omega

/-- The running sum over one token is that token's number. -/
theorem cum_at (x : FVec Ideal S32x8x1x128 .f32) (b : Fin 32) (h : Fin 8) (t : Fin 1) (k : Fin 128) :
    Host.reduceWindowAdd ![1, 1, 1, 1] ![1, 1, 1, 1] ![0, 0, 0, 0] ![0, 0, 0, 0] x (broadcastInDim S_ ![] bcast_S_S_ (constant S_ .f32 0x00000000#32))
      reduceWindows_S32x8x1x128_S32x8x1x128_w1s1p0_0_w1s1p0_0_w1s1p0_0_w1s1p0_0 h_S_ (ix4 b h t k) = x (ix4 b h t k) := by
  have hn : List.finRange (⟨4, ![1, 1, 1, 1]⟩ : Shape).numel = [⟨0, by decide⟩] := by decide
  have hz : ∀ (n : Fin (⟨4, ![1, 1, 1, 1]⟩ : Shape).numel) (a : Fin 4), (((⟨4, ![1, 1, 1, 1]⟩ : Shape).rowMajor.symm n) a).val = 0 := by decide
  unfold Host.reduceWindowAdd
  rw [Ideal.hostReduceWindowAdd_def]
  unfold Ideal.hostReduceWindowAdd Host.reduceWindow
  dsimp only
  refine (congrArg (List.foldl _ _) hn).trans ?_
  rw [List.foldl_cons, List.foldl_nil, dif_pos]
  · have e0 : (broadcastInDim S_ ![] bcast_S_S_ (constant (F := Ideal) S_ .f32 0x00000000#32)) (Shape.Idx.first h_S_) = (0 : EReal) := by pointwise
    refine (congrArg₂ (· + ·) e0 (congrArg x (funext fun a => Fin.ext ?_))).trans (zero_add _)
    exact match a, hz ⟨0, by decide⟩ a with
    | ⟨0, _⟩, e => one b e
    | ⟨1, _⟩, e => one h e
    | ⟨2, _⟩, e => one t e
    | ⟨3, _⟩, e => one k e
  · intro a
    exact match a, hz ⟨0, by decide⟩ a with
    | ⟨0, _⟩, e => ⟨Nat.zero_le _, (one b e).trans_lt b.isLt⟩
    | ⟨1, _⟩, e => ⟨Nat.zero_le _, (one h e).trans_lt h.isLt⟩
    | ⟨2, _⟩, e => ⟨Nat.zero_le _, (one t e).trans_lt t.isLt⟩
    | ⟨3, _⟩, e => ⟨Nat.zero_le _, (one k e).trans_lt k.isLt⟩

/-- The logarithm of a sigmoid, as the reference takes it. -/
def lsig (f : EReal) : EReal :=
  -(if -f ≠ -f then -f else max (-f) 0 + Ideal.log1p (Ideal.exp (-FloatOps.absf (F := Ideal) (φ := .f32) (-f))))

/-- The logarithm of a sum from two logarithms, as the reference takes it. -/
def lae (p q : EReal) : EReal :=
  if p - q ≠ p - q then p + q else max p q + Ideal.log1p (Ideal.exp (-FloatOps.absf (F := Ideal) (φ := .f32) (p - q)))

/-- The logarithm of one forget factor, from its lower bound and its gate. -/
def logf (lb f : EReal) : EReal := lae (Ideal.log lb) (Ideal.log1p (-lb) + lsig f)

theorem logf_at (a0 : FVec Ideal S32x1x5632 .f32) (a4 : FVec Ideal S1024 .f32) (b : Fin 32) (h : Fin 8) (k : Fin 128) :
    LOGF a0 a4 (ix4 b 0 h k) = logf (a4 (ix1 ⟨h.val * 128 + k.val, by omega⟩)) (a0 (ix3 b 0 ⟨1024 + (h.val * 128 + k.val), by omega⟩)) := by
  pointwise [LOGF, LSIG, LLB, LOM, GATE, logf, lae, lsig]

theorem cumf_at (a0 : FVec Ideal S32x1x5632 .f32) (a4 : FVec Ideal S1024 .f32) (b : Fin 32) (h : Fin 8) (t : Fin 1) (k : Fin 128) :
    CUM a0 a4 (ix4 b h t k) = logf (a4 (ix1 ⟨h.val * 128 + k.val, by omega⟩)) (a0 (ix3 b 0 ⟨1024 + (h.val * 128 + k.val), by omega⟩)) := by
  obtain rfl : t = 0 := Subsingleton.elim _ _
  refine (cum_at _ b h 0 k).trans (Eq.trans ?_ (logf_at a0 a4 b h k))
  pointwise

theorem state_at (a0 : FVec Ideal S32x1x5632 .f32) (a1 : FVec Ideal S32x8x128x128 .f32) (a4 : FVec Ideal S1024 .f32) (b : Fin 32) (h : Fin 8) (k d : Fin 128)
    (L : EReal) (hL : L = logf (a4 (ix1 ⟨h.val * 128 + k.val, by omega⟩)) (a0 (ix3 b 0 ⟨1024 + (h.val * 128 + k.val), by omega⟩))) :
    STATE a0 a1 a4 (ix4 b h k d) = a1 (ix4 b h k d) * Ideal.exp L
      + -(Ideal.exp L - 1) * Ideal.exp (L - L) * a0 (ix3 b 0 ⟨2048 + (h.val * 128 + d.val), by omega⟩) := by
  have e1 := fun t => cumf_at a0 a4 b h t k
  have e2 := logf_at a0 a4 b h k
  rw [← hL] at e2; simp only [← hL] at e1
  clear hL
  generalize hC : CUM a0 a4 = C at e1
  generalize hF : LOGF a0 a4 = G at e2
  unfold STATE
  rw [hC, hF]
  pointwise [e1, e2]
  simp only [Finset.univ_unique, Finset.sum_singleton]

end Cert.MixTerm

end
-- ==== Proof.MixGate.lean ====
/- The forget factor from its logarithm and from its sigmoid: the same number. -/
module

public import proofs.«01_k».proof.Proof.MixTerm

@[expose] public section

noncomputable section

open Idealize.ShloMosaic

namespace Cert.MixGate

open Cert.MixTerm

/-- A sigmoid, as the kernel takes it. -/
def sig (f : EReal) : EReal :=
  if 0 ≤ f then Ideal.div 1 (1 + Ideal.exp (0 - FloatOps.absf (F := Ideal) (φ := .f32) f))
  else Ideal.exp (0 - FloatOps.absf (F := Ideal) (φ := .f32) f) * Ideal.div 1 (1 + Ideal.exp (0 - FloatOps.absf (F := Ideal) (φ := .f32) f))

/-- A forget factor from its lower bound and its gate, as the kernel takes it. -/
def forget (lb f : EReal) : EReal := lb + (1 - lb) * sig f

theorem abs_coe (x : ℝ) : FloatOps.absf (F := Ideal) (φ := .f32) (x : EReal) = ((|x| : ℝ) : EReal) := by
  show max (x : EReal) (-(x : EReal)) = _
  rw [abs_eq_max_neg, EReal.coe_strictMono.monotone.map_max, EReal.coe_neg]

theorem exp_coe (x : ℝ) : Ideal.exp (x : EReal) = ((Real.exp x : ℝ) : EReal) := rfl

theorem log1p_coe (x : ℝ) (h : 0 < 1 + x) : Ideal.log1p (x : EReal) = ((Real.log (1 + x) : ℝ) : EReal) := by
  show Ideal.log (1 + (x : EReal)) = _
  rw [← EReal.coe_one, ← EReal.coe_add]
  exact if_neg (not_le.mpr h)

theorem log_coe (x : ℝ) (h : 0 < x) : Ideal.log (x : EReal) = ((Real.log x : ℝ) : EReal) := if_neg (not_le.mpr h)

theorem div_coe (x : ℝ) (h : 0 < x) : Ideal.div 1 (x : EReal) = ((1 / x : ℝ) : EReal) := by
  unfold Ideal.div
  rw [if_neg (by rw [← EReal.coe_zero]; exact fun e => h.ne' (EReal.coe_injective e)), one_mul, one_div, EReal.coe_inv]

/-- The larger of two numbers and what the other adds, in the exponents. -/
theorem exp_max (p q : ℝ) : Real.exp (max p q + Real.log (1 + Real.exp (-|p - q|))) = Real.exp p + Real.exp q := by
  rw [Real.exp_add, Real.exp_log (by positivity)]
  rcases le_total p q with h | h
  · rw [max_eq_right h, abs_of_nonpos (by linarith), mul_add, mul_one, ← Real.exp_add, add_comm]
    congr 2; ring
  · rw [max_eq_left h, abs_of_nonneg (by linarith), mul_add, mul_one, ← Real.exp_add]
    congr 2; ring

theorem lae_coe (p q : ℝ) : lae (p : EReal) (q : EReal) = ((max p q + Real.log (1 + Real.exp (-|p - q|)) : ℝ) : EReal) := by
  unfold lae
  rw [if_neg (not_not.mpr rfl), ← EReal.coe_sub, abs_coe, ← EReal.coe_neg, exp_coe, log1p_coe _ (by positivity),
    ← EReal.coe_strictMono.monotone.map_max, ← EReal.coe_add]

theorem lae_bot (q : ℝ) : lae ⊥ (q : EReal) = (q : EReal) := by
  have e : (⊥ : EReal) - (q : EReal) = ⊥ := EReal.bot_sub _
  have a : FloatOps.absf (F := Ideal) (φ := .f32) (⊥ : EReal) = (⊤ : EReal) := by
    show max (⊥ : EReal) (-⊥) = ⊤
    simp
  have l : Ideal.log1p (0 : EReal) = 0 := by
    have := log1p_coe 0 (by norm_num)
    simpa using this
  unfold lae
  rw [if_neg (not_not.mpr rfl), e, a, EReal.neg_top]
  show max ⊥ (q : EReal) + Ideal.log1p 0 = _
  rw [l, add_zero, max_eq_right bot_le]

theorem lsig_coe (x : ℝ) : ∃ s : ℝ, lsig (x : EReal) = (s : EReal) ∧ Real.exp s = 1 / (1 + Real.exp (-x)) := by
  refine ⟨-(max (-x) 0 + Real.log (1 + Real.exp (-|-x - 0|))), ?_, ?_⟩
  · unfold lsig
    rw [if_neg (not_not.mpr rfl), ← EReal.coe_neg, abs_coe, ← EReal.coe_neg, exp_coe, log1p_coe _ (by positivity), sub_zero,
      ← EReal.coe_zero, ← EReal.coe_strictMono.monotone.map_max, ← EReal.coe_add, ← EReal.coe_neg]
  · rw [Real.exp_neg, exp_max, Real.exp_zero, one_div, add_comm]

theorem sig_coe (x : ℝ) : sig (x : EReal) = ((1 / (1 + Real.exp (-x)) : ℝ) : EReal) := by
  have e : Ideal.exp (0 - FloatOps.absf (F := Ideal) (φ := .f32) (x : EReal)) = ((Real.exp (-|x|) : ℝ) : EReal) := by
    rw [abs_coe, zero_sub, ← EReal.coe_neg, exp_coe]
  unfold sig
  rw [e, ← EReal.coe_one, ← EReal.coe_add, EReal.coe_one, div_coe _ (by positivity)]
  have p : 0 < Real.exp x := Real.exp_pos x
  by_cases h : 0 ≤ x
  · rw [if_pos (EReal.coe_nonneg.mpr h), abs_of_nonneg h]
  · rw [if_neg (fun k => h (EReal.coe_nonneg.mp k)), abs_of_neg (not_le.mp h), neg_neg, ← EReal.coe_mul, Real.exp_neg]
    congr 1
    field_simp
    ring

/-- The forget factor and its logarithm, which is a number. -/
theorem exp_logf (lb f : EReal) (h0 : 0 ≤ lb) (h1 : lb < 1) (hf : FloatOps.absf (F := Ideal) (φ := .f32) f < ⊤) :
    ∃ L : ℝ, logf lb f = (L : EReal) ∧ Ideal.exp (L : EReal) = forget lb f := by
  have hf' : max f (-f) < ⊤ := hf
  obtain ⟨x, rfl⟩ : ∃ x : ℝ, f = (x : EReal) := by
    refine ⟨f.toReal, (EReal.coe_toReal (ne_top_of_lt ((le_max_left _ _).trans_lt hf')) ?_).symm⟩
    rintro rfl
    simp at hf'
  obtain ⟨l, rfl⟩ : ∃ l : ℝ, lb = (l : EReal) :=
    ⟨lb.toReal, (EReal.coe_toReal (ne_top_of_lt h1) (fun e => by subst e; simp at h0)).symm⟩
  have l0 : 0 ≤ l := EReal.coe_nonneg.mp h0
  have l1 : l < 1 := by rw [← EReal.coe_one] at h1; exact EReal.coe_lt_coe_iff.mp h1
  obtain ⟨s, hs, es⟩ := lsig_coe x
  have ef : forget (l : EReal) (x : EReal) = ((l + (1 - l) * (1 / (1 + Real.exp (-x))) : ℝ) : EReal) := by
    unfold forget
    rw [sig_coe, ← EReal.coe_one, ← EReal.coe_sub, ← EReal.coe_mul, ← EReal.coe_add]
  have hq : Ideal.log1p (-(l : EReal)) + lsig (x : EReal) = ((Real.log (1 + -l) + s : ℝ) : EReal) := by
    rw [hs, ← EReal.coe_neg, log1p_coe _ (by linarith), ← EReal.coe_add]
  have eq : Real.exp (Real.log (1 + -l) + s) = (1 - l) * (1 / (1 + Real.exp (-x))) := by
    rw [Real.exp_add, es, Real.exp_log (by linarith)]; ring
  unfold logf
  rw [hq, ef]
  rcases l0.eq_or_lt with rfl | lp
  · refine ⟨_, (congrArg (lae · _) (if_pos le_rfl)).trans (lae_bot _), ?_⟩
    rw [exp_coe, eq, zero_add]
  · refine ⟨_, (congrArg (lae · _) (log_coe l lp)).trans (lae_coe _ _), ?_⟩
    rw [exp_coe, exp_max, eq, Real.exp_log lp]

end Cert.MixGate

end
-- ==== Proof.MixPoint.lean ====
/- What one head of one request stores, at an entry. -/
module

public import proofs.«01_k».proof.Proof.MixGate
public import proofs.«01_k».proof.Proof.Gen.MixIdeal.Skeleton

@[expose] public section

set_option maxRecDepth 16384

noncomputable section

open Idealize.ShloMosaic Idealize.ShloMosaic.TcCoe
open scoped BigOperators

namespace Cert.MixPoint

open Cert.MixIdeal Cert.MixIdeal.Gen Cert.MixTerm Cert.MixGate

/-- Two places compared as 32-bit words. -/
theorem place_eq (k x : Fin 128) : IntOp.cmpi .eq (BitVec.ofNat 32 k.val) (BitVec.ofNat 32 x.val) = if k = x then 1#1 else 0#1 := by
  revert k x; decide +kernel

/-- A head's cache one row on, the new row last. -/
def shiftIn (row : FVec Ideal S1x128 .f32) (cache : FVec Ideal S128x1x128 .f32) : FVec Ideal S128x1x128 .f32 :=
  shapeCast S128x1x128 (select (cmpi .eq (iota .tc S128x128 32 [0] iota_S128x128_d0_w32) (broadcast S128x128 127#32))
    (broadcastTo S128x128 (shapeCast S1x128 row shapeCasts_S1x128_S1x128) broadcasts_S1x128_S128x128)
    (dynamicRotate 0 127#32 none (shapeCast S128x128 cache shapeCasts_S128x1x128_S128x128) rotates_S128x128_d0)) shapeCasts_S128x128_S128x1x128

theorem shift_at (row : FVec Ideal S1x128 .f32) (cache : FVec Ideal S128x1x128 .f32) (k d : Fin 128) :
    shiftIn row cache (ix3 k 0 d) = if hk : 1 + k.val < 128 then cache (ix3 ⟨1 + k.val, hk⟩ 0 d) else row (ix2 0 d) := by
  have e : shiftIn row cache (ix3 k 0 d)
      = Scalar.select (IntOp.cmpi .eq (BitVec.ofNat 32 k.val) (BitVec.ofNat 32 (127 : Fin 128).val)) (row (ix2 0 d))
        (cache (ix3 ⟨(k.val + 128 - 127) % 128, Nat.mod_lt _ (by decide)⟩ 0 d)) := by
    pointwise [shiftIn]
  rw [e, place_eq]
  by_cases hk : 1 + k.val < 128
  · rw [dif_pos hk, if_neg (fun q => by subst q; simp at hk)]
    refine (if_neg (by decide)).trans ?_
    congr 2; apply Fin.ext
    show (k.val + 128 - 127) % 128 = 1 + k.val
    omega
  · rw [dif_neg hk, if_pos (Fin.ext (by show k.val = 127; omega))]
    exact if_pos rfl

/-- A head's new key. -/
def newKey (g row : FVec Ideal S1x128 .f32) : FVec Ideal S1x128 .f32 :=
  mulf (mulf row (broadcastTo S1x128 (rsqrt (addf (divf (shapeCast S1x1 (multiReduction .add [1] S1 (mulf row row) 0x00000000#32 reduces_S1x128_S1 (.inl rfl) rfl) shapeCasts_S1_S1x1)
    (broadcast S1x1 (Scalar.ofBits .f32 0x43000000#32))) (broadcast S1x1 (Scalar.ofBits .f32 0x358637BD#32)))) broadcasts_S1x1_S1x128))
    (shapeCast S1x128 g shapeCasts_S1x128_S1x128)

theorem key_at (g row : FVec Ideal S1x128 .f32) (d : Fin 128) :
    newKey g row (ix2 0 d) = rms (fun e => row (ix2 0 e)) d * g (ix2 0 d) := by
  pointwise [newKey, rms]

/-- The diagonal of a square. -/
def diag : IVec S128x128 1 := cmpi .eq (iota .tc S128x128 32 [0] iota_S128x128_d0_w32) (iota .tc S128x128 32 [1] iota_S128x128_d1_w32)

/-- The exponential of minus a gate's size. -/
def fall (f : FVec Ideal S1x128 .f32) : FVec Ideal S1x128 .f32 := exp (subf (broadcast S1x128 (Scalar.ofBits .f32 0x00000000#32)) (absf f))

/-- One over one more than that. -/
def part (f : FVec Ideal S1x128 .f32) : FVec Ideal S1x128 .f32 :=
  divf (broadcast S1x128 (Scalar.ofBits .f32 0x3F800000#32)) (addf (broadcast S1x128 (Scalar.ofBits .f32 0x3F800000#32)) (fall f))

/-- A head's forget factors, as a column. -/
def col (lb f : FVec Ideal S1x128 .f32) : FVec Ideal S128x1 .f32 :=
  shapeCast S128x1 (multiReduction .add [1] S128 (select diag (broadcastTo S128x128 (shapeCast S1x128
    (addf (shapeCast S1x128 lb shapeCasts_S1x128_S1x128) (mulf (subf (broadcast S1x128 (Scalar.ofBits .f32 0x3F800000#32)) (shapeCast S1x128 lb shapeCasts_S1x128_S1x128))
      (select (cmpf .oge f (broadcast S1x128 (Scalar.ofBits .f32 0x00000000#32))) (part f) (mulf (fall f) (part f)))))
    shapeCasts_S1x128_S1x128) broadcasts_S1x128_S128x128) (broadcast S128x128 (Scalar.ofBits .f32 0x00000000#32)))
    0x00000000#32 reduces_S128x128_S128 (.inl rfl) rfl) shapeCasts_S128_S128x1

theorem col_at (lb f : FVec Ideal S1x128 .f32) (k : Fin 128) :
    col lb f (ix2 k 0) = forget (lb (ix2 0 k)) (f (ix2 0 k)) := by
  have e : col lb f (ix2 k 0) = ∑ x : Fin 128, Scalar.select (IntOp.cmpi .eq (BitVec.ofNat 32 k.val) (BitVec.ofNat 32 x.val))
      (forget (lb (ix2 0 x)) (f (ix2 0 x))) 0 := by
    pointwise [col, diag, part, fall, forget, MixGate.sig]
  rw [e]
  refine (Finset.sum_eq_single k (fun x _ hx => ?_) (fun h => absurd (Finset.mem_univ k) h)).trans ?_
  · rw [place_eq, if_neg (Ne.symm hx)]; exact if_neg (by decide)
  · rw [place_eq, if_pos rfl]; exact if_pos rfl

/-- A head's new state. -/
def newState (lb f v : FVec Ideal S1x128 .f32) (S : FVec Ideal S1x128x128 .f32) : FVec Ideal S1x128x128 .f32 :=
  shapeCast S1x128x128 (addf (mulf (shapeCast S128x128 S shapeCasts_S1x128x128_S128x128) (broadcastTo S128x128 (col lb f) broadcasts_S128x1_S128x128))
    (mulf (broadcastTo S128x128 (subf (broadcast S128x1 (Scalar.ofBits .f32 0x3F800000#32)) (col lb f)) broadcasts_S128x1_S128x128)
      (broadcastTo S128x128 v broadcasts_S1x128_S128x128))) shapeCasts_S128x128_S1x128x128

theorem state_at (lb f v : FVec Ideal S1x128 .f32) (S : FVec Ideal S1x128x128 .f32) (k d : Fin 128) :
    newState lb f v S (ix3 0 k d) = S (ix3 0 k d) * forget (lb (ix2 0 k)) (f (ix2 0 k)) + (1 - forget (lb (ix2 0 k)) (f (ix2 0 k))) * v (ix2 0 d) := by
  rw [← col_at lb f k]
  unfold newState
  generalize col lb f = C
  pointwise

end Cert.MixPoint

end
-- ==== Proof.MixValue.lean ====
/- The value of `Cert.MixIdeal`'s result arrays: the reference's terms over the arguments. -/
module

public import proofs.«01_k».proof.Proof.MixRun
public import proofs.«01_k».proof.Proof.MixRead
public import proofs.«01_k».proof.Proof.MixPoint

@[expose] public section

set_option maxRecDepth 16384

noncomputable section

open Idealize.ShloMosaic Idealize.ShloMosaic.TcCoe Idealize.SL.Sem
open Idealize.ShloMosaic.Pipeline (Dat)
open scoped BigOperators

namespace Cert.MixIdeal.Value

open Cert.MixIdeal Cert.MixIdeal.Gen Cert.MixIdeal.Run Cert.MixTerm Cert.MixPoint Cert.MixRead

variable (m : (ℓ : Loc nD τ sig) → Buf (Elt Ideal) ℓ)

theorem idx_val : ∀ t : Fin cfg0.N, win0_1.index t = ![t.val, 0, 0] ∧ win0_2.index t = ![0, t.val, 0, 0, 0]
    ∧ win0_3.index t = ![0, t.val, 0, 0, 0] ∧ win0_4.index t = ![0, t.val, 0, 0, 0]
    ∧ win0_5.index t = ![0, 0] ∧ win0_8.index t = ![0, 0]
    ∧ win0_10.index t = ![0, t.val, 0, 0, 0] ∧ win0_11.index t = ![0, t.val, 0, 0, 0] ∧ win0_12.index t = ![0, t.val, 0, 0, 0] :=
  (by decide +kernel : ∀ t : Fin grid0.N, _)

theorem V_v0 (c : Dev nD) : V m c main_v0 = broadcastInDim S1x32x8x128x128 ![1, 2, 3, 4] bcast_S32x8x128x128_S1x32x8x128x128_1_2_3_4 (m ((c : Thread nD τ).loc main_arg1)) := by
  unfold V; after_results_simp; try rfl
theorem V_v1 (c : Dev nD) : V m c main_v1 = broadcastInDim S1x32x128x2x128 ![1, 2, 3, 4] bcast_S32x128x2x128_S1x32x128x2x128_1_2_3_4 (m ((c : Thread nD τ).loc main_arg2)) := by
  unfold V; after_results_simp; try rfl
theorem V_v2 (c : Dev nD) : V m c main_v2 = broadcastInDim S1x32x128x2x128 ![1, 2, 3, 4] bcast_S32x128x2x128_S1x32x128x2x128_1_2_3_4 (m ((c : Thread nD τ).loc main_arg3)) := by
  unfold V; after_results_simp; try rfl
theorem V_v6 (c : Dev nD) : V m c main_v6 = shapeCast S1x1024 (m ((c : Thread nD τ).loc main_arg4)) shapeCasts_S1024_S1x1024 := by
  rfl
theorem V_v9 (c : Dev nD) : V m c main_v9 = shapeCast S1x128 (m ((c : Thread nD τ).loc main_arg5)) shapeCasts_S128_S1x128 := by
  rfl
theorem V_arg0 (c : Dev nD) : V m c main_arg0 = m ((c : Thread nD τ).loc main_arg0) := by
  rfl

theorem state_of (a : FVec Ideal S32x8x128x128 .f32) (b : Fin 32) (h : Fin 8) (k d : Fin 128) :
    broadcastInDim S1x32x8x128x128 ![1, 2, 3, 4] bcast_S32x8x128x128_S1x32x8x128x128_1_2_3_4 a (ix5 0 b h k d) = a (ix4 b h k d) := by pointwise
theorem cache_of (a : FVec Ideal S32x128x2x128 .f32) (b : Fin 32) (k : Fin 128) (h : Fin 2) (d : Fin 128) :
    broadcastInDim S1x32x128x2x128 ![1, 2, 3, 4] bcast_S32x128x2x128_S1x32x128x2x128_1_2_3_4 a (ix5 0 b k h d) = a (ix4 b k h d) := by pointwise
theorem bound_of (a : FVec Ideal S1024 .f32) (k : Fin 1024) : shapeCast S1x1024 a shapeCasts_S1024_S1x1024 (ix2 0 k) = a (ix1 k) := by pointwise
theorem gain_of (a : FVec Ideal S128 .f32) (k : Fin 128) : shapeCast S1x128 a shapeCasts_S128_S1x128 (ix2 0 k) = a (ix1 k) := by pointwise

theorem lt8 (t : Fin cfg0.N) : t.val < 8 := t.isLt

theorem proj_blk (c : Dev nD) (t : Fin cfg0.N) (r : Fin 4) (l : Fin 5632) (h : t.val * 4 + r.val < 32) :
    iblk m c 1 t (ix3 r 0 l) = m ((c : Thread nD τ).loc main_arg0) (ix3 ⟨t.val * 4 + r.val, h⟩ 0 l) := by
  refine Eq.trans (b := V m c main_arg0 (ix3 ⟨t.val * 4 + r.val, h⟩ 0 l)) ?_ (congrFun (V_arg0 m c) _)
  blk_ext [iblk, idx_val t]
theorem state_blk (c : Dev nD) (t : Fin cfg0.N) (r : Fin 4) (hd : Fin 8) (k d : Fin 128) (h : t.val * 4 + r.val < 32) :
    iblk m c 2 t (ix5 0 r hd k d) = m ((c : Thread nD τ).loc main_arg1) (ix4 ⟨t.val * 4 + r.val, h⟩ hd k d) := by
  refine Eq.trans (b := V m c main_v0 (ix5 0 ⟨t.val * 4 + r.val, h⟩ hd k d)) ?_ ((congrFun (V_v0 m c) _).trans (state_of _ _ hd k d))
  blk_ext [iblk, idx_val t]
theorem keys_blk (c : Dev nD) (t : Fin cfg0.N) (r : Fin 4) (k : Fin 128) (hd : Fin 2) (d : Fin 128) (h : t.val * 4 + r.val < 32) :
    iblk m c 3 t (ix5 0 r k hd d) = m ((c : Thread nD τ).loc main_arg2) (ix4 ⟨t.val * 4 + r.val, h⟩ k hd d) := by
  refine Eq.trans (b := V m c main_v1 (ix5 0 ⟨t.val * 4 + r.val, h⟩ k hd d)) ?_ ((congrFun (V_v1 m c) _).trans (cache_of _ _ k hd d))
  blk_ext [iblk, idx_val t]
theorem vals_blk (c : Dev nD) (t : Fin cfg0.N) (r : Fin 4) (k : Fin 128) (hd : Fin 2) (d : Fin 128) (h : t.val * 4 + r.val < 32) :
    iblk m c 4 t (ix5 0 r k hd d) = m ((c : Thread nD τ).loc main_arg3) (ix4 ⟨t.val * 4 + r.val, h⟩ k hd d) := by
  refine Eq.trans (b := V m c main_v2 (ix5 0 ⟨t.val * 4 + r.val, h⟩ k hd d)) ?_ ((congrFun (V_v2 m c) _).trans (cache_of _ _ k hd d))
  blk_ext [iblk, idx_val t]
theorem bound_blk (c : Dev nD) (t : Fin cfg0.N) (l : Fin 1024) : iblk m c 5 t (ix2 0 l) = m ((c : Thread nD τ).loc main_arg4) (ix1 l) := by
  refine Eq.trans (b := V m c main_v6 (ix2 0 l)) ?_ ((congrFun (V_v6 m c) _).trans (bound_of _ l))
  blk_ext [iblk, idx_val t]
theorem gain_blk (c : Dev nD) (t : Fin cfg0.N) (l : Fin 128) : iblk m c 8 t (ix2 0 l) = m ((c : Thread nD τ).loc main_arg5) (ix1 l) := by
  refine Eq.trans (b := V m c main_v9 (ix2 0 l)) ?_ ((congrFun (V_v9 m c) _).trans (gain_of _ l))
  blk_ext [iblk, idx_val t]

/-- The three results as the call leaves them, with the layer's axis. -/
abbrev STATE1 (r : FVec Ideal S32x8x128x128 .f32) : FVec Ideal S1x32x8x128x128 .f32 := broadcastInDim S1x32x8x128x128 ![1, 2, 3, 4] bcast_S32x8x128x128_S1x32x8x128x128_1_2_3_4 r
abbrev CACHE1 (r : FVec Ideal S32x128x2x128 .f32) : FVec Ideal S1x32x128x2x128 .f32 := broadcastInDim S1x32x128x2x128 ![1, 2, 3, 4] bcast_S32x128x2x128_S1x32x128x2x128_1_2_3_4 r

theorem ix5_eta {a b c d e : Nat} (y : Shape.Idx ⟨5, ![a, b, c, d, e]⟩) :
    ∃ (p : Fin a) (q : Fin b) (r : Fin c) (s : Fin d) (t : Fin e), y = ix5 p q r s t :=
  ⟨y 0, y 1, y 2, y 3, y 4, by funext i; fin_cases i <;> rfl⟩

theorem vals_point (c : Dev nD) (t : Fin cfg0.N) (r : Fin 4) (h : Fin 2) (row : FVec Ideal S1x128 .f32) (cache : FVec Ideal S128x1x128 .f32)
    (hrow : ∀ d : Fin 128, row (ix2 0 d) = iblk m c 1 t (ix3 r 0 ⟨5376 + (h.val * 128 + d.val), by omega⟩))
    (hcache : ∀ k d : Fin 128, cache (ix3 k 0 d) = iblk m c 4 t (ix5 0 r k h d)) (k d : Fin 128) :
    shiftIn row cache (ix3 k 0 d) = CACHE1 (VALS (m ((c : Thread nD τ).loc main_arg0)) (m ((c : Thread nD τ).loc main_arg3))) (((cfg0.win 12).blk t).view.emb (ix5 0 r k h d)) := by
  have ht := lt8 t
  have hb : t.val * 4 + r.val < 32 := by omega
  have e : ((cfg0.win 12).blk t).view.emb (ix5 0 r k h d) = ix5 0 ⟨t.val * 4 + r.val, hb⟩ k h d := by blk_ext [idx_val t]
  refine Eq.trans ?_ ((congrArg _ e).trans (cache_of _ _ k h d)).symm
  rw [shift_at, vals_at, hrow, proj_blk m c t r _ hb]
  congr 1; funext hk
  rw [hcache, vals_blk m c t r _ h d hb]

theorem keys_point (c : Dev nD) (t : Fin cfg0.N) (r : Fin 4) (h : Fin 2) (row : FVec Ideal S1x128 .f32) (cache : FVec Ideal S128x1x128 .f32)
    (hrow : ∀ d : Fin 128, row (ix2 0 d) = iblk m c 1 t (ix3 r 0 ⟨5120 + (h.val * 128 + d.val), by omega⟩))
    (hcache : ∀ k d : Fin 128, cache (ix3 k 0 d) = iblk m c 3 t (ix5 0 r k h d)) (k d : Fin 128) :
    shiftIn (newKey (iblk m c 8 t) row) cache (ix3 k 0 d) = CACHE1 (KEYS (m ((c : Thread nD τ).loc main_arg0)) (m ((c : Thread nD τ).loc main_arg2)) (m ((c : Thread nD τ).loc main_arg5))) (((cfg0.win 11).blk t).view.emb (ix5 0 r k h d)) := by
  have ht := lt8 t
  have hb : t.val * 4 + r.val < 32 := by omega
  have e : ((cfg0.win 11).blk t).view.emb (ix5 0 r k h d) = ix5 0 ⟨t.val * 4 + r.val, hb⟩ k h d := by blk_ext [idx_val t]
  refine Eq.trans ?_ ((congrArg _ e).trans (cache_of _ _ k h d)).symm
  rw [shift_at, keys_at, key_at, gain_blk]
  simp only [hrow, proj_blk m c t r _ hb]
  congr 1; funext hk
  rw [hcache, keys_blk m c t r _ h d hb]

/-- A load of a window of a request's row of the projection. -/
theorem row_read {sig' : RefSig} {κ : Kind} {sp : Space} {m' : Memref sig' κ sp ⟨3, ![4, 1, 5632]⟩ .f32} (hw : m'.IsWhole)
    (X : Vec Ideal ⟨3, ![4, 1, 5632]⟩ .f32) (r off : ℕ) (i0 : ∀ a, (![r, 0, 0] : Fin 3 → ℕ) a + (![1, 1, 5632] : Fin 3 → ℕ) a ≤ (⟨3, ![4, 1, 5632]⟩ : Shape).size a)
    (i1 : ∀ a, (![0, off] : Fin 2 → ℕ) a + (![1, 128] : Fin 2 → ℕ) a ≤ (⟨2, ![1, 5632]⟩ : Shape).size a)
    (h0 : (![1, 1, 5632] : Fin 3 → ℕ) 0 = 1) (hs : ∀ i : Fin 2, (![1, 1, 5632] : Fin 3 → ℕ) i.succ = (![1, 5632] : Fin 2 → ℕ) i)
    (h1 : ∀ a, (Rect.unit (s := ⟨3, ![4, 1, 5632]⟩) ![r, 0, 0] ![1, 1, 5632] i0).stride a = 1)
    (hR : (Rect.unit (s := ⟨2, ![1, 5632]⟩) ![0, off] ![1, 128] i1).toLoadRect.shape.numel
      = ((Rect.unit (s := ⟨3, ![4, 1, 5632]⟩) ![r, 0, 0] ![1, 1, 5632] i0).withinL ((Rect.unit (s := ⟨2, ![1, 5632]⟩) ![0, off] ![1, 128] i1).toLoadRect.consLift ![1, 1, 5632] h0 hs) h1).shape.numel)
    (d : Fin 128) (b : Fin 4) (l : Fin 5632) (hb : b.val = r) (hl : l.val = off + d.val) :
    LoadRect.valAlong hR (View.readAt (Elt Ideal) m'.view ((Rect.unit (s := ⟨3, ![4, 1, 5632]⟩) ![r, 0, 0] ![1, 1, 5632] i0).withinL ((Rect.unit (s := ⟨2, ![1, 5632]⟩) ![0, off] ![1, 128] i1).toLoadRect.consLift ![1, 1, 5632] h0 hs) h1) (hw.unread X)) (ix2 0 d)
      = X (ix3 b 0 l) := by
  refine load_one (d := ![1, 5632]) hw X _ _ h0 hs h1 hR (ix2 0 d) (ix3 b 0 l) hb fun i => ?_
  match i with
  | ⟨0, _⟩ => rfl
  | ⟨1, _⟩ => show l.val = 0 + (off + 1 * d.val); omega

/-- A load of one head's part of a request's cache. -/
theorem cache_read {sig' : RefSig} {κ : Kind} {sp : Space} {m' : Memref sig' κ sp ⟨5, ![1, 4, 128, 2, 128]⟩ .f32} (hw : m'.IsWhole)
    (X : Vec Ideal ⟨5, ![1, 4, 128, 2, 128]⟩ .f32) (r h : ℕ) (i0 : ∀ a, (![0, r, 0, 0, 0] : Fin 5 → ℕ) a + (![1, 1, 128, 2, 128] : Fin 5 → ℕ) a ≤ (⟨5, ![1, 4, 128, 2, 128]⟩ : Shape).size a)
    (i1 : ∀ a, (![0, h, 0] : Fin 3 → ℕ) a + (![128, 1, 128] : Fin 3 → ℕ) a ≤ (⟨3, ![128, 2, 128]⟩ : Shape).size a)
    (k0 : (![1, 128, 2, 128] : Fin 4 → ℕ) 0 = 1) (ks : ∀ i : Fin 3, (![1, 128, 2, 128] : Fin 4 → ℕ) i.succ = (![128, 2, 128] : Fin 3 → ℕ) i)
    (h0 : (![1, 1, 128, 2, 128] : Fin 5 → ℕ) 0 = 1) (hs : ∀ i : Fin 4, (![1, 1, 128, 2, 128] : Fin 5 → ℕ) i.succ = (![1, 128, 2, 128] : Fin 4 → ℕ) i)
    (h1 : ∀ a, (Rect.unit (s := ⟨5, ![1, 4, 128, 2, 128]⟩) ![0, r, 0, 0, 0] ![1, 1, 128, 2, 128] i0).stride a = 1)
    (hR : (Rect.unit (s := ⟨3, ![128, 2, 128]⟩) ![0, h, 0] ![128, 1, 128] i1).toLoadRect.shape.numel
      = ((Rect.unit (s := ⟨5, ![1, 4, 128, 2, 128]⟩) ![0, r, 0, 0, 0] ![1, 1, 128, 2, 128] i0).withinL (((Rect.unit (s := ⟨3, ![128, 2, 128]⟩) ![0, h, 0] ![128, 1, 128] i1).toLoadRect.consLift ![1, 128, 2, 128] k0 ks).consLift ![1, 1, 128, 2, 128] h0 hs) h1).shape.numel)
    (k d : Fin 128) (b : Fin 4) (g : Fin 2) (hb : b.val = r) (hg : g.val = h) :
    LoadRect.valAlong hR (View.readAt (Elt Ideal) m'.view ((Rect.unit (s := ⟨5, ![1, 4, 128, 2, 128]⟩) ![0, r, 0, 0, 0] ![1, 1, 128, 2, 128] i0).withinL (((Rect.unit (s := ⟨3, ![128, 2, 128]⟩) ![0, h, 0] ![128, 1, 128] i1).toLoadRect.consLift ![1, 128, 2, 128] k0 ks).consLift ![1, 1, 128, 2, 128] h0 hs) h1) (hw.unread X)) (ix3 k 0 d)
      = X (ix5 0 b k g d) := by
  refine load_two (d := ![128, 2, 128]) (d1 := ![1, 128, 2, 128]) hw X _ _ k0 ks h0 hs h1 hR (ix3 k 0 d) (ix5 0 b k g d) rfl hb fun i => ?_
  match i with
  | ⟨0, _⟩ => show k.val = 0 + (0 + 1 * k.val); omega
  | ⟨1, _⟩ => show g.val = 0 + (h + 1 * 0); omega
  | ⟨2, _⟩ => show d.val = 0 + (0 + 1 * d.val); omega

/-- One head's part of one request's part of a cache's block, stored whole, at an entry of the block. -/
theorem cache_piece {V : Type} (r : Fin 4) (h : Fin 2) (i0 : ∀ a, (![0, r.val, 0, 0, 0] : Fin 5 → ℕ) a + (![1, 1, 128, 2, 128] : Fin 5 → ℕ) a ≤ (⟨5, ![1, 4, 128, 2, 128]⟩ : Shape).size a)
    (i1 : ∀ a, (![0, h.val, 0] : Fin 3 → ℕ) a + (![128, 1, 128] : Fin 3 → ℕ) a ≤ (⟨3, ![128, 2, 128]⟩ : Shape).size a)
    (k0 : (![1, 128, 2, 128] : Fin 4 → ℕ) 0 = 1) (ks : ∀ i : Fin 3, (![1, 128, 2, 128] : Fin 4 → ℕ) i.succ = (![128, 2, 128] : Fin 3 → ℕ) i)
    (h0 : (![1, 1, 128, 2, 128] : Fin 5 → ℕ) 0 = 1) (hs : ∀ i : Fin 4, (![1, 1, 128, 2, 128] : Fin 5 → ℕ) i.succ = (![1, 128, 2, 128] : Fin 4 → ℕ) i)
    (h1 : ∀ a, (Rect.unit (s := ⟨5, ![1, 4, 128, 2, 128]⟩) ![0, r.val, 0, 0, 0] ![1, 1, 128, 2, 128] i0).stride a = 1)
    (hR : ((Rect.unit (s := ⟨5, ![1, 4, 128, 2, 128]⟩) ![0, r.val, 0, 0, 0] ![1, 1, 128, 2, 128] i0).within (((Rect.unit (s := ⟨3, ![128, 2, 128]⟩) ![0, h.val, 0] ![128, 1, 128] i1).consLift ![1, 128, 2, 128] k0 ks).consLift ![1, 1, 128, 2, 128] h0 hs) h1).shape.numel
      = (Rect.unit (s := ⟨3, ![128, 2, 128]⟩) ![0, h.val, 0] ![128, 1, 128] i1).shape.numel)
    (x : ((Rect.unit (s := ⟨5, ![1, 4, 128, 2, 128]⟩) ![0, r.val, 0, 0, 0] ![1, 1, 128, 2, 128] i0).within (((Rect.unit (s := ⟨3, ![128, 2, 128]⟩) ![0, h.val, 0] ![128, 1, 128] i1).consLift ![1, 128, 2, 128] k0 ks).consLift ![1, 1, 128, 2, 128] h0 hs) h1).shape.Idx)
    (y : (⟨5, ![1, 4, 128, 2, 128]⟩ : Shape).Idx)
    (hx : ((Rect.unit (s := ⟨5, ![1, 4, 128, 2, 128]⟩) ![0, r.val, 0, 0, 0] ![1, 1, 128, 2, 128] i0).within (((Rect.unit (s := ⟨3, ![128, 2, 128]⟩) ![0, h.val, 0] ![128, 1, 128] i1).consLift ![1, 128, 2, 128] k0 ks).consLift ![1, 1, 128, 2, 128] h0 hs) h1).emb x = y)
    (w : S128x1x128.Idx → V) (G : (⟨5, ![1, 4, 128, 2, 128]⟩ : Shape).Idx → V)
    (hw : ∀ k d : Fin 128, w (ix3 k 0 d) = G (ix5 0 r k h d)) :
    Rect.payAlong hR w x = G y := by
  have hz : ∀ i : Fin 3, ((ix3 (x 2) (x 3) (x 4) : S128x1x128.Idx) i).val = (x i.succ.succ).val := fun i => by
    match i with
    | ⟨0, _⟩ | ⟨1, _⟩ | ⟨2, _⟩ => rfl
  have h3 : x 3 = (0 : Fin 1) := Subsingleton.elim (α := Fin 1) _ _
  refine (pay_two (d := ![128, 2, 128]) (d1 := ![1, 128, 2, 128]) _ _ k0 ks h0 hs h1 hR w x (ix3 (x 2) (x 3) (x 4)) hz).trans ?_
  rw [h3]
  refine (hw (x 2) (x 4)).trans (congrArg G ?_)
  refine Eq.trans (Eq.symm ?_) hx
  refine emb_two (d := ![128, 2, 128]) (d1 := ![1, 128, 2, 128]) _ _ k0 ks h0 hs h1 x _ (ix3 (x 2) (x 3) (x 4)) hz rfl rfl fun i => ?_
  match i with
  | ⟨0, _⟩ => show (x 2).val = 0 + (0 + 1 * (x 2).val); omega
  | ⟨1, _⟩ =>
    show h.val = 0 + (h.val + 1 * (x 3).val)
    have : (x 3).val = 0 := congrArg Fin.val h3
    omega
  | ⟨2, _⟩ => show (x 4).val = 0 + (0 + 1 * (x 4).val); omega

theorem final_v (c : Dev nD) : (dats m 0 c).arrAt 12 (cfgs 0).N = CACHE1 (VALS (m ((c : Thread nD τ).loc main_arg0)) (m ((c : Thread nD τ).loc main_arg3))) := by
  have piece : ∀ (t : Fin cfg0.N) (r h : ℕ) (hr : r < 4) (hh : h < 2) i0 i1 k0 ks h0 hs h1 hR x y hx row cache hrow hcache, _ :=
    fun t r h hr hh i0 i1 k0 ks h0 hs h1 hR x y hx row cache hrow hcache =>
    cache_piece ⟨r, hr⟩ ⟨h, hh⟩ i0 i1 k0 ks h0 hs h1 hR x y hx (shiftIn row cache)
      (fun y => CACHE1 (VALS (m ((c : Thread nD τ).loc main_arg0)) (m ((c : Thread nD τ).loc main_arg3))) (((cfg0.win 12).blk t).view.emb y))
      (vals_point m c t ⟨r, hr⟩ ⟨h, hh⟩ row cache hrow hcache)
  refine (dats m 0 c).arrAt_eq_of_covers 12 _ (by decide +kernel) fun t hf y => ?_
  blk_simp; rw [after0_12]; unfold outsAt0; frame_out
  canon_tiles x hx
  all_goals try unfold k0_pay71 k0_pay68 k0_pay69 k0_pay70 k0_pay4 k0_pay65 k0_pay66
  all_goals refine piece t _ _ (by decide) (by decide) _ _ _ _ _ _ _ _ x y hx _ _ (fun d => ?_) (fun k d => ?_)
  all_goals
    first
    | exact cache_read _ _ _ _ _ _ _ _ _ _ _ _ k d _ _ rfl rfl
    | exact row_read _ _ _ _ _ _ _ _ _ _ d _ _ rfl (by (try dsimp only) <;> omega)

theorem final_k (c : Dev nD) : (dats m 0 c).arrAt 11 (cfgs 0).N = CACHE1 (KEYS (m ((c : Thread nD τ).loc main_arg0)) (m ((c : Thread nD τ).loc main_arg2)) (m ((c : Thread nD τ).loc main_arg5))) := by
  have piece : ∀ (t : Fin cfg0.N) (r h : ℕ) (hr : r < 4) (hh : h < 2) i0 i1 k0 ks h0 hs h1 hR x y hx row cache hrow hcache, _ :=
    fun t r h hr hh i0 i1 k0 ks h0 hs h1 hR x y hx row cache hrow hcache =>
    cache_piece ⟨r, hr⟩ ⟨h, hh⟩ i0 i1 k0 ks h0 hs h1 hR x y hx (shiftIn (newKey (iblk m c 8 t) row) cache)
      (fun y => CACHE1 (KEYS (m ((c : Thread nD τ).loc main_arg0)) (m ((c : Thread nD τ).loc main_arg2)) (m ((c : Thread nD τ).loc main_arg5))) (((cfg0.win 11).blk t).view.emb y))
      (keys_point m c t ⟨r, hr⟩ ⟨h, hh⟩ row cache hrow hcache)
  refine (dats m 0 c).arrAt_eq_of_covers 11 _ (by decide +kernel) fun t hf y => ?_
  blk_simp; rw [after0_11]; unfold outsAt0; frame_out
  canon_tiles x hx
  all_goals try unfold k0_pay71 k0_pay68 k0_pay69 k0_pay70 k0_pay4 k0_pay65 k0_pay66
  all_goals refine piece t _ _ (by decide) (by decide) _ _ _ _ _ _ _ _ x y hx _ _ (fun d => ?_) (fun k d => ?_)
  all_goals
    first
    | exact cache_read _ _ _ _ _ _ _ _ _ _ _ _ k d _ _ rfl rfl
    | exact row_read _ _ _ _ _ _ _ _ _ _ d _ _ rfl (by (try dsimp only) <;> omega)

/-- One head's part of one request's part of the state's block, stored whole, at an entry of the block. -/
theorem state_piece {V : Type} (r : Fin 4) (h : Fin 8) (i0 : ∀ a, (![0, r.val, 0, 0, 0] : Fin 5 → ℕ) a + (![1, 1, 8, 128, 128] : Fin 5 → ℕ) a ≤ (⟨5, ![1, 4, 8, 128, 128]⟩ : Shape).size a)
    (i1 : ∀ a, (![h.val, 0, 0] : Fin 3 → ℕ) a + (![1, 128, 128] : Fin 3 → ℕ) a ≤ (⟨3, ![8, 128, 128]⟩ : Shape).size a)
    (k0 : (![1, 8, 128, 128] : Fin 4 → ℕ) 0 = 1) (ks : ∀ i : Fin 3, (![1, 8, 128, 128] : Fin 4 → ℕ) i.succ = (![8, 128, 128] : Fin 3 → ℕ) i)
    (h0 : (![1, 1, 8, 128, 128] : Fin 5 → ℕ) 0 = 1) (hs : ∀ i : Fin 4, (![1, 1, 8, 128, 128] : Fin 5 → ℕ) i.succ = (![1, 8, 128, 128] : Fin 4 → ℕ) i)
    (h1 : ∀ a, (Rect.unit (s := ⟨5, ![1, 4, 8, 128, 128]⟩) ![0, r.val, 0, 0, 0] ![1, 1, 8, 128, 128] i0).stride a = 1)
    (hR : ((Rect.unit (s := ⟨5, ![1, 4, 8, 128, 128]⟩) ![0, r.val, 0, 0, 0] ![1, 1, 8, 128, 128] i0).within (((Rect.unit (s := ⟨3, ![8, 128, 128]⟩) ![h.val, 0, 0] ![1, 128, 128] i1).consLift ![1, 8, 128, 128] k0 ks).consLift ![1, 1, 8, 128, 128] h0 hs) h1).shape.numel
      = (Rect.unit (s := ⟨3, ![8, 128, 128]⟩) ![h.val, 0, 0] ![1, 128, 128] i1).shape.numel)
    (x : ((Rect.unit (s := ⟨5, ![1, 4, 8, 128, 128]⟩) ![0, r.val, 0, 0, 0] ![1, 1, 8, 128, 128] i0).within (((Rect.unit (s := ⟨3, ![8, 128, 128]⟩) ![h.val, 0, 0] ![1, 128, 128] i1).consLift ![1, 8, 128, 128] k0 ks).consLift ![1, 1, 8, 128, 128] h0 hs) h1).shape.Idx)
    (y : (⟨5, ![1, 4, 8, 128, 128]⟩ : Shape).Idx)
    (hx : ((Rect.unit (s := ⟨5, ![1, 4, 8, 128, 128]⟩) ![0, r.val, 0, 0, 0] ![1, 1, 8, 128, 128] i0).within (((Rect.unit (s := ⟨3, ![8, 128, 128]⟩) ![h.val, 0, 0] ![1, 128, 128] i1).consLift ![1, 8, 128, 128] k0 ks).consLift ![1, 1, 8, 128, 128] h0 hs) h1).emb x = y)
    (w : S1x128x128.Idx → V) (G : (⟨5, ![1, 4, 8, 128, 128]⟩ : Shape).Idx → V)
    (hw : ∀ k d : Fin 128, w (ix3 0 k d) = G (ix5 0 r h k d)) :
    Rect.payAlong hR w x = G y := by
  have hz : ∀ i : Fin 3, ((ix3 (x 2) (x 3) (x 4) : S1x128x128.Idx) i).val = (x i.succ.succ).val := fun i => by
    match i with
    | ⟨0, _⟩ | ⟨1, _⟩ | ⟨2, _⟩ => rfl
  have h2 : x 2 = (0 : Fin 1) := Subsingleton.elim (α := Fin 1) _ _
  refine (pay_two (d := ![8, 128, 128]) (d1 := ![1, 8, 128, 128]) _ _ k0 ks h0 hs h1 hR w x (ix3 (x 2) (x 3) (x 4)) hz).trans ?_
  rw [h2]
  refine (hw (x 3) (x 4)).trans (congrArg G ?_)
  refine Eq.trans (Eq.symm ?_) hx
  refine emb_two (d := ![8, 128, 128]) (d1 := ![1, 8, 128, 128]) _ _ k0 ks h0 hs h1 x _ (ix3 (x 2) (x 3) (x 4)) hz rfl rfl fun i => ?_
  match i with
  | ⟨0, _⟩ =>
    show h.val = 0 + (h.val + 1 * (x 2).val)
    have : (x 2).val = 0 := congrArg Fin.val h2
    omega
  | ⟨1, _⟩ => show (x 3).val = 0 + (0 + 1 * (x 3).val); omega
  | ⟨2, _⟩ => show (x 4).val = 0 + (0 + 1 * (x 4).val); omega

/-- A load of one head's part of a request's state. -/
theorem state_read {sig' : RefSig} {κ : Kind} {sp : Space} {m' : Memref sig' κ sp ⟨5, ![1, 4, 8, 128, 128]⟩ .f32} (hw : m'.IsWhole)
    (X : Vec Ideal ⟨5, ![1, 4, 8, 128, 128]⟩ .f32) (r h : ℕ) (i0 : ∀ a, (![0, r, 0, 0, 0] : Fin 5 → ℕ) a + (![1, 1, 8, 128, 128] : Fin 5 → ℕ) a ≤ (⟨5, ![1, 4, 8, 128, 128]⟩ : Shape).size a)
    (i1 : ∀ a, (![h, 0, 0] : Fin 3 → ℕ) a + (![1, 128, 128] : Fin 3 → ℕ) a ≤ (⟨3, ![8, 128, 128]⟩ : Shape).size a)
    (k0 : (![1, 8, 128, 128] : Fin 4 → ℕ) 0 = 1) (ks : ∀ i : Fin 3, (![1, 8, 128, 128] : Fin 4 → ℕ) i.succ = (![8, 128, 128] : Fin 3 → ℕ) i)
    (h0 : (![1, 1, 8, 128, 128] : Fin 5 → ℕ) 0 = 1) (hs : ∀ i : Fin 4, (![1, 1, 8, 128, 128] : Fin 5 → ℕ) i.succ = (![1, 8, 128, 128] : Fin 4 → ℕ) i)
    (h1 : ∀ a, (Rect.unit (s := ⟨5, ![1, 4, 8, 128, 128]⟩) ![0, r, 0, 0, 0] ![1, 1, 8, 128, 128] i0).stride a = 1)
    (hR : (Rect.unit (s := ⟨3, ![8, 128, 128]⟩) ![h, 0, 0] ![1, 128, 128] i1).toLoadRect.shape.numel
      = ((Rect.unit (s := ⟨5, ![1, 4, 8, 128, 128]⟩) ![0, r, 0, 0, 0] ![1, 1, 8, 128, 128] i0).withinL (((Rect.unit (s := ⟨3, ![8, 128, 128]⟩) ![h, 0, 0] ![1, 128, 128] i1).toLoadRect.consLift ![1, 8, 128, 128] k0 ks).consLift ![1, 1, 8, 128, 128] h0 hs) h1).shape.numel)
    (k d : Fin 128) (b : Fin 4) (g : Fin 8) (hb : b.val = r) (hg : g.val = h) :
    LoadRect.valAlong hR (View.readAt (Elt Ideal) m'.view ((Rect.unit (s := ⟨5, ![1, 4, 8, 128, 128]⟩) ![0, r, 0, 0, 0] ![1, 1, 8, 128, 128] i0).withinL (((Rect.unit (s := ⟨3, ![8, 128, 128]⟩) ![h, 0, 0] ![1, 128, 128] i1).toLoadRect.consLift ![1, 8, 128, 128] k0 ks).consLift ![1, 1, 8, 128, 128] h0 hs) h1) (hw.unread X)) (ix3 0 k d)
      = X (ix5 0 b g k d) := by
  refine load_two (d := ![8, 128, 128]) (d1 := ![1, 8, 128, 128]) hw X _ _ k0 ks h0 hs h1 hR (ix3 0 k d) (ix5 0 b g k d) rfl hb fun i => ?_
  match i with
  | ⟨0, _⟩ => show g.val = 0 + (h + 1 * 0); omega
  | ⟨1, _⟩ => show k.val = 0 + (0 + 1 * k.val); omega
  | ⟨2, _⟩ => show d.val = 0 + (0 + 1 * d.val); omega

/-- A load of a window of the lower bounds. -/
theorem bound_read (X : Vec Ideal ⟨2, ![1, 1024]⟩ .f32) (off : ℕ) (inb : ∀ a, (![0, off] : Fin 2 → ℕ) a + (![1, 128] : Fin 2 → ℕ) a ≤ (⟨2, ![1, 1024]⟩ : Shape).size a)
    (d : Fin 128) (l : Fin 1024) (hl : l.val = off + d.val) :
    View.ld X (Rect.unit (s := ⟨2, ![1, 1024]⟩) ![0, off] ![1, 128] inb) (ix2 0 d) = X (ix2 0 l) := by
  refine View.ld_unit_apply_of X _ _ inb _ _ fun a => ?_
  match a with
  | ⟨0, _⟩ => rfl
  | ⟨1, _⟩ => exact hl

/-- The gates are numbers, and their lower bounds are at least zero and less than one. -/
def Gates (a0 : FVec Ideal S32x1x5632 .f32) (a4 : FVec Ideal S1024 .f32) : Prop :=
  (∀ (b : Fin 32) (l : Fin 1024), (FloatOps.absf (F := Ideal) (φ := .f32) (a0 (ix3 b 0 ⟨1024 + l.val, by omega⟩)) : EReal) < ⊤)
    ∧ ∀ l : Fin 1024, (0 : EReal) ≤ a4 (ix1 l) ∧ (a4 (ix1 l) : EReal) < 1

theorem state_point (c : Dev nD) (hG : Gates (m ((c : Thread nD τ).loc main_arg0)) (m ((c : Thread nD τ).loc main_arg4))) (t : Fin cfg0.N) (r : Fin 4) (h : Fin 8) (lb f v : FVec Ideal S1x128 .f32) (S : FVec Ideal S1x128x128 .f32)
    (hlb : ∀ d : Fin 128, lb (ix2 0 d) = iblk m c 5 t (ix2 0 ⟨h.val * 128 + d.val, by omega⟩))
    (hf : ∀ d : Fin 128, f (ix2 0 d) = iblk m c 1 t (ix3 r 0 ⟨1024 + (h.val * 128 + d.val), by omega⟩))
    (hv : ∀ d : Fin 128, v (ix2 0 d) = iblk m c 1 t (ix3 r 0 ⟨2048 + (h.val * 128 + d.val), by omega⟩))
    (hS : ∀ k d : Fin 128, S (ix3 0 k d) = iblk m c 2 t (ix5 0 r h k d)) (k d : Fin 128) :
    newState lb f v S (ix3 0 k d) = STATE1 (STATE (m ((c : Thread nD τ).loc main_arg0)) (m ((c : Thread nD τ).loc main_arg1)) (m ((c : Thread nD τ).loc main_arg4))) (((cfg0.win 10).blk t).view.emb (ix5 0 r h k d)) := by
  have ht := lt8 t
  have hb : t.val * 4 + r.val < 32 := by omega
  have e : ((cfg0.win 10).blk t).view.emb (ix5 0 r h k d) = ix5 0 ⟨t.val * 4 + r.val, hb⟩ h k d := by blk_ext [idx_val t]
  have hl := hG.2 ⟨h.val * 128 + k.val, by omega⟩
  obtain ⟨L, eL, xL⟩ := MixGate.exp_logf _ _ hl.1 hl.2 (hG.1 ⟨t.val * 4 + r.val, hb⟩ ⟨h.val * 128 + k.val, by omega⟩)
  have s0 : (L : EReal) - (L : EReal) = ((0 : ℝ) : EReal) := by rw [← EReal.coe_sub, sub_self]
  have s1 : -(Ideal.exp (L : EReal) - 1) = 1 - Ideal.exp (L : EReal) := by
    rw [MixGate.exp_coe, ← EReal.coe_one, ← EReal.coe_sub, ← EReal.coe_sub, ← EReal.coe_neg, neg_sub]
  refine Eq.trans ?_ ((congrArg _ e).trans (state_of _ _ h k d)).symm
  rw [MixPoint.state_at, MixTerm.state_at _ _ _ _ h k d L eL.symm, s0, s1, MixGate.exp_coe 0, Real.exp_zero, EReal.coe_one, mul_one, xL,
    hS, hv, hlb, hf, state_blk m c t r h k d hb, proj_blk m c t r _ hb, proj_blk m c t r _ hb, bound_blk]

set_option maxHeartbeats 2000000 in
theorem final_s (c : Dev nD) (hG : Gates (m ((c : Thread nD τ).loc main_arg0)) (m ((c : Thread nD τ).loc main_arg4))) : (dats m 0 c).arrAt 10 (cfgs 0).N
    = STATE1 (STATE (m ((c : Thread nD τ).loc main_arg0)) (m ((c : Thread nD τ).loc main_arg1)) (m ((c : Thread nD τ).loc main_arg4))) := by
  have piece : ∀ (t : Fin cfg0.N) (r h : ℕ) (hr : r < 4) (hh : h < 8) i0 i1 k0 ks h0 hs h1 hR x y hx lb f v S hlb hf hv hS, _ :=
    fun t r h hr hh i0 i1 k0 ks h0 hs h1 hR x y hx lb f v S hlb hf hv hS =>
    state_piece ⟨r, hr⟩ ⟨h, hh⟩ i0 i1 k0 ks h0 hs h1 hR x y hx (newState lb f v S)
      (fun y => STATE1 (STATE (m ((c : Thread nD τ).loc main_arg0)) (m ((c : Thread nD τ).loc main_arg1)) (m ((c : Thread nD τ).loc main_arg4))) (((cfg0.win 10).blk t).view.emb y))
      (state_point m c hG t ⟨r, hr⟩ ⟨h, hh⟩ lb f v S hlb hf hv hS)
  refine (dats m 0 c).arrAt_eq_of_covers 10 _ (by decide +kernel) fun t hf y => ?_
  blk_simp; rw [after0_10]; unfold outsAt0; frame_out
  canon_tiles x hx
  all_goals refine piece t _ _ (by decide) (by decide) _ _ _ _ _ _ _ _ x y hx _ _ _ _ (fun d => ?_) (fun d => ?_) (fun d => ?_) (fun k d => ?_)
  all_goals
    first
    | exact state_read _ _ _ _ _ _ _ _ _ _ _ _ k d _ _ rfl rfl
    | exact row_read _ _ _ _ _ _ _ _ _ _ d _ _ rfl (by (try dsimp only) <;> omega)
    | exact bound_read _ _ _ d _ (by (try dsimp only) <;> omega)

/-- The three results without the layer's axis, after the region. -/
theorem state_end (c : Dev nD) (hG : Gates (m ((c : Thread nD τ).loc main_arg0)) (m ((c : Thread nD τ).loc main_arg4))) :
    Pipeline.afterTail₀ cfgs (dats m) 0 (V0 m) [hostOps1] c main_v11
      = STATE (m ((c : Thread nD τ).loc main_arg0)) (m ((c : Thread nD τ).loc main_arg1)) (m ((c : Thread nD τ).loc main_arg4)) := by
  have e := Pipeline.withArrays_arr (cfgs 0).spec launch0.win.arr_inj c (V0 m c) (fun w => (dats m 0 c).arrAt w (cfgs 0).N) 10
  refine (congrArg (fun f => shapeCast S32x8x128x128 f shapeCasts_S1x32x8x128x128_S32x8x128x128) (e.trans (final_s m c hG))).trans ?_
  generalize STATE _ _ _ = s
  funext y
  pointwise []

theorem keys_end (c : Dev nD) : Pipeline.afterTail₀ cfgs (dats m) 0 (V0 m) [hostOps1] c main_v12
      = KEYS (m ((c : Thread nD τ).loc main_arg0)) (m ((c : Thread nD τ).loc main_arg2)) (m ((c : Thread nD τ).loc main_arg5)) := by
  have e := Pipeline.withArrays_arr (cfgs 0).spec launch0.win.arr_inj c (V0 m c) (fun w => (dats m 0 c).arrAt w (cfgs 0).N) 11
  refine (congrArg (fun f => shapeCast S32x128x2x128 f shapeCasts_S1x32x128x2x128_S32x128x2x128) (e.trans (final_k m c))).trans ?_
  generalize KEYS _ _ _ = s
  funext y
  pointwise []

theorem vals_end (c : Dev nD) : Pipeline.afterTail₀ cfgs (dats m) 0 (V0 m) [hostOps1] c main_v13
      = VALS (m ((c : Thread nD τ).loc main_arg0)) (m ((c : Thread nD τ).loc main_arg3)) := by
  have e := Pipeline.withArrays_arr (cfgs 0).spec launch0.win.arr_inj c (V0 m c) (fun w => (dats m 0 c).arrAt w (cfgs 0).N) 12
  refine (congrArg (fun f => shapeCast S32x128x2x128 f shapeCasts_S1x32x128x2x128_S32x128x2x128) (e.trans (final_v m c))).trans ?_
  generalize VALS _ _ = s
  funext y
  pointwise []

end Cert.MixIdeal.Value

end
-- ==== Proof.MixClaims.lean ====
/- The claims about the programs `Mix`, `MixIdeal` and `MixRefIdeal`. -/
module

public import proofs.«01_k».proof.Defs
public import proofs.«01_k».proof.Proof.Gen.Mix
public import proofs.«01_k».proof.Proof.Gen.MixIdeal
public import proofs.«01_k».proof.Proof.Gen.MixRefIdeal.Run
public import proofs.«01_k».proof.Proof.Gen.Pre_forget_gates
public import proofs.«01_k».proof.Proof.MixSame
public import proofs.«01_k».proof.Proof.MixValue
public import proofs.«01_k».proof.Proof.SoftRow
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.MixClaims

set_option maxHeartbeats 20000000 in
/-- The printed program at the bit formats, from the one run. -/
theorem frame_p : Cert.quiescent_Mix := fun m ρ _ =>
  have key : ∀ D, D = @Cert.MixIdeal.defs Bits _ _ →
      θ_run D (onTc (τ := Cert.MixIdeal.τ) (Cert.MixIdeal.main (F := Bits))) ⟨m, fun _ => 0, ρ⟩ _ :=
    fun _ h => h ▸ Cert.MixIdeal.Run.frame (F := Bits) m ρ
  key _ Cert.Proof.MixSame.defs_eq

theorem frame_pi : Cert.quiescent_MixIdeal := fun m ρ _ => Cert.MixIdeal.Run.frame m ρ
theorem frame_pi_pre : Cert.quiescent_MixIdeal_pre_forget_gates := fun m ρ _ => Cert.MixIdeal.Run.frame m ρ
theorem frame_ri : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)
theorem frame_ri_pre : Cert.quiescent_MixRefIdeal_pre_forget_gates := fun m ρ _ => frame_ri m ρ trivial

theorem preserves : Cert.preserves_Mix_MixIdeal := trivial

theorem one_of_lt (x y : EReal) (h : Ideal.cmp .olt x y = 1#1) : x < y := by
  by_contra k
  simp [Ideal.cmp, k] at h

theorem one_of_ge (x y : EReal) (h : Ideal.cmp .oge x y = 1#1) : y ≤ x := by
  by_contra k
  simp [Ideal.cmp, k] at h

theorem zero_bits : Ideal.ofBits .f32 0x00000000#32 = (0 : EReal) := by
  simp [Ideal.ofBits, Ideal.ieee]

theorem one_bits : Ideal.ofBits .f32 0x3F800000#32 = (1 : EReal) := by
  simp [Ideal.ofBits, Ideal.ieee]
  rw [← EReal.coe_mul]; norm_num

theorem gate_at (a0 : FVec Ideal Cert.MixIdeal.S32x1x5632 .f32) (b : Fin 32) (l : Fin 1024) :
    extractStridedSlice Cert.Pre_forget_gates.S32x1x1024 ![0, 0, 1024] a0 Cert.Pre_forget_gates.Facts.slices_S32x1x5632_S32x1x1024_0_0_1024 (ix3 b 0 l)
      = a0 (ix3 b 0 ⟨1024 + l.val, by omega⟩) := by
  pointwise

/-- The precondition says the gates are numbers and their lower bounds at least zero and less than one. -/
theorem gates_of_pre (m : (ℓ : Loc Cert.MixIdeal.nD Cert.MixIdeal.τ Cert.MixIdeal.sig) → Buf (Elt Ideal) ℓ)
    (h : Cert.Pre_MixIdeal_forget_gates m) (c : Dev Cert.MixIdeal.nD) :
    Cert.MixIdeal.Value.Gates (m ((c.tc : Thread Cert.MixIdeal.nD Cert.MixIdeal.τ).loc Cert.MixIdeal.main_arg0))
      (m ((c.tc : Thread Cert.MixIdeal.nD Cert.MixIdeal.τ).loc Cert.MixIdeal.main_arg4)) := by
  obtain ⟨h0, h1, h2⟩ := h c
  revert h0 h1 h2
  generalize m ((c.tc : Thread Cert.MixIdeal.nD Cert.MixIdeal.τ).loc Cert.MixIdeal.main_arg0) = a0
  generalize m ((c.tc : Thread Cert.MixIdeal.nD Cert.MixIdeal.τ).loc Cert.MixIdeal.main_arg4) = a4
  intro h0 h1 h2
  refine ⟨fun b l => ?_, fun l => ⟨?_, ?_⟩⟩
  · have h := one_of_lt _ _ (congrFun h0 (ix3 b 0 l))
    refine lt_of_eq_of_lt (congrArg (fun x => (FloatOps.absf (F := Ideal) x : EReal)) ?_) (h.trans_eq Cert.SoftRow.bits_top)
    refine Eq.trans ?_ (gate_at a0 b l).symm
    rfl
  · exact zero_bits ▸ one_of_ge _ _ (congrFun h1 (ix1 l))
  · exact one_bits ▸ one_of_lt _ _ (congrFun h2 (ix1 l))

/-- The reference's state, as one term of its arguments. -/
theorem ref_state (m : (ℓ : Loc Cert.MixRefIdeal.nD Cert.MixRefIdeal.τ Cert.MixRefIdeal.sig) → Buf (Elt Ideal) ℓ) (c : Dev Cert.MixRefIdeal.nD) :
    Cert.MixRefIdeal.Value.res_main_v43 m c = Cert.MixTerm.STATE
      (m ((c.tc : Thread Cert.MixRefIdeal.nD Cert.MixRefIdeal.τ).loc Cert.MixRefIdeal.main_arg0))
      (m ((c.tc : Thread Cert.MixRefIdeal.nD Cert.MixRefIdeal.τ).loc Cert.MixRefIdeal.main_arg1))
      (m ((c.tc : Thread Cert.MixRefIdeal.nD Cert.MixRefIdeal.τ).loc Cert.MixRefIdeal.main_arg4)) := by
  unfold Cert.MixRefIdeal.Value.res_main_v43 Cert.MixTerm.STATE Cert.MixTerm.CUM Cert.MixTerm.LOGF Cert.MixTerm.LSIG Cert.MixTerm.LLB Cert.MixTerm.LOM Cert.MixTerm.GATE
  rfl

/-- Each of the kernel's results and the reference's are one term of the arguments. -/
theorem algebraic : Cert.algebraic_MixIdeal_MixRefIdeal_pre_forget_gates := by
  pair_intro
  · run_from Cert.MixIdeal.Run.run_main m g
    · exact Cert.MixIdeal.Gen.W_main_arg1 m _ c
    · exact Cert.MixIdeal.Gen.W_main_arg2 m _ c
    · exact Cert.MixIdeal.Gen.W_main_arg3 m _ c
    · exact Cert.MixIdeal.Gen.W_main_arg4 m _ c
    · exact Cert.MixIdeal.Gen.W_main_arg5 m _ c
    · exact Cert.MixIdeal.Gen.W_main_arg6 m _ c
    · exact Cert.MixIdeal.Gen.W_main_arg7 m _ c
  · run_from Cert.MixRefIdeal.Value.run m' g'
    · refine (ref_state m' c).trans ?_
      obtain ⟨h0, h1, h2, h3, h4, -⟩ := hagree c
      rw [h0, h1, h4]
      exact (Cert.MixIdeal.Value.state_end m c (gates_of_pre m hpre c)).symm
    · obtain ⟨h0, h1, h2, h3, h4, h5, -⟩ := hagree c
      refine Eq.trans ?_ (Cert.MixIdeal.Value.keys_end m c).symm
      rw [← h0, ← h2, ← h5]
      rfl
    · obtain ⟨h0, h1, h2, h3, -⟩ := hagree c
      refine Eq.trans ?_ (Cert.MixIdeal.Value.vals_end m c).symm
      rw [← h0, ← h3]
      rfl

end Cert.Proof.MixClaims

end
-- ==== Proof.SOutValue.lean ====
/- The value of `Cert.SOutIdeal`'s result arrays: the reference's terms over the arguments. -/
module

public import proofs.«01_k».proof.Proof.Gen.SOutIdeal.Frame
public import proofs.«01_k».proof.Proof.Gen.SOutRefIdeal
public import proofs.«01_k».proof.Proof.SampleRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SOutIdeal.Value

open Cert.SOutIdeal Cert.SOutIdeal.Gen

variable (m : (ℓ : Loc nD τ sig) → Buf (Elt Ideal) ℓ)

/-- The reference's result, the samples one after another, as one term over its arguments. -/
abbrev REF (a0 : FVec Ideal Cert.SOutRefIdeal.S32x1x2048 .f32) (a1 : FVec Ideal Cert.SOutRefIdeal.S2048x2048 .f32) (a2 : FVec Ideal Cert.SOutRefIdeal.S32x1x2048 .f32) (a3 : FVec Ideal Cert.SOutRefIdeal.S32x12288 .f32) : FVec Ideal Cert.SOutRefIdeal.S32x1x2048 .f32 :=
  addf a2 (mulf (extractStridedSlice Cert.SOutRefIdeal.S32x1x2048 ![0, 0, 4096] (broadcastInDim Cert.SOutRefIdeal.S32x1x12288 ![0, 2] Cert.SOutRefIdeal.Gen.bcast_S32x12288_S32x1x12288_0_2 a3) Cert.SOutRefIdeal.Gen.slices_S32x1x12288_S32x1x2048_0_0_4096) (Host.dotGeneral Cert.SOutRefIdeal.dot_S32x1x2048_S2048x2048_S32x1x2048_2_0_01_1_n_n none a0 a1))

/-- The reference's weight tiles. -/
abbrev TILES (a1 : FVec Ideal Cert.SOutRefIdeal.S2048x2048 .f32) : FVec Ideal Cert.SOutRefIdeal.S4x2048x512 .bf16 :=
  truncf .bf16 (transpose Cert.SOutRefIdeal.S4x2048x512 [1, 0, 2] (shapeCast _ a1 Cert.SOutRefIdeal.Gen.shapeCasts_S2048x2048_S2048x4x512) Cert.SOutRefIdeal.Gen.transposes_S2048x4x512_S4x2048x512_1_0_2) Cert.SOutRefIdeal.Gen.bitsLt_bf16_f32

theorem idx_val : ∀ t : Fin cfg0.N, win0_0.index t = ![0, 0, 0] ∧ win0_1.index t = ![0, 0, t.val]
    ∧ win0_2.index t = ![0, 0, t.val] ∧ win0_3.index t = ![0, 0, 8 + t.val]
    ∧ win0_4.index t = ![0, 0, t.val] ∧ win0_5.index t = ![t.val, 0, 0] :=
  (by decide +kernel : ∀ t : Fin grid0.N, _)

/-- The reference's result in the one group of rows the call works on. -/
abbrev ROWS (r : FVec Ideal Cert.SOutRefIdeal.S32x1x2048 .f32) : FVec Ideal S1x32x2048 .f32 :=
  shapeCast S1x32x2048 r shapeCasts_S32x1x2048_S1x32x2048

theorem V_v1 (c : Dev nD) : V m c main_v1 = broadcastInDim S1x2048x2048 ![1, 2] bcast_S2048x2048_S1x2048x2048_1_2 (m ((c : Thread nD τ).loc main_arg1)) := by
  unfold V; after_results_simp; try rfl

theorem V_v0 (c : Dev nD) : V m c main_v0 = shapeCast S1x32x2048 (m ((c : Thread nD τ).loc main_arg0)) shapeCasts_S32x1x2048_S1x32x2048 := by
  rfl
theorem V_v2 (c : Dev nD) : V m c main_v2 = shapeCast S1x32x2048 (m ((c : Thread nD τ).loc main_arg2)) shapeCasts_S32x1x2048_S1x32x2048 := by
  rfl
theorem V_v3 (c : Dev nD) : V m c main_v3 = shapeCast S1x32x12288 (m ((c : Thread nD τ).loc main_arg3)) shapeCasts_S32x12288_S1x32x12288 := by
  rfl

theorem act_blk (c : Dev nD) (t : Fin cfg0.N) (r : Fin 32) (k : Fin 2048) :
    iblk m c 0 t (ix3 0 r k) = m ((c : Thread nD τ).loc main_arg0) (ix3 r 0 k) := by
  refine Eq.trans (b := V m c main_v0 (ix3 0 r k)) ?_ ((congrFun (V_v0 m c) _).trans (Cert.SampleRows.group_at _ _ r k))
  blk_ext [iblk, idx_val t]
theorem weight_blk (c : Dev nD) (t : Fin cfg0.N) (k : Fin 2048) (l : Fin 512) (h : t.val * 512 + l.val < 2048) :
    iblk m c 1 t (ix3 0 k l) = m ((c : Thread nD τ).loc main_arg1) (ix2 k ⟨t.val * 512 + l.val, h⟩) := by
  refine Eq.trans (b := V m c main_v1 (ix3 0 k ⟨t.val * 512 + l.val, h⟩)) ?_ ((congrFun (V_v1 m c) _).trans (Cert.SampleRows.weight_at _ _ k _))
  blk_ext [iblk, idx_val t]
theorem res_blk (c : Dev nD) (t : Fin cfg0.N) (r : Fin 32) (l : Fin 512) (h : t.val * 512 + l.val < 2048) :
    iblk m c 2 t (ix3 0 r l) = m ((c : Thread nD τ).loc main_arg2) (ix3 r 0 ⟨t.val * 512 + l.val, h⟩) := by
  refine Eq.trans (b := V m c main_v2 (ix3 0 r ⟨t.val * 512 + l.val, h⟩)) ?_ ((congrFun (V_v2 m c) _).trans (Cert.SampleRows.group_at _ _ r _))
  blk_ext [iblk, idx_val t]
theorem mod_blk (c : Dev nD) (t : Fin cfg0.N) (r : Fin 32) (l : Fin 512) (h : 4096 + (t.val * 512 + l.val) < 12288) :
    iblk m c 3 t (ix3 0 r l) = m ((c : Thread nD τ).loc main_arg3) (ix2 r ⟨4096 + (t.val * 512 + l.val), h⟩) := by
  refine Eq.trans (b := V m c main_v3 (ix3 0 r ⟨4096 + (t.val * 512 + l.val), h⟩)) ?_ ((congrFun (V_v3 m c) _).trans (Cert.SampleRows.mod_at _ _ r _))
  blk_ext [iblk, idx_val t]

/-- What the body stores of a block of rows, at one entry, from what its operands hold there. -/
theorem rows_at (w : FVec Ideal S1x2048x512 .f32) (a : FVec Ideal S1x32x2048 .f32) (x g : FVec Ideal S1x32x512 .f32) (r : Fin 32) (l : Fin 512) :
    k0_pay3 w a x g (ix3 0 r l) = x (ix3 0 r l) + g (ix3 0 r l) * ∑ k : Fin 2048, a (ix3 0 r k) * w (ix3 0 k l) := by
  pointwise [k0_pay3, k0_pay1]
/-- The reference at one entry. -/
theorem ref_at (a0 : FVec Ideal Cert.SOutRefIdeal.S32x1x2048 .f32) (a1 : FVec Ideal Cert.SOutRefIdeal.S2048x2048 .f32) (a2 : FVec Ideal Cert.SOutRefIdeal.S32x1x2048 .f32) (a3 : FVec Ideal Cert.SOutRefIdeal.S32x12288 .f32)
    (r : Fin 32) (l : Fin 2048) :
    ROWS (REF a0 a1 a2 a3) (ix3 0 r l) = a2 (ix3 r 0 l) + a3 (ix2 r ⟨4096 + l.val, by omega⟩) * ∑ k : Fin 2048, a0 (ix3 r 0 k) * a1 (ix2 k l) := by
  pointwise [REF]
theorem tile_at (w : FVec Ideal S1x2048x512 .f32) (k : Fin 2048) (l : Fin 512) : k0_pay2 (F := Ideal) w (ix3 0 k l) = w (ix3 0 k l) := by
  pointwise [k0_pay2, k0_pay1]
theorem tiles_at (a1 : FVec Ideal Cert.SOutRefIdeal.S2048x2048 .f32) (j : Fin 4) (k : Fin 2048) (l : Fin 512) :
    TILES a1 (ix3 j k l) = a1 (ix2 k ⟨j.val * 512 + l.val, by omega⟩) := by
  pointwise [TILES]

theorem point_rows (c : Dev nD) (t : Fin cfg0.N) (y) :
    k0_pay3 (iblk m c 1 t) (iblk m c 0 t) (iblk m c 2 t) (iblk m c 3 t) y
      = ROWS (REF (m ((c : Thread nD τ).loc main_arg0)) (m ((c : Thread nD τ).loc main_arg1)) (m ((c : Thread nD τ).loc main_arg2)) (m ((c : Thread nD τ).loc main_arg3))) (((cfg0.win 4).blk t).view.emb y) := by
  obtain ⟨p, r, l, rfl⟩ := Cert.SampleRows.ix3_eta y
  have ht : t.val < 4 := t.isLt
  have h : t.val * 512 + l.val < 2048 := by omega
  obtain rfl : p = 0 := Subsingleton.elim _ _
  have e : ((cfg0.win 4).blk t).view.emb (ix3 0 r l) = ix3 0 r ⟨t.val * 512 + l.val, h⟩ := by blk_ext [idx_val t]
  refine (rows_at _ _ _ _ r l).trans (Eq.trans ?_ ((congrArg _ e).trans (ref_at _ _ _ _ r _)).symm)
  rw [res_blk m c t r l h, mod_blk m c t r l (by omega)]
  simp only [act_blk, weight_blk m c t _ l h]

theorem point_tiles (c : Dev nD) (t : Fin cfg0.N) (y) :
    k0_pay2 (iblk m c 1 t) y = TILES (m ((c : Thread nD τ).loc main_arg1)) (((cfg0.win 5).blk t).view.emb y) := by
  obtain ⟨p, k, l, rfl⟩ := Cert.SampleRows.ix3_eta y
  have ht : t.val < 4 := t.isLt
  have h : t.val * 512 + l.val < 2048 := by omega
  obtain rfl : p = 0 := Subsingleton.elim _ _
  have e : ((cfg0.win 5).blk t).view.emb (ix3 0 k l) = ix3 ⟨t.val, ht⟩ k l := by blk_ext [idx_val t]
  exact (tile_at _ k l).trans ((weight_blk m c t k l h).trans ((congrArg _ e).trans (tiles_at _ ⟨t.val, ht⟩ k l)).symm)

theorem final_rows (c : Dev nD) : (dats m 0 c).arrAt 4 (cfgs 0).N = ROWS (REF (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp; rw [after0_4]; frame_out
  exact point_rows m c t y

theorem final_tiles (c : Dev nD) : (dats m 0 c).arrAt 5 (cfgs 0).N = TILES (m ((c : Thread nD τ).loc main_arg1)) := by
  refine (dats m 0 c).arrAt_eq_of_covers 5 _ (by decide +kernel) fun t hf y => ?_
  blk_simp; rw [after0_5]; frame_out
  exact point_tiles m c t y

/-- The rows cut back into samples, after the region. -/
theorem rows_end (c : Dev nD) : Pipeline.afterTail₀ cfgs (dats m) 0 (V0 m) [hostOps1] c main_v5
    = REF (m ((c : Thread nD τ).loc main_arg0)) (m ((c : Thread nD τ).loc main_arg1)) (m ((c : Thread nD τ).loc main_arg2)) (m ((c : Thread nD τ).loc main_arg3)) := by
  have e := Pipeline.withArrays_arr (cfgs 0).spec launch0.win.arr_inj c (V0 m c) (fun w => (dats m 0 c).arrAt w (cfgs 0).N) 4
  refine (congrArg (fun f => shapeCast S32x1x2048 f shapeCasts_S1x32x2048_S32x1x2048) (e.trans (final_rows m c))).trans ?_
  funext y
  pointwise []

end Cert.SOutIdeal.Value

end
-- ==== Proof.SOutClaims.lean ====
/- The claims about the programs `SOut`, `SOutIdeal` and `SOutRefIdeal`. -/
module

public import proofs.«01_k».proof.Defs
public import proofs.«01_k».proof.Proof.Gen.SOut.Frame
public import proofs.«01_k».proof.Proof.Gen.SOutIdeal.Frame
public import proofs.«01_k».proof.Proof.Gen.SOutRefIdeal.Run
public import proofs.«01_k».proof.Proof.SOutValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.SOutClaims

theorem frame_p : Cert.quiescent_SOut := fun m ρ _ => Cert.SOut.Gen.frame m ρ
theorem frame_pi : Cert.quiescent_SOutIdeal := fun m ρ _ => Cert.SOutIdeal.Gen.frame m ρ
theorem frame_ri : Cert.quiescent_SOutRefIdeal := fun m ρ _ =>
  (θ_run Cert.SOutRefIdeal.defs _ _).mono (fun r h => ⟨fun c => (h c).2.2, sem_eq_zero_of_no_sems (by decide) r.2⟩)
    (Cert.SOutRefIdeal.Value.run (F := Ideal) m ρ)

theorem preserves : Cert.preserves_SOut_SOutIdeal := trivial

/-- Each of the kernel's results and the reference's are one term of the arguments. -/
theorem algebraic : Cert.algebraic_SOutIdeal_SOutRefIdeal := by
  pair_intro
  · run_from Cert.SOutIdeal.Gen.run_main m g
    · exact Cert.SOutIdeal.Gen.W_main_arg0 m _ c
    · exact Cert.SOutIdeal.Gen.W_main_arg1 m _ c
    · exact Cert.SOutIdeal.Gen.W_main_arg2 m _ c
    · exact Cert.SOutIdeal.Gen.W_main_arg3 m _ c
  · run_from Cert.SOutRefIdeal.Value.run m' g'
    · exact (Cert.SOutIdeal.Value.rows_end m c).symm
    · exact (Cert.SOutIdeal.Value.final_tiles m c).symm

end Cert.Proof.SOutClaims

end
-- ==== Proof.AdaValue.lean ====
/- The value of `Cert.AdaIdeal`'s result arrays: the reference's terms over the arguments. -/
module

public import proofs.«01_k».proof.Proof.Gen.AdaIdeal.Frame
public import proofs.«01_k».proof.Proof.Gen.AdaRefIdeal
public import proofs.«01_k».proof.Proof.SampleRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdaIdeal.Value

open Cert.AdaIdeal Cert.AdaIdeal.Gen

variable (m : (ℓ : Loc nD τ sig) → Buf (Elt Ideal) ℓ)

/-- An entry times its sigmoid. -/
def swish (x : EReal) : EReal := Ideal.div x (1 + Ideal.exp (-x))

theorem exp_nonneg (x : EReal) : 0 ≤ Ideal.exp x := by
  induction x with
  | bot => exact le_refl _
  | top => exact le_top
  | coe r => exact EReal.coe_nonneg.mpr (Real.exp_pos r).le

theorem swish_eq (x : EReal) : x * Ideal.div 1 (1 + Ideal.exp (-x)) = swish x := by
  have h : (1 + Ideal.exp (-x) : EReal) ≠ 0 :=
    ((lt_of_lt_of_le zero_lt_one (le_add_of_nonneg_right (exp_nonneg (-x)))) : (0 : EReal) < 1 + Ideal.exp (-x)).ne'
  unfold swish Ideal.div
  rw [if_neg h, if_neg h, one_mul]

/-- The modulation of a table of conditions: every layer's product with its weight, and its offset. -/
def ALL (a : FVec Ideal S40x2048 .f32) (w : FVec Ideal S4x2048x12288 .f32) (b : FVec Ideal S4x12288 .f32) : FVec Ideal S4x40x12288 .f32 :=
  fun y => (∑ k : Fin 2048, swish (a (ix2 (y 1) k)) * w (ix3 (y 0) k (y 2))) + b (ix2 (y 0) (y 2))

theorem idx_val : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The conditions of the prompt's rows, of the samples, and rows of zeros. -/
abbrev TABLE (a0 : FVec Ideal S4x2048 .f32) (a1 : FVec Ideal S32x2048 .f32) : FVec Ideal S40x2048 .f32 :=
  concatenate S40x2048 0 [⟨S4x2048, a0⟩, ⟨S32x2048, a1⟩, ⟨S4x2048, broadcastInDim S4x2048 ![] bcast_S_S4x2048 (constant S_ .f32 0x00000000#32)⟩] concatenates_S4x2048_S32x2048_S4x2048_S40x2048_d0

theorem V_v1 (c : Dev nD) : V m c main_v1 = TABLE (m ((c : Thread nD τ).loc main_arg0)) (m ((c : Thread nD τ).loc main_arg1)) := by
  rfl
theorem V_v2 (c : Dev nD) : V m c main_v2 = shapeCast S4x1x12288 (m ((c : Thread nD τ).loc main_arg3)) shapeCasts_S4x12288_S4x1x12288 := by
  rfl

theorem off_at (b : FVec Ideal S4x12288 .f32) (l : Fin 4) (n : Fin 12288) :
    shapeCast S4x1x12288 b shapeCasts_S4x12288_S4x1x12288 (ix3 l 0 n) = b (ix2 l n) := by pointwise

theorem table_blk (c : Dev nD) (t : Fin cfg0.N) (r : Fin 40) (k : Fin 2048) :
    iblk m c 0 t (ix2 r k) = TABLE (m ((c : Thread nD τ).loc main_arg0)) (m ((c : Thread nD τ).loc main_arg1)) (ix2 r k) := by
  refine Eq.trans (b := V m c main_v1 (ix2 r k)) ?_ (congrFun (V_v1 m c) _)
  blk_ext [iblk, idx_val t]
theorem weight_blk (c : Dev nD) (t : Fin cfg0.N) (k : Fin 2048) (n : Fin 1024) (hl : t.val / 12 < 4) (hn : t.val % 12 * 1024 + n.val < 12288) :
    iblk m c 1 t (ix3 0 k n) = m ((c : Thread nD τ).loc main_arg2) (ix3 ⟨t.val / 12, hl⟩ k ⟨t.val % 12 * 1024 + n.val, hn⟩) := by
  refine Eq.trans (b := V m c main_arg2 (ix3 ⟨t.val / 12, hl⟩ k ⟨t.val % 12 * 1024 + n.val, hn⟩)) ?_ (congrFun (V_main_arg2 m c) _)
  blk_ext [iblk, idx_val t]
theorem off_blk (c : Dev nD) (t : Fin cfg0.N) (n : Fin 1024) (hl : t.val / 12 < 4) (hn : t.val % 12 * 1024 + n.val < 12288) :
    iblk m c 2 t (ix3 0 0 n) = m ((c : Thread nD τ).loc main_arg3) (ix2 ⟨t.val / 12, hl⟩ ⟨t.val % 12 * 1024 + n.val, hn⟩) := by
  refine Eq.trans (b := V m c main_v2 (ix3 ⟨t.val / 12, hl⟩ 0 ⟨t.val % 12 * 1024 + n.val, hn⟩)) ?_ ((congrFun (V_v2 m c) _).trans (off_at _ _ _))
  blk_ext [iblk, idx_val t]

/-- What the body stores of a block, at one entry. -/
theorem pay_at (a : FVec Ideal S40x2048 .f32) (w : FVec Ideal S1x2048x1024 .f32) (b : FVec Ideal S1x1x1024 .f32) (r : Fin 40) (n : Fin 1024) :
    k0_pay1 (F := Ideal) a w b (ix3 0 r n) = (∑ k : Fin 2048, swish (a (ix2 r k)) * w (ix3 0 k n)) + b (ix3 0 0 n) := by
  pointwise [k0_pay1, swish]
  simp only [zero_sub]

theorem point (c : Dev nD) (t : Fin cfg0.N) (y) :
    k0_pay1 (iblk m c 0 t) (iblk m c 1 t) (iblk m c 2 t) y
      = ALL (TABLE (m ((c : Thread nD τ).loc main_arg0)) (m ((c : Thread nD τ).loc main_arg1))) (m ((c : Thread nD τ).loc main_arg2)) (m ((c : Thread nD τ).loc main_arg3)) (((cfg0.win 3).blk t).view.emb y) := by
  obtain ⟨p, r, n, rfl⟩ := Cert.SampleRows.ix3_eta y
  have ht : t.val < 48 := t.isLt
  have hl : t.val / 12 < 4 := by omega
  have hn : t.val % 12 * 1024 + n.val < 12288 := by omega
  obtain rfl : p = 0 := Subsingleton.elim _ _
  have e : ((cfg0.win 3).blk t).view.emb (ix3 0 r n) = ix3 ⟨t.val / 12, hl⟩ r ⟨t.val % 12 * 1024 + n.val, hn⟩ := by blk_ext [idx_val t]
  refine (pay_at _ _ _ r n).trans (Eq.trans ?_ (congrArg _ e).symm)
  rw [off_blk m c t n hl hn]
  simp only [table_blk, weight_blk m c t _ n hl hn]
  rfl

theorem final (c : Dev nD) : (dats m 0 c).arrAt 3 (cfgs 0).N
    = ALL (TABLE (m ((c : Thread nD τ).loc main_arg0)) (m ((c : Thread nD τ).loc main_arg1))) (m ((c : Thread nD τ).loc main_arg2)) (m ((c : Thread nD τ).loc main_arg3)) := by
  refine (dats m 0 c).arrAt_eq_of_covers 3 _ (by decide +kernel) fun t hf y => ?_
  blk_simp; rw [after0_3]; frame_out
  exact point m c t y

/-- The reference's modulation of the prompt's rows. -/
abbrev REFP (a0 : FVec Ideal Cert.AdaRefIdeal.S4x2048 .f32) (a2 : FVec Ideal Cert.AdaRefIdeal.S4x2048x12288 .f32) (a3 : FVec Ideal Cert.AdaRefIdeal.S4x12288 .f32) : FVec Ideal Cert.AdaRefIdeal.S4x4x12288 .f32 :=
  addf (transpose Cert.AdaRefIdeal.S4x4x12288 [0, 2, 1] (Host.dotGeneral Cert.AdaRefIdeal.dot_S4x2048x12288_S4x2048_S4x12288x4_1_1_02_0_n_n none a2 (mulf a0 (Host.divf (broadcastInDim Cert.AdaRefIdeal.S4x2048 ![] Cert.AdaRefIdeal.Gen.bcast_S_S4x2048 (constant Cert.AdaRefIdeal.S_ .f32 0x3F800000#32)) (addf (broadcastInDim Cert.AdaRefIdeal.S4x2048 ![] Cert.AdaRefIdeal.Gen.bcast_S_S4x2048 (constant Cert.AdaRefIdeal.S_ .f32 0x3F800000#32)) (Host.exp (Host.negf a0)))))) Cert.AdaRefIdeal.Gen.transposes_S4x12288x4_S4x4x12288_0_2_1) (broadcastInDim Cert.AdaRefIdeal.S4x4x12288 ![0, 1, 2] Cert.AdaRefIdeal.Gen.bcast_S4x1x12288_S4x4x12288_0_1_2 (broadcastInDim Cert.AdaRefIdeal.S4x1x12288 ![0, 2] Cert.AdaRefIdeal.Gen.bcast_S4x12288_S4x1x12288_0_2 a3))

/-- The reference's modulation of the samples. -/
abbrev REFS (a1 : FVec Ideal Cert.AdaRefIdeal.S32x2048 .f32) (a2 : FVec Ideal Cert.AdaRefIdeal.S4x2048x12288 .f32) (a3 : FVec Ideal Cert.AdaRefIdeal.S4x12288 .f32) : FVec Ideal Cert.AdaRefIdeal.S4x32x12288 .f32 :=
  addf (transpose Cert.AdaRefIdeal.S4x32x12288 [0, 2, 1] (Host.dotGeneral Cert.AdaRefIdeal.dot_S4x2048x12288_S32x2048_S4x12288x32_1_1_02_0_n_n none a2 (mulf a1 (Host.divf (broadcastInDim Cert.AdaRefIdeal.S32x2048 ![] Cert.AdaRefIdeal.Gen.bcast_S_S32x2048 (constant Cert.AdaRefIdeal.S_ .f32 0x3F800000#32)) (addf (broadcastInDim Cert.AdaRefIdeal.S32x2048 ![] Cert.AdaRefIdeal.Gen.bcast_S_S32x2048 (constant Cert.AdaRefIdeal.S_ .f32 0x3F800000#32)) (Host.exp (Host.negf a1)))))) Cert.AdaRefIdeal.Gen.transposes_S4x12288x32_S4x32x12288_0_2_1) (broadcastInDim Cert.AdaRefIdeal.S4x32x12288 ![0, 1, 2] Cert.AdaRefIdeal.Gen.bcast_S4x1x12288_S4x32x12288_0_1_2 (broadcastInDim Cert.AdaRefIdeal.S4x1x12288 ![0, 2] Cert.AdaRefIdeal.Gen.bcast_S4x12288_S4x1x12288_0_2 a3))

theorem refp_at (a0 : FVec Ideal Cert.AdaRefIdeal.S4x2048 .f32) (a2 : FVec Ideal Cert.AdaRefIdeal.S4x2048x12288 .f32) (a3 : FVec Ideal Cert.AdaRefIdeal.S4x12288 .f32) (l r : Fin 4) (n : Fin 12288) :
    REFP a0 a2 a3 (ix3 l r n) = (∑ k : Fin 2048, a2 (ix3 l k n) * (a0 (ix2 r k) * Ideal.div 1 (1 + Ideal.exp (-a0 (ix2 r k))))) + a3 (ix2 l n) := by
  pointwise [REFP]
theorem refs_at (a1 : FVec Ideal Cert.AdaRefIdeal.S32x2048 .f32) (a2 : FVec Ideal Cert.AdaRefIdeal.S4x2048x12288 .f32) (a3 : FVec Ideal Cert.AdaRefIdeal.S4x12288 .f32) (l : Fin 4) (r : Fin 32) (n : Fin 12288) :
    REFS a1 a2 a3 (ix3 l r n) = (∑ k : Fin 2048, a2 (ix3 l k n) * (a1 (ix2 r k) * Ideal.div 1 (1 + Ideal.exp (-a1 (ix2 r k))))) + a3 (ix2 l n) := by
  pointwise [REFS]

theorem tablep_at (a0 : FVec Ideal S4x2048 .f32) (a1 : FVec Ideal S32x2048 .f32) (r : Fin 4) (k : Fin 2048) : TABLE a0 a1 (ix2 ⟨r.val, by omega⟩ k) = a0 (ix2 r k) := by
  pointwise [TABLE]
theorem tables_at (a0 : FVec Ideal S4x2048 .f32) (a1 : FVec Ideal S32x2048 .f32) (r : Fin 32) (k : Fin 2048) : TABLE a0 a1 (ix2 ⟨4 + r.val, by omega⟩ k) = a1 (ix2 r k) := by
  pointwise [TABLE]

theorem rowsp_at (v : FVec Ideal S4x40x12288 .f32) (l r : Fin 4) (n : Fin 12288) :
    extractStridedSlice S4x4x12288 ![0, 0, 0] v slices_S4x40x12288_S4x4x12288_0_0_0 (ix3 l r n) = v (ix3 l ⟨r.val, by omega⟩ n) := by pointwise
theorem rowss_at (v : FVec Ideal S4x40x12288 .f32) (l : Fin 4) (r : Fin 32) (n : Fin 12288) :
    extractStridedSlice S4x32x12288 ![0, 4, 0] v slices_S4x40x12288_S4x32x12288_0_4_0 (ix3 l r n) = v (ix3 l ⟨4 + r.val, by omega⟩ n) := by pointwise

/-- The prompt's rows of the table of modulations. -/
theorem prompt_end (c : Dev nD) : Pipeline.afterTail₀ cfgs (dats m) 0 (V0 m) [hostOps1] c main_v4
    = REFP (m ((c : Thread nD τ).loc main_arg0)) (m ((c : Thread nD τ).loc main_arg2)) (m ((c : Thread nD τ).loc main_arg3)) := by
  have e := Pipeline.withArrays_arr (cfgs 0).spec launch0.win.arr_inj c (V0 m c) (fun w => (dats m 0 c).arrAt w (cfgs 0).N) 3
  refine (congrArg (fun f => extractStridedSlice S4x4x12288 ![0, 0, 0] f slices_S4x40x12288_S4x4x12288_0_0_0) (e.trans (final m c))).trans ?_
  funext y
  obtain ⟨l, r, n, rfl⟩ := Cert.SampleRows.ix3_eta y
  refine (rowsp_at _ l r n).trans (Eq.trans ?_ (refp_at _ _ _ l r n).symm)
  refine congrArg (· + _) (Finset.sum_congr rfl fun k _ => ?_)
  rw [swish_eq, mul_comm]
  exact congrArg (fun x => _ * swish x) (tablep_at _ _ r k)

/-- The samples' rows of the table of modulations. -/
theorem samples_end (c : Dev nD) : Pipeline.afterTail₀ cfgs (dats m) 0 (V0 m) [hostOps1] c main_v5
    = REFS (m ((c : Thread nD τ).loc main_arg1)) (m ((c : Thread nD τ).loc main_arg2)) (m ((c : Thread nD τ).loc main_arg3)) := by
  have e := Pipeline.withArrays_arr (cfgs 0).spec launch0.win.arr_inj c (V0 m c) (fun w => (dats m 0 c).arrAt w (cfgs 0).N) 3
  refine (congrArg (fun f => extractStridedSlice S4x32x12288 ![0, 4, 0] f slices_S4x40x12288_S4x32x12288_0_4_0) (e.trans (final m c))).trans ?_
  funext y
  obtain ⟨l, r, n, rfl⟩ := Cert.SampleRows.ix3_eta y
  refine (rowss_at _ l r n).trans (Eq.trans ?_ (refs_at _ _ _ l r n).symm)
  refine congrArg (· + _) (Finset.sum_congr rfl fun k _ => ?_)
  rw [swish_eq, mul_comm]
  exact congrArg (fun x => _ * swish x) (tables_at _ _ r k)

end Cert.AdaIdeal.Value

end
-- ==== Proof.AdaClaims.lean ====
/- The claims about the programs `Ada`, `AdaIdeal` and `AdaRefIdeal`. -/
module

public import proofs.«01_k».proof.Defs
public import proofs.«01_k».proof.Proof.Gen.Ada.Frame
public import proofs.«01_k».proof.Proof.Gen.AdaIdeal.Frame
public import proofs.«01_k».proof.Proof.Gen.AdaRefIdeal.Run
public import proofs.«01_k».proof.Proof.AdaValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AdaClaims

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_AdaRefIdeal := fun m ρ _ =>
  (θ_run Cert.AdaRefIdeal.defs _ _).mono (fun r h => ⟨fun c => (h c).2.2, sem_eq_zero_of_no_sems (by decide) r.2⟩)
    (Cert.AdaRefIdeal.Value.run (F := Ideal) m ρ)

theorem preserves : Cert.preserves_Ada_AdaIdeal := trivial

/-- Each of the kernel's results and the reference's are one term of the arguments. -/
theorem algebraic : Cert.algebraic_AdaIdeal_AdaRefIdeal := by
  pair_intro
  · run_from Cert.AdaIdeal.Gen.run_main m g
    · exact Cert.AdaIdeal.Gen.W_main_arg0 m _ c
    · exact Cert.AdaIdeal.Gen.W_main_arg1 m _ c
    · exact Cert.AdaIdeal.Gen.W_main_arg3 m _ c
  · run_from Cert.AdaRefIdeal.Value.run m' g'
    · exact (Cert.AdaIdeal.Value.prompt_end m c).symm
    · exact (Cert.AdaIdeal.Value.samples_end m c).symm

end Cert.Proof.AdaClaims

end
-- ==== Proof.lean ====
module

public import proofs.«01_k».proof.Defs
public import proofs.«01_k».proof.Proof.AttnClaims
public import proofs.«01_k».proof.Proof.OutClaims
public import proofs.«01_k».proof.Proof.DownClaims
public import proofs.«01_k».proof.Proof.GateUpClaims
public import proofs.«01_k».proof.Proof.SDownClaims
public import proofs.«01_k».proof.Proof.MixClaims
public import proofs.«01_k».proof.Proof.SOutClaims
public import proofs.«01_k».proof.Proof.AdaClaims

@[expose] public section

noncomputable section

namespace Cert.Proof

theorem claim : Cert.Claim := by
  refine ⟨Cert.Attn.Gen.facts, Cert.AttnIdeal.Gen.facts, Cert.AttnRefIdeal.Gen.facts,
    Cert.Out.Gen.facts, Cert.OutIdeal.Gen.facts, Cert.OutRefIdeal.Gen.facts,
    Cert.Down.Gen.facts, Cert.DownIdeal.Gen.facts, Cert.DownRefIdeal.Gen.facts,
    Cert.GateUp.Gen.facts, Cert.GateUpIdeal.Gen.facts, Cert.GateUpRefIdeal.Gen.facts,
    Cert.SDown.Gen.facts, Cert.SDownIdeal.Gen.facts, Cert.SDownRefIdeal.Gen.facts,
    Cert.Mix.Gen.facts, Cert.MixIdeal.Gen.facts, Cert.MixRefIdeal.Gen.facts,
    Cert.SOut.Gen.facts, Cert.SOutIdeal.Gen.facts, Cert.SOutRefIdeal.Gen.facts,
    Cert.Ada.Gen.facts, Cert.AdaIdeal.Gen.facts, Cert.AdaRefIdeal.Gen.facts,
    Cert.Pre_finite_gains_and_sinks.Gen.facts, Cert.Pre_forget_gates.Gen.facts,
    AttnClaims.frame_p, AttnClaims.frame_pi, AttnClaims.frame_pi_pre, AttnClaims.frame_ri, AttnClaims.frame_ri_pre,
    OutClaims.frame_p, OutClaims.frame_pi, OutClaims.frame_ri,
    DownClaims.frame_p, DownClaims.frame_pi, DownClaims.frame_ri,
    GateUpClaims.frame_p, GateUpClaims.frame_pi, GateUpClaims.frame_ri,
    SDownClaims.frame_p, SDownClaims.frame_pi, SDownClaims.frame_ri,
    MixClaims.frame_p, MixClaims.frame_pi, MixClaims.frame_pi_pre, MixClaims.frame_ri, MixClaims.frame_ri_pre,
    SOutClaims.frame_p, SOutClaims.frame_pi, SOutClaims.frame_ri,
    AdaClaims.frame_p, AdaClaims.frame_pi, AdaClaims.frame_ri,
    AttnClaims.preserves, AttnClaims.algebraic, OutClaims.preserves, OutClaims.algebraic, DownClaims.preserves, DownClaims.algebraic,
    GateUpClaims.preserves, GateUpClaims.algebraic,
    SDownClaims.preserves, SDownClaims.algebraic,
    MixClaims.preserves, MixClaims.algebraic,
    SOutClaims.preserves, SOutClaims.algebraic,
    AdaClaims.preserves, AdaClaims.algebraic⟩

end Cert.Proof

end
